-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelGates (m : (ℓ : Loc Cert.KernelGates.nD Cert.KernelGates.τ Cert.KernelGates.sig) → Buf (Elt Bits) ℓ) : Prop :=
  True

def Pre_KernelGatesIdeal (m : (ℓ : Loc Cert.KernelGatesIdeal.nD Cert.KernelGatesIdeal.τ Cert.KernelGatesIdeal.sig) → Buf (Elt Ideal) ℓ) : Prop :=
  True

def Pre_ReferenceGatesIdeal (m : (ℓ : Loc Cert.ReferenceGatesIdeal.nD Cert.ReferenceGatesIdeal.τ Cert.ReferenceGatesIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelGlu (m : (ℓ : Loc Cert.KernelGlu.nD Cert.KernelGlu.τ Cert.KernelGlu.sig) → Buf (Elt Bits) ℓ) : Prop :=
  True

def Pre_KernelGluIdeal (m : (ℓ : Loc Cert.KernelGluIdeal.nD Cert.KernelGluIdeal.τ Cert.KernelGluIdeal.sig) → Buf (Elt Ideal) ℓ) : Prop :=
  True

def Pre_ReferenceGluIdeal (m : (ℓ : Loc Cert.ReferenceGluIdeal.nD Cert.ReferenceGluIdeal.τ Cert.ReferenceGluIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelRoute (m : (ℓ : Loc Cert.KernelRoute.nD Cert.KernelRoute.τ Cert.KernelRoute.sig) → Buf (Elt Bits) ℓ) : Prop :=
  True

def Pre_KernelRouteIdeal (m : (ℓ : Loc Cert.KernelRouteIdeal.nD Cert.KernelRouteIdeal.τ Cert.KernelRouteIdeal.sig) → Buf (Elt Ideal) ℓ) : Prop :=
  True

def Pre_ReferenceRouteIdeal (m : (ℓ : Loc Cert.ReferenceRouteIdeal.nD Cert.ReferenceRouteIdeal.τ Cert.ReferenceRouteIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelDrive (m : (ℓ : Loc Cert.KernelDrive.nD Cert.KernelDrive.τ Cert.KernelDrive.sig) → Buf (Elt Bits) ℓ) : Prop :=
  True

def Pre_KernelDriveIdeal (m : (ℓ : Loc Cert.KernelDriveIdeal.nD Cert.KernelDriveIdeal.τ Cert.KernelDriveIdeal.sig) → Buf (Elt Ideal) ℓ) : Prop :=
  True

def Pre_ReferenceDriveIdeal (m : (ℓ : Loc Cert.ReferenceDriveIdeal.nD Cert.ReferenceDriveIdeal.τ Cert.ReferenceDriveIdeal.sig) → Buf (Elt Ideal) ℓ) : Prop :=
  True

def Pre_KernelRead (m : (ℓ : Loc Cert.KernelRead.nD Cert.KernelRead.τ Cert.KernelRead.sig) → Buf (Elt Bits) ℓ) : Prop :=
  True

def Pre_KernelReadIdeal (m : (ℓ : Loc Cert.KernelReadIdeal.nD Cert.KernelReadIdeal.τ Cert.KernelReadIdeal.sig) → Buf (Elt Ideal) ℓ) : Prop :=
  True

def Pre_ReferenceReadIdeal (m : (ℓ : Loc Cert.ReferenceReadIdeal.nD Cert.ReferenceReadIdeal.τ Cert.ReferenceReadIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelGates [hKernelGates : Cert.KernelGates.Facts] : Prop :=
  ∀ (m : (ℓ : Loc Cert.KernelGates.nD Cert.KernelGates.τ Cert.KernelGates.sig) → Buf (Elt Bits) ℓ) (g : Dev Cert.KernelGates.nD → PrngReg), Pre_KernelGates m →
    θ_run (Cert.KernelGates.defs (F := Bits)) (onTc (τ := Cert.KernelGates.τ) (Cert.KernelGates.main (F := Bits))) ⟨m, fun _ => 0, g⟩ (fun r => (∀ c : Dev Cert.KernelGates.nD,
      r.2.mem ((c.tc : Thread Cert.KernelGates.nD Cert.KernelGates.τ).loc Cert.KernelGates.main_arg0) = m ((c.tc : Thread Cert.KernelGates.nD Cert.KernelGates.τ).loc Cert.KernelGates.main_arg0)
      ∧ r.2.mem ((c.tc : Thread Cert.KernelGates.nD Cert.KernelGates.τ).loc Cert.KernelGates.main_arg1) = m ((c.tc : Thread Cert.KernelGates.nD Cert.KernelGates.τ).loc Cert.KernelGates.main_arg1))
      ∧ r.2.sem = fun _ => 0)

def quiescent_KernelGatesIdeal [hKernelGatesIdeal : Cert.KernelGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg), Pre_KernelGatesIdeal m →
    θ_run (Cert.KernelGatesIdeal.defs (F := Ideal)) (onTc (τ := Cert.KernelGatesIdeal.τ) (Cert.KernelGatesIdeal.main (F := Ideal))) ⟨m, fun _ => 0, g⟩ (fun r => (∀ c : Dev Cert.KernelGatesIdeal.nD,
      r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
      ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ r.2.sem = fun _ => 0)

def quiescent_ReferenceGatesIdeal [hReferenceGatesIdeal : Cert.ReferenceGatesIdeal.Facts] : Prop :=
  ∀ (m : (ℓ : Loc Cert.ReferenceGatesIdeal.nD Cert.ReferenceGatesIdeal.τ Cert.ReferenceGatesIdeal.sig) → Buf (Elt Ideal) ℓ) (g : Dev Cert.ReferenceGatesIdeal.nD → PrngReg), Pre_ReferenceGatesIdeal m →
    θ_run (Cert.ReferenceGatesIdeal.defs (F := Ideal)) (onTc (τ := Cert.ReferenceGatesIdeal.τ) (Cert.ReferenceGatesIdeal.main (F := Ideal))) ⟨m, fun _ => 0, g⟩ (fun r => (∀ c : Dev Cert.ReferenceGatesIdeal.nD,
      r.2.mem ((c.tc : Thread Cert.ReferenceGatesIdeal.nD Cert.ReferenceGatesIdeal.τ).loc Cert.ReferenceGatesIdeal.main_arg0) = m ((c.tc : Thread Cert.ReferenceGatesIdeal.nD Cert.ReferenceGatesIdeal.τ).loc Cert.ReferenceGatesIdeal.main_arg0)
      ∧ r.2.mem ((c.tc : Thread Cert.ReferenceGatesIdeal.nD Cert.ReferenceGatesIdeal.τ).loc Cert.ReferenceGatesIdeal.main_arg1) = m ((c.tc : Thread Cert.ReferenceGatesIdeal.nD Cert.ReferenceGatesIdeal.τ).loc Cert.ReferenceGatesIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelGlu [hKernelGlu : Cert.KernelGlu.Facts] : Prop :=
  ∀ (m : (ℓ : Loc Cert.KernelGlu.nD Cert.KernelGlu.τ Cert.KernelGlu.sig) → Buf (Elt Bits) ℓ) (g : Dev Cert.KernelGlu.nD → PrngReg), Pre_KernelGlu m →
    θ_run (Cert.KernelGlu.defs (F := Bits)) (onTc (τ := Cert.KernelGlu.τ) (Cert.KernelGlu.main (F := Bits))) ⟨m, fun _ => 0, g⟩ (fun r => (∀ c : Dev Cert.KernelGlu.nD,
      r.2.mem ((c.tc : Thread Cert.KernelGlu.nD Cert.KernelGlu.τ).loc Cert.KernelGlu.main_arg0) = m ((c.tc : Thread Cert.KernelGlu.nD Cert.KernelGlu.τ).loc Cert.KernelGlu.main_arg0)
      ∧ r.2.mem ((c.tc : Thread Cert.KernelGlu.nD Cert.KernelGlu.τ).loc Cert.KernelGlu.main_arg1) = m ((c.tc : Thread Cert.KernelGlu.nD Cert.KernelGlu.τ).loc Cert.KernelGlu.main_arg1))
      ∧ r.2.sem = fun _ => 0)

def quiescent_KernelGluIdeal [hKernelGluIdeal : Cert.KernelGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg), Pre_KernelGluIdeal m →
    θ_run (Cert.KernelGluIdeal.defs (F := Ideal)) (onTc (τ := Cert.KernelGluIdeal.τ) (Cert.KernelGluIdeal.main (F := Ideal))) ⟨m, fun _ => 0, g⟩ (fun r => (∀ c : Dev Cert.KernelGluIdeal.nD,
      r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
      ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ r.2.sem = fun _ => 0)

def quiescent_ReferenceGluIdeal [hReferenceGluIdeal : Cert.ReferenceGluIdeal.Facts] : Prop :=
  ∀ (m : (ℓ : Loc Cert.ReferenceGluIdeal.nD Cert.ReferenceGluIdeal.τ Cert.ReferenceGluIdeal.sig) → Buf (Elt Ideal) ℓ) (g : Dev Cert.ReferenceGluIdeal.nD → PrngReg), Pre_ReferenceGluIdeal m →
    θ_run (Cert.ReferenceGluIdeal.defs (F := Ideal)) (onTc (τ := Cert.ReferenceGluIdeal.τ) (Cert.ReferenceGluIdeal.main (F := Ideal))) ⟨m, fun _ => 0, g⟩ (fun r => (∀ c : Dev Cert.ReferenceGluIdeal.nD,
      r.2.mem ((c.tc : Thread Cert.ReferenceGluIdeal.nD Cert.ReferenceGluIdeal.τ).loc Cert.ReferenceGluIdeal.main_arg0) = m ((c.tc : Thread Cert.ReferenceGluIdeal.nD Cert.ReferenceGluIdeal.τ).loc Cert.ReferenceGluIdeal.main_arg0)
      ∧ r.2.mem ((c.tc : Thread Cert.ReferenceGluIdeal.nD Cert.ReferenceGluIdeal.τ).loc Cert.ReferenceGluIdeal.main_arg1) = m ((c.tc : Thread Cert.ReferenceGluIdeal.nD Cert.ReferenceGluIdeal.τ).loc Cert.ReferenceGluIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelRoute [hKernelRoute : Cert.KernelRoute.Facts] : Prop :=
  ∀ (m : (ℓ : Loc Cert.KernelRoute.nD Cert.KernelRoute.τ Cert.KernelRoute.sig) → Buf (Elt Bits) ℓ) (g : Dev Cert.KernelRoute.nD → PrngReg), Pre_KernelRoute m →
    θ_run (Cert.KernelRoute.defs (F := Bits)) (onTc (τ := Cert.KernelRoute.τ) (Cert.KernelRoute.main (F := Bits))) ⟨m, fun _ => 0, g⟩ (fun r => (∀ c : Dev Cert.KernelRoute.nD,
      r.2.mem ((c.tc : Thread Cert.KernelRoute.nD Cert.KernelRoute.τ).loc Cert.KernelRoute.main_arg0) = m ((c.tc : Thread Cert.KernelRoute.nD Cert.KernelRoute.τ).loc Cert.KernelRoute.main_arg0)
      ∧ r.2.mem ((c.tc : Thread Cert.KernelRoute.nD Cert.KernelRoute.τ).loc Cert.KernelRoute.main_arg1) = m ((c.tc : Thread Cert.KernelRoute.nD Cert.KernelRoute.τ).loc Cert.KernelRoute.main_arg1)
      ∧ r.2.mem ((c.tc : Thread Cert.KernelRoute.nD Cert.KernelRoute.τ).loc Cert.KernelRoute.main_arg2) = m ((c.tc : Thread Cert.KernelRoute.nD Cert.KernelRoute.τ).loc Cert.KernelRoute.main_arg2))
      ∧ r.2.sem = fun _ => 0)

def quiescent_KernelRouteIdeal [hKernelRouteIdeal : Cert.KernelRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg), Pre_KernelRouteIdeal m →
    θ_run (Cert.KernelRouteIdeal.defs (F := Ideal)) (onTc (τ := Cert.KernelRouteIdeal.τ) (Cert.KernelRouteIdeal.main (F := Ideal))) ⟨m, fun _ => 0, g⟩ (fun r => (∀ c : Dev Cert.KernelRouteIdeal.nD,
      r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
      ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
      ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2))
      ∧ r.2.sem = fun _ => 0)

def quiescent_ReferenceRouteIdeal [hReferenceRouteIdeal : Cert.ReferenceRouteIdeal.Facts] : Prop :=
  ∀ (m : (ℓ : Loc Cert.ReferenceRouteIdeal.nD Cert.ReferenceRouteIdeal.τ Cert.ReferenceRouteIdeal.sig) → Buf (Elt Ideal) ℓ) (g : Dev Cert.ReferenceRouteIdeal.nD → PrngReg), Pre_ReferenceRouteIdeal m →
    θ_run (Cert.ReferenceRouteIdeal.defs (F := Ideal)) (onTc (τ := Cert.ReferenceRouteIdeal.τ) (Cert.ReferenceRouteIdeal.main (F := Ideal))) ⟨m, fun _ => 0, g⟩ (fun r => (∀ c : Dev Cert.ReferenceRouteIdeal.nD,
      r.2.mem ((c.tc : Thread Cert.ReferenceRouteIdeal.nD Cert.ReferenceRouteIdeal.τ).loc Cert.ReferenceRouteIdeal.main_arg0) = m ((c.tc : Thread Cert.ReferenceRouteIdeal.nD Cert.ReferenceRouteIdeal.τ).loc Cert.ReferenceRouteIdeal.main_arg0)
      ∧ r.2.mem ((c.tc : Thread Cert.ReferenceRouteIdeal.nD Cert.ReferenceRouteIdeal.τ).loc Cert.ReferenceRouteIdeal.main_arg1) = m ((c.tc : Thread Cert.ReferenceRouteIdeal.nD Cert.ReferenceRouteIdeal.τ).loc Cert.ReferenceRouteIdeal.main_arg1)
      ∧ r.2.mem ((c.tc : Thread Cert.ReferenceRouteIdeal.nD Cert.ReferenceRouteIdeal.τ).loc Cert.ReferenceRouteIdeal.main_arg2) = m ((c.tc : Thread Cert.ReferenceRouteIdeal.nD Cert.ReferenceRouteIdeal.τ).loc Cert.ReferenceRouteIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelDrive [hKernelDrive : Cert.KernelDrive.Facts] : Prop :=
  ∀ (m : (ℓ : Loc Cert.KernelDrive.nD Cert.KernelDrive.τ Cert.KernelDrive.sig) → Buf (Elt Bits) ℓ) (g : Dev Cert.KernelDrive.nD → PrngReg), Pre_KernelDrive m →
    θ_run (Cert.KernelDrive.defs (F := Bits)) (onTc (τ := Cert.KernelDrive.τ) (Cert.KernelDrive.main (F := Bits))) ⟨m, fun _ => 0, g⟩ (fun r => (∀ c : Dev Cert.KernelDrive.nD,
      r.2.mem ((c.tc : Thread Cert.KernelDrive.nD Cert.KernelDrive.τ).loc Cert.KernelDrive.main_arg0) = m ((c.tc : Thread Cert.KernelDrive.nD Cert.KernelDrive.τ).loc Cert.KernelDrive.main_arg0)
      ∧ r.2.mem ((c.tc : Thread Cert.KernelDrive.nD Cert.KernelDrive.τ).loc Cert.KernelDrive.main_arg1) = m ((c.tc : Thread Cert.KernelDrive.nD Cert.KernelDrive.τ).loc Cert.KernelDrive.main_arg1)
      ∧ r.2.mem ((c.tc : Thread Cert.KernelDrive.nD Cert.KernelDrive.τ).loc Cert.KernelDrive.main_arg2) = m ((c.tc : Thread Cert.KernelDrive.nD Cert.KernelDrive.τ).loc Cert.KernelDrive.main_arg2))
      ∧ r.2.sem = fun _ => 0)

def quiescent_KernelDriveIdeal [hKernelDriveIdeal : Cert.KernelDriveIdeal.Facts] : Prop :=
  ∀ (m : (ℓ : Loc Cert.KernelDriveIdeal.nD Cert.KernelDriveIdeal.τ Cert.KernelDriveIdeal.sig) → Buf (Elt Ideal) ℓ) (g : Dev Cert.KernelDriveIdeal.nD → PrngReg), Pre_KernelDriveIdeal m →
    θ_run (Cert.KernelDriveIdeal.defs (F := Ideal)) (onTc (τ := Cert.KernelDriveIdeal.τ) (Cert.KernelDriveIdeal.main (F := Ideal))) ⟨m, fun _ => 0, g⟩ (fun r => (∀ c : Dev Cert.KernelDriveIdeal.nD,
      r.2.mem ((c.tc : Thread Cert.KernelDriveIdeal.nD Cert.KernelDriveIdeal.τ).loc Cert.KernelDriveIdeal.main_arg0) = m ((c.tc : Thread Cert.KernelDriveIdeal.nD Cert.KernelDriveIdeal.τ).loc Cert.KernelDriveIdeal.main_arg0)
      ∧ r.2.mem ((c.tc : Thread Cert.KernelDriveIdeal.nD Cert.KernelDriveIdeal.τ).loc Cert.KernelDriveIdeal.main_arg1) = m ((c.tc : Thread Cert.KernelDriveIdeal.nD Cert.KernelDriveIdeal.τ).loc Cert.KernelDriveIdeal.main_arg1)
      ∧ r.2.mem ((c.tc : Thread Cert.KernelDriveIdeal.nD Cert.KernelDriveIdeal.τ).loc Cert.KernelDriveIdeal.main_arg2) = m ((c.tc : Thread Cert.KernelDriveIdeal.nD Cert.KernelDriveIdeal.τ).loc Cert.KernelDriveIdeal.main_arg2))
      ∧ r.2.sem = fun _ => 0)

def quiescent_ReferenceDriveIdeal [hReferenceDriveIdeal : Cert.ReferenceDriveIdeal.Facts] : Prop :=
  ∀ (m : (ℓ : Loc Cert.ReferenceDriveIdeal.nD Cert.ReferenceDriveIdeal.τ Cert.ReferenceDriveIdeal.sig) → Buf (Elt Ideal) ℓ) (g : Dev Cert.ReferenceDriveIdeal.nD → PrngReg), Pre_ReferenceDriveIdeal m →
    θ_run (Cert.ReferenceDriveIdeal.defs (F := Ideal)) (onTc (τ := Cert.ReferenceDriveIdeal.τ) (Cert.ReferenceDriveIdeal.main (F := Ideal))) ⟨m, fun _ => 0, g⟩ (fun r => (∀ c : Dev Cert.ReferenceDriveIdeal.nD,
      r.2.mem ((c.tc : Thread Cert.ReferenceDriveIdeal.nD Cert.ReferenceDriveIdeal.τ).loc Cert.ReferenceDriveIdeal.main_arg0) = m ((c.tc : Thread Cert.ReferenceDriveIdeal.nD Cert.ReferenceDriveIdeal.τ).loc Cert.ReferenceDriveIdeal.main_arg0)
      ∧ r.2.mem ((c.tc : Thread Cert.ReferenceDriveIdeal.nD Cert.ReferenceDriveIdeal.τ).loc Cert.ReferenceDriveIdeal.main_arg1) = m ((c.tc : Thread Cert.ReferenceDriveIdeal.nD Cert.ReferenceDriveIdeal.τ).loc Cert.ReferenceDriveIdeal.main_arg1)
      ∧ r.2.mem ((c.tc : Thread Cert.ReferenceDriveIdeal.nD Cert.ReferenceDriveIdeal.τ).loc Cert.ReferenceDriveIdeal.main_arg2) = m ((c.tc : Thread Cert.ReferenceDriveIdeal.nD Cert.ReferenceDriveIdeal.τ).loc Cert.ReferenceDriveIdeal.main_arg2))
      ∧ r.2.sem = fun _ => 0)

def quiescent_KernelRead [hKernelRead : Cert.KernelRead.Facts] : Prop :=
  ∀ (m : (ℓ : Loc Cert.KernelRead.nD Cert.KernelRead.τ Cert.KernelRead.sig) → Buf (Elt Bits) ℓ) (g : Dev Cert.KernelRead.nD → PrngReg), Pre_KernelRead m →
    θ_run (Cert.KernelRead.defs (F := Bits)) (onTc (τ := Cert.KernelRead.τ) (Cert.KernelRead.main (F := Bits))) ⟨m, fun _ => 0, g⟩ (fun r => (∀ c : Dev Cert.KernelRead.nD,
      r.2.mem ((c.tc : Thread Cert.KernelRead.nD Cert.KernelRead.τ).loc Cert.KernelRead.main_arg0) = m ((c.tc : Thread Cert.KernelRead.nD Cert.KernelRead.τ).loc Cert.KernelRead.main_arg0)
      ∧ r.2.mem ((c.tc : Thread Cert.KernelRead.nD Cert.KernelRead.τ).loc Cert.KernelRead.main_arg1) = m ((c.tc : Thread Cert.KernelRead.nD Cert.KernelRead.τ).loc Cert.KernelRead.main_arg1)
      ∧ r.2.mem ((c.tc : Thread Cert.KernelRead.nD Cert.KernelRead.τ).loc Cert.KernelRead.main_arg2) = m ((c.tc : Thread Cert.KernelRead.nD Cert.KernelRead.τ).loc Cert.KernelRead.main_arg2)
      ∧ r.2.mem ((c.tc : Thread Cert.KernelRead.nD Cert.KernelRead.τ).loc Cert.KernelRead.main_arg3) = m ((c.tc : Thread Cert.KernelRead.nD Cert.KernelRead.τ).loc Cert.KernelRead.main_arg3)
      ∧ r.2.mem ((c.tc : Thread Cert.KernelRead.nD Cert.KernelRead.τ).loc Cert.KernelRead.main_arg4) = m ((c.tc : Thread Cert.KernelRead.nD Cert.KernelRead.τ).loc Cert.KernelRead.main_arg4)
      ∧ r.2.mem ((c.tc : Thread Cert.KernelRead.nD Cert.KernelRead.τ).loc Cert.KernelRead.main_arg5) = m ((c.tc : Thread Cert.KernelRead.nD Cert.KernelRead.τ).loc Cert.KernelRead.main_arg5))
      ∧ r.2.sem = fun _ => 0)

def quiescent_KernelReadIdeal [hKernelReadIdeal : Cert.KernelReadIdeal.Facts] : Prop :=
  ∀ (m : (ℓ : Loc Cert.KernelReadIdeal.nD Cert.KernelReadIdeal.τ Cert.KernelReadIdeal.sig) → Buf (Elt Ideal) ℓ) (g : Dev Cert.KernelReadIdeal.nD → PrngReg), Pre_KernelReadIdeal m →
    θ_run (Cert.KernelReadIdeal.defs (F := Ideal)) (onTc (τ := Cert.KernelReadIdeal.τ) (Cert.KernelReadIdeal.main (F := Ideal))) ⟨m, fun _ => 0, g⟩ (fun r => (∀ c : Dev Cert.KernelReadIdeal.nD,
      r.2.mem ((c.tc : Thread Cert.KernelReadIdeal.nD Cert.KernelReadIdeal.τ).loc Cert.KernelReadIdeal.main_arg0) = m ((c.tc : Thread Cert.KernelReadIdeal.nD Cert.KernelReadIdeal.τ).loc Cert.KernelReadIdeal.main_arg0)
      ∧ r.2.mem ((c.tc : Thread Cert.KernelReadIdeal.nD Cert.KernelReadIdeal.τ).loc Cert.KernelReadIdeal.main_arg1) = m ((c.tc : Thread Cert.KernelReadIdeal.nD Cert.KernelReadIdeal.τ).loc Cert.KernelReadIdeal.main_arg1)
      ∧ r.2.mem ((c.tc : Thread Cert.KernelReadIdeal.nD Cert.KernelReadIdeal.τ).loc Cert.KernelReadIdeal.main_arg2) = m ((c.tc : Thread Cert.KernelReadIdeal.nD Cert.KernelReadIdeal.τ).loc Cert.KernelReadIdeal.main_arg2)
      ∧ r.2.mem ((c.tc : Thread Cert.KernelReadIdeal.nD Cert.KernelReadIdeal.τ).loc Cert.KernelReadIdeal.main_arg3) = m ((c.tc : Thread Cert.KernelReadIdeal.nD Cert.KernelReadIdeal.τ).loc Cert.KernelReadIdeal.main_arg3)
      ∧ r.2.mem ((c.tc : Thread Cert.KernelReadIdeal.nD Cert.KernelReadIdeal.τ).loc Cert.KernelReadIdeal.main_arg4) = m ((c.tc : Thread Cert.KernelReadIdeal.nD Cert.KernelReadIdeal.τ).loc Cert.KernelReadIdeal.main_arg4)
      ∧ r.2.mem ((c.tc : Thread Cert.KernelReadIdeal.nD Cert.KernelReadIdeal.τ).loc Cert.KernelReadIdeal.main_arg5) = m ((c.tc : Thread Cert.KernelReadIdeal.nD Cert.KernelReadIdeal.τ).loc Cert.KernelReadIdeal.main_arg5))
      ∧ r.2.sem = fun _ => 0)

def quiescent_ReferenceReadIdeal [hReferenceReadIdeal : Cert.ReferenceReadIdeal.Facts] : Prop :=
  ∀ (m : (ℓ : Loc Cert.ReferenceReadIdeal.nD Cert.ReferenceReadIdeal.τ Cert.ReferenceReadIdeal.sig) → Buf (Elt Ideal) ℓ) (g : Dev Cert.ReferenceReadIdeal.nD → PrngReg), Pre_ReferenceReadIdeal m →
    θ_run (Cert.ReferenceReadIdeal.defs (F := Ideal)) (onTc (τ := Cert.ReferenceReadIdeal.τ) (Cert.ReferenceReadIdeal.main (F := Ideal))) ⟨m, fun _ => 0, g⟩ (fun r => (∀ c : Dev Cert.ReferenceReadIdeal.nD,
      r.2.mem ((c.tc : Thread Cert.ReferenceReadIdeal.nD Cert.ReferenceReadIdeal.τ).loc Cert.ReferenceReadIdeal.main_arg0) = m ((c.tc : Thread Cert.ReferenceReadIdeal.nD Cert.ReferenceReadIdeal.τ).loc Cert.ReferenceReadIdeal.main_arg0)
      ∧ r.2.mem ((c.tc : Thread Cert.ReferenceReadIdeal.nD Cert.ReferenceReadIdeal.τ).loc Cert.ReferenceReadIdeal.main_arg1) = m ((c.tc : Thread Cert.ReferenceReadIdeal.nD Cert.ReferenceReadIdeal.τ).loc Cert.ReferenceReadIdeal.main_arg1)
      ∧ r.2.mem ((c.tc : Thread Cert.ReferenceReadIdeal.nD Cert.ReferenceReadIdeal.τ).loc Cert.ReferenceReadIdeal.main_arg2) = m ((c.tc : Thread Cert.ReferenceReadIdeal.nD Cert.ReferenceReadIdeal.τ).loc Cert.ReferenceReadIdeal.main_arg2)
      ∧ r.2.mem ((c.tc : Thread Cert.ReferenceReadIdeal.nD Cert.ReferenceReadIdeal.τ).loc Cert.ReferenceReadIdeal.main_arg3) = m ((c.tc : Thread Cert.ReferenceReadIdeal.nD Cert.ReferenceReadIdeal.τ).loc Cert.ReferenceReadIdeal.main_arg3)
      ∧ r.2.mem ((c.tc : Thread Cert.ReferenceReadIdeal.nD Cert.ReferenceReadIdeal.τ).loc Cert.ReferenceReadIdeal.main_arg4) = m ((c.tc : Thread Cert.ReferenceReadIdeal.nD Cert.ReferenceReadIdeal.τ).loc Cert.ReferenceReadIdeal.main_arg4)
      ∧ r.2.mem ((c.tc : Thread Cert.ReferenceReadIdeal.nD Cert.ReferenceReadIdeal.τ).loc Cert.ReferenceReadIdeal.main_arg5) = m ((c.tc : Thread Cert.ReferenceReadIdeal.nD Cert.ReferenceReadIdeal.τ).loc Cert.ReferenceReadIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v2) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v1) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelGates_KernelGatesIdeal : Prop :=
  True

def algebraic_KernelGatesIdeal_ReferenceGatesIdeal [hKernelGatesIdeal : Cert.KernelGatesIdeal.Facts] [hReferenceGatesIdeal : Cert.ReferenceGatesIdeal.Facts] : Prop :=
  ∀ (m : (ℓ : Loc Cert.KernelGatesIdeal.nD Cert.KernelGatesIdeal.τ Cert.KernelGatesIdeal.sig) → Buf (Elt Ideal) ℓ) (g : Dev Cert.KernelGatesIdeal.nD → PrngReg)
    (m' : (ℓ : Loc Cert.ReferenceGatesIdeal.nD Cert.ReferenceGatesIdeal.τ Cert.ReferenceGatesIdeal.sig) → Buf (Elt Ideal) ℓ) (g' : Dev Cert.ReferenceGatesIdeal.nD → PrngReg), Pre_KernelGatesIdeal m →
    (∀ c : Dev Cert.KernelGatesIdeal.nD,
      m' ((c.tc : Thread Cert.ReferenceGatesIdeal.nD Cert.ReferenceGatesIdeal.τ).loc Cert.ReferenceGatesIdeal.main_arg0) = m ((c.tc : Thread Cert.KernelGatesIdeal.nD Cert.KernelGatesIdeal.τ).loc Cert.KernelGatesIdeal.main_arg0)
      ∧ m' ((c.tc : Thread Cert.ReferenceGatesIdeal.nD Cert.ReferenceGatesIdeal.τ).loc Cert.ReferenceGatesIdeal.main_arg1) = m ((c.tc : Thread Cert.KernelGatesIdeal.nD Cert.KernelGatesIdeal.τ).loc Cert.KernelGatesIdeal.main_arg1)) →
    ∃ (v0 : (c : Dev Cert.KernelGatesIdeal.nD) → Buf (Elt Ideal) ((c.tc : Thread Cert.KernelGatesIdeal.nD Cert.KernelGatesIdeal.τ).loc Cert.KernelGatesIdeal.main_v3)),
      θ_run (Cert.KernelGatesIdeal.defs (F := Ideal)) (onTc (τ := Cert.KernelGatesIdeal.τ) (Cert.KernelGatesIdeal.main (F := Ideal))) ⟨m, fun _ => 0, g⟩ (fun r => ∀ c : Dev Cert.KernelGatesIdeal.nD,
          r.2.mem ((c.tc : Thread Cert.KernelGatesIdeal.nD Cert.KernelGatesIdeal.τ).loc Cert.KernelGatesIdeal.main_v3) = v0 c
          ∧ r.2.mem ((c.tc : Thread Cert.KernelGatesIdeal.nD Cert.KernelGatesIdeal.τ).loc Cert.KernelGatesIdeal.main_arg0) = m ((c.tc : Thread Cert.KernelGatesIdeal.nD Cert.KernelGatesIdeal.τ).loc Cert.KernelGatesIdeal.main_arg0)
          ∧ r.2.mem ((c.tc : Thread Cert.KernelGatesIdeal.nD Cert.KernelGatesIdeal.τ).loc Cert.KernelGatesIdeal.main_arg1) = m ((c.tc : Thread Cert.KernelGatesIdeal.nD Cert.KernelGatesIdeal.τ).loc Cert.KernelGatesIdeal.main_arg1))
      ∧ θ_run (Cert.ReferenceGatesIdeal.defs (F := Ideal)) (onTc (τ := Cert.ReferenceGatesIdeal.τ) (Cert.ReferenceGatesIdeal.main (F := Ideal))) ⟨m', fun _ => 0, g'⟩ (fun r => ∀ c : Dev Cert.ReferenceGatesIdeal.nD,
          r.2.mem ((c.tc : Thread Cert.ReferenceGatesIdeal.nD Cert.ReferenceGatesIdeal.τ).loc Cert.ReferenceGatesIdeal.main_v1) = v0 c
          ∧ r.2.mem ((c.tc : Thread Cert.ReferenceGatesIdeal.nD Cert.ReferenceGatesIdeal.τ).loc Cert.ReferenceGatesIdeal.main_arg0) = m' ((c.tc : Thread Cert.ReferenceGatesIdeal.nD Cert.ReferenceGatesIdeal.τ).loc Cert.ReferenceGatesIdeal.main_arg0)
          ∧ r.2.mem ((c.tc : Thread Cert.ReferenceGatesIdeal.nD Cert.ReferenceGatesIdeal.τ).loc Cert.ReferenceGatesIdeal.main_arg1) = m' ((c.tc : Thread Cert.ReferenceGatesIdeal.nD Cert.ReferenceGatesIdeal.τ).loc Cert.ReferenceGatesIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v2)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v2) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v0) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelGlu_KernelGluIdeal : Prop :=
  True

def algebraic_KernelGluIdeal_ReferenceGluIdeal [hKernelGluIdeal : Cert.KernelGluIdeal.Facts] [hReferenceGluIdeal : Cert.ReferenceGluIdeal.Facts] : Prop :=
  ∀ (m : (ℓ : Loc Cert.KernelGluIdeal.nD Cert.KernelGluIdeal.τ Cert.KernelGluIdeal.sig) → Buf (Elt Ideal) ℓ) (g : Dev Cert.KernelGluIdeal.nD → PrngReg)
    (m' : (ℓ : Loc Cert.ReferenceGluIdeal.nD Cert.ReferenceGluIdeal.τ Cert.ReferenceGluIdeal.sig) → Buf (Elt Ideal) ℓ) (g' : Dev Cert.ReferenceGluIdeal.nD → PrngReg), Pre_KernelGluIdeal m →
    (∀ c : Dev Cert.KernelGluIdeal.nD,
      m' ((c.tc : Thread Cert.ReferenceGluIdeal.nD Cert.ReferenceGluIdeal.τ).loc Cert.ReferenceGluIdeal.main_arg0) = m ((c.tc : Thread Cert.KernelGluIdeal.nD Cert.KernelGluIdeal.τ).loc Cert.KernelGluIdeal.main_arg0)
      ∧ m' ((c.tc : Thread Cert.ReferenceGluIdeal.nD Cert.ReferenceGluIdeal.τ).loc Cert.ReferenceGluIdeal.main_arg1) = m ((c.tc : Thread Cert.KernelGluIdeal.nD Cert.KernelGluIdeal.τ).loc Cert.KernelGluIdeal.main_arg1)) →
    ∃ (v0 : (c : Dev Cert.KernelGluIdeal.nD) → Buf (Elt Ideal) ((c.tc : Thread Cert.KernelGluIdeal.nD Cert.KernelGluIdeal.τ).loc Cert.KernelGluIdeal.main_v2)),
      θ_run (Cert.KernelGluIdeal.defs (F := Ideal)) (onTc (τ := Cert.KernelGluIdeal.τ) (Cert.KernelGluIdeal.main (F := Ideal))) ⟨m, fun _ => 0, g⟩ (fun r => ∀ c : Dev Cert.KernelGluIdeal.nD,
          r.2.mem ((c.tc : Thread Cert.KernelGluIdeal.nD Cert.KernelGluIdeal.τ).loc Cert.KernelGluIdeal.main_v2) = v0 c
          ∧ r.2.mem ((c.tc : Thread Cert.KernelGluIdeal.nD Cert.KernelGluIdeal.τ).loc Cert.KernelGluIdeal.main_arg0) = m ((c.tc : Thread Cert.KernelGluIdeal.nD Cert.KernelGluIdeal.τ).loc Cert.KernelGluIdeal.main_arg0)
          ∧ r.2.mem ((c.tc : Thread Cert.KernelGluIdeal.nD Cert.KernelGluIdeal.τ).loc Cert.KernelGluIdeal.main_arg1) = m ((c.tc : Thread Cert.KernelGluIdeal.nD Cert.KernelGluIdeal.τ).loc Cert.KernelGluIdeal.main_arg1))
      ∧ θ_run (Cert.ReferenceGluIdeal.defs (F := Ideal)) (onTc (τ := Cert.ReferenceGluIdeal.τ) (Cert.ReferenceGluIdeal.main (F := Ideal))) ⟨m', fun _ => 0, g'⟩ (fun r => ∀ c : Dev Cert.ReferenceGluIdeal.nD,
          r.2.mem ((c.tc : Thread Cert.ReferenceGluIdeal.nD Cert.ReferenceGluIdeal.τ).loc Cert.ReferenceGluIdeal.main_v0) = v0 c
          ∧ r.2.mem ((c.tc : Thread Cert.ReferenceGluIdeal.nD Cert.ReferenceGluIdeal.τ).loc Cert.ReferenceGluIdeal.main_arg0) = m' ((c.tc : Thread Cert.ReferenceGluIdeal.nD Cert.ReferenceGluIdeal.τ).loc Cert.ReferenceGluIdeal.main_arg0)
          ∧ r.2.mem ((c.tc : Thread Cert.ReferenceGluIdeal.nD Cert.ReferenceGluIdeal.τ).loc Cert.ReferenceGluIdeal.main_arg1) = m' ((c.tc : Thread Cert.ReferenceGluIdeal.nD Cert.ReferenceGluIdeal.τ).loc Cert.ReferenceGluIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v0) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelRoute_KernelRouteIdeal : Prop :=
  True

def algebraic_KernelRouteIdeal_ReferenceRouteIdeal [hKernelRouteIdeal : Cert.KernelRouteIdeal.Facts] [hReferenceRouteIdeal : Cert.ReferenceRouteIdeal.Facts] : Prop :=
  ∀ (m : (ℓ : Loc Cert.KernelRouteIdeal.nD Cert.KernelRouteIdeal.τ Cert.KernelRouteIdeal.sig) → Buf (Elt Ideal) ℓ) (g : Dev Cert.KernelRouteIdeal.nD → PrngReg)
    (m' : (ℓ : Loc Cert.ReferenceRouteIdeal.nD Cert.ReferenceRouteIdeal.τ Cert.ReferenceRouteIdeal.sig) → Buf (Elt Ideal) ℓ) (g' : Dev Cert.ReferenceRouteIdeal.nD → PrngReg), Pre_KernelRouteIdeal m →
    (∀ c : Dev Cert.KernelRouteIdeal.nD,
      m' ((c.tc : Thread Cert.ReferenceRouteIdeal.nD Cert.ReferenceRouteIdeal.τ).loc Cert.ReferenceRouteIdeal.main_arg0) = m ((c.tc : Thread Cert.KernelRouteIdeal.nD Cert.KernelRouteIdeal.τ).loc Cert.KernelRouteIdeal.main_arg0)
      ∧ m' ((c.tc : Thread Cert.ReferenceRouteIdeal.nD Cert.ReferenceRouteIdeal.τ).loc Cert.ReferenceRouteIdeal.main_arg1) = m ((c.tc : Thread Cert.KernelRouteIdeal.nD Cert.KernelRouteIdeal.τ).loc Cert.KernelRouteIdeal.main_arg1)
      ∧ m' ((c.tc : Thread Cert.ReferenceRouteIdeal.nD Cert.ReferenceRouteIdeal.τ).loc Cert.ReferenceRouteIdeal.main_arg2) = m ((c.tc : Thread Cert.KernelRouteIdeal.nD Cert.KernelRouteIdeal.τ).loc Cert.KernelRouteIdeal.main_arg2)) →
    ∃ (v0 : (c : Dev Cert.KernelRouteIdeal.nD) → Buf (Elt Ideal) ((c.tc : Thread Cert.KernelRouteIdeal.nD Cert.KernelRouteIdeal.τ).loc Cert.KernelRouteIdeal.main_v21)),
      θ_run (Cert.KernelRouteIdeal.defs (F := Ideal)) (onTc (τ := Cert.KernelRouteIdeal.τ) (Cert.KernelRouteIdeal.main (F := Ideal))) ⟨m, fun _ => 0, g⟩ (fun r => ∀ c : Dev Cert.KernelRouteIdeal.nD,
          r.2.mem ((c.tc : Thread Cert.KernelRouteIdeal.nD Cert.KernelRouteIdeal.τ).loc Cert.KernelRouteIdeal.main_v21) = v0 c
          ∧ r.2.mem ((c.tc : Thread Cert.KernelRouteIdeal.nD Cert.KernelRouteIdeal.τ).loc Cert.KernelRouteIdeal.main_arg0) = m ((c.tc : Thread Cert.KernelRouteIdeal.nD Cert.KernelRouteIdeal.τ).loc Cert.KernelRouteIdeal.main_arg0)
          ∧ r.2.mem ((c.tc : Thread Cert.KernelRouteIdeal.nD Cert.KernelRouteIdeal.τ).loc Cert.KernelRouteIdeal.main_arg1) = m ((c.tc : Thread Cert.KernelRouteIdeal.nD Cert.KernelRouteIdeal.τ).loc Cert.KernelRouteIdeal.main_arg1)
          ∧ r.2.mem ((c.tc : Thread Cert.KernelRouteIdeal.nD Cert.KernelRouteIdeal.τ).loc Cert.KernelRouteIdeal.main_arg2) = m ((c.tc : Thread Cert.KernelRouteIdeal.nD Cert.KernelRouteIdeal.τ).loc Cert.KernelRouteIdeal.main_arg2))
      ∧ θ_run (Cert.ReferenceRouteIdeal.defs (F := Ideal)) (onTc (τ := Cert.ReferenceRouteIdeal.τ) (Cert.ReferenceRouteIdeal.main (F := Ideal))) ⟨m', fun _ => 0, g'⟩ (fun r => ∀ c : Dev Cert.ReferenceRouteIdeal.nD,
          r.2.mem ((c.tc : Thread Cert.ReferenceRouteIdeal.nD Cert.ReferenceRouteIdeal.τ).loc Cert.ReferenceRouteIdeal.main_v22) = v0 c
          ∧ r.2.mem ((c.tc : Thread Cert.ReferenceRouteIdeal.nD Cert.ReferenceRouteIdeal.τ).loc Cert.ReferenceRouteIdeal.main_arg0) = m' ((c.tc : Thread Cert.ReferenceRouteIdeal.nD Cert.ReferenceRouteIdeal.τ).loc Cert.ReferenceRouteIdeal.main_arg0)
          ∧ r.2.mem ((c.tc : Thread Cert.ReferenceRouteIdeal.nD Cert.ReferenceRouteIdeal.τ).loc Cert.ReferenceRouteIdeal.main_arg1) = m' ((c.tc : Thread Cert.ReferenceRouteIdeal.nD Cert.ReferenceRouteIdeal.τ).loc Cert.ReferenceRouteIdeal.main_arg1)
          ∧ r.2.mem ((c.tc : Thread Cert.ReferenceRouteIdeal.nD Cert.ReferenceRouteIdeal.τ).loc Cert.ReferenceRouteIdeal.main_arg2) = m' ((c.tc : Thread Cert.ReferenceRouteIdeal.nD Cert.ReferenceRouteIdeal.τ).loc Cert.ReferenceRouteIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v4)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v4) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v4) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelDrive_KernelDriveIdeal : Prop :=
  True

def algebraic_KernelDriveIdeal_ReferenceDriveIdeal [hKernelDriveIdeal : Cert.KernelDriveIdeal.Facts] [hReferenceDriveIdeal : Cert.ReferenceDriveIdeal.Facts] : Prop :=
  ∀ (m : (ℓ : Loc Cert.KernelDriveIdeal.nD Cert.KernelDriveIdeal.τ Cert.KernelDriveIdeal.sig) → Buf (Elt Ideal) ℓ) (g : Dev Cert.KernelDriveIdeal.nD → PrngReg)
    (m' : (ℓ : Loc Cert.ReferenceDriveIdeal.nD Cert.ReferenceDriveIdeal.τ Cert.ReferenceDriveIdeal.sig) → Buf (Elt Ideal) ℓ) (g' : Dev Cert.ReferenceDriveIdeal.nD → PrngReg), Pre_KernelDriveIdeal m →
    (∀ c : Dev Cert.KernelDriveIdeal.nD,
      m' ((c.tc : Thread Cert.ReferenceDriveIdeal.nD Cert.ReferenceDriveIdeal.τ).loc Cert.ReferenceDriveIdeal.main_arg0) = m ((c.tc : Thread Cert.KernelDriveIdeal.nD Cert.KernelDriveIdeal.τ).loc Cert.KernelDriveIdeal.main_arg0)
      ∧ m' ((c.tc : Thread Cert.ReferenceDriveIdeal.nD Cert.ReferenceDriveIdeal.τ).loc Cert.ReferenceDriveIdeal.main_arg1) = m ((c.tc : Thread Cert.KernelDriveIdeal.nD Cert.KernelDriveIdeal.τ).loc Cert.KernelDriveIdeal.main_arg1)
      ∧ m' ((c.tc : Thread Cert.ReferenceDriveIdeal.nD Cert.ReferenceDriveIdeal.τ).loc Cert.ReferenceDriveIdeal.main_arg2) = m ((c.tc : Thread Cert.KernelDriveIdeal.nD Cert.KernelDriveIdeal.τ).loc Cert.KernelDriveIdeal.main_arg2)) →
    ∃ (v0 : (c : Dev Cert.KernelDriveIdeal.nD) → Buf (Elt Ideal) ((c.tc : Thread Cert.KernelDriveIdeal.nD Cert.KernelDriveIdeal.τ).loc Cert.KernelDriveIdeal.main_v38)),
      θ_run (Cert.KernelDriveIdeal.defs (F := Ideal)) (onTc (τ := Cert.KernelDriveIdeal.τ) (Cert.KernelDriveIdeal.main (F := Ideal))) ⟨m, fun _ => 0, g⟩ (fun r => ∀ c : Dev Cert.KernelDriveIdeal.nD,
          r.2.mem ((c.tc : Thread Cert.KernelDriveIdeal.nD Cert.KernelDriveIdeal.τ).loc Cert.KernelDriveIdeal.main_v38) = v0 c
          ∧ r.2.mem ((c.tc : Thread Cert.KernelDriveIdeal.nD Cert.KernelDriveIdeal.τ).loc Cert.KernelDriveIdeal.main_arg0) = m ((c.tc : Thread Cert.KernelDriveIdeal.nD Cert.KernelDriveIdeal.τ).loc Cert.KernelDriveIdeal.main_arg0)
          ∧ r.2.mem ((c.tc : Thread Cert.KernelDriveIdeal.nD Cert.KernelDriveIdeal.τ).loc Cert.KernelDriveIdeal.main_arg1) = m ((c.tc : Thread Cert.KernelDriveIdeal.nD Cert.KernelDriveIdeal.τ).loc Cert.KernelDriveIdeal.main_arg1)
          ∧ r.2.mem ((c.tc : Thread Cert.KernelDriveIdeal.nD Cert.KernelDriveIdeal.τ).loc Cert.KernelDriveIdeal.main_arg2) = m ((c.tc : Thread Cert.KernelDriveIdeal.nD Cert.KernelDriveIdeal.τ).loc Cert.KernelDriveIdeal.main_arg2))
      ∧ θ_run (Cert.ReferenceDriveIdeal.defs (F := Ideal)) (onTc (τ := Cert.ReferenceDriveIdeal.τ) (Cert.ReferenceDriveIdeal.main (F := Ideal))) ⟨m', fun _ => 0, g'⟩ (fun r => ∀ c : Dev Cert.ReferenceDriveIdeal.nD,
          r.2.mem ((c.tc : Thread Cert.ReferenceDriveIdeal.nD Cert.ReferenceDriveIdeal.τ).loc Cert.ReferenceDriveIdeal.main_v18) = v0 c
          ∧ r.2.mem ((c.tc : Thread Cert.ReferenceDriveIdeal.nD Cert.ReferenceDriveIdeal.τ).loc Cert.ReferenceDriveIdeal.main_arg0) = m' ((c.tc : Thread Cert.ReferenceDriveIdeal.nD Cert.ReferenceDriveIdeal.τ).loc Cert.ReferenceDriveIdeal.main_arg0)
          ∧ r.2.mem ((c.tc : Thread Cert.ReferenceDriveIdeal.nD Cert.ReferenceDriveIdeal.τ).loc Cert.ReferenceDriveIdeal.main_arg1) = m' ((c.tc : Thread Cert.ReferenceDriveIdeal.nD Cert.ReferenceDriveIdeal.τ).loc Cert.ReferenceDriveIdeal.main_arg1)
          ∧ r.2.mem ((c.tc : Thread Cert.ReferenceDriveIdeal.nD Cert.ReferenceDriveIdeal.τ).loc Cert.ReferenceDriveIdeal.main_arg2) = m' ((c.tc : Thread Cert.ReferenceDriveIdeal.nD Cert.ReferenceDriveIdeal.τ).loc Cert.ReferenceDriveIdeal.main_arg2))

def preserves_KernelRead_KernelReadIdeal : Prop :=
  True

def algebraic_KernelReadIdeal_ReferenceReadIdeal [hKernelReadIdeal : Cert.KernelReadIdeal.Facts] [hReferenceReadIdeal : Cert.ReferenceReadIdeal.Facts] : Prop :=
  ∀ (m : (ℓ : Loc Cert.KernelReadIdeal.nD Cert.KernelReadIdeal.τ Cert.KernelReadIdeal.sig) → Buf (Elt Ideal) ℓ) (g : Dev Cert.KernelReadIdeal.nD → PrngReg)
    (m' : (ℓ : Loc Cert.ReferenceReadIdeal.nD Cert.ReferenceReadIdeal.τ Cert.ReferenceReadIdeal.sig) → Buf (Elt Ideal) ℓ) (g' : Dev Cert.ReferenceReadIdeal.nD → PrngReg), Pre_KernelReadIdeal m →
    (∀ c : Dev Cert.KernelReadIdeal.nD,
      m' ((c.tc : Thread Cert.ReferenceReadIdeal.nD Cert.ReferenceReadIdeal.τ).loc Cert.ReferenceReadIdeal.main_arg0) = m ((c.tc : Thread Cert.KernelReadIdeal.nD Cert.KernelReadIdeal.τ).loc Cert.KernelReadIdeal.main_arg0)
      ∧ m' ((c.tc : Thread Cert.ReferenceReadIdeal.nD Cert.ReferenceReadIdeal.τ).loc Cert.ReferenceReadIdeal.main_arg1) = m ((c.tc : Thread Cert.KernelReadIdeal.nD Cert.KernelReadIdeal.τ).loc Cert.KernelReadIdeal.main_arg1)
      ∧ m' ((c.tc : Thread Cert.ReferenceReadIdeal.nD Cert.ReferenceReadIdeal.τ).loc Cert.ReferenceReadIdeal.main_arg2) = m ((c.tc : Thread Cert.KernelReadIdeal.nD Cert.KernelReadIdeal.τ).loc Cert.KernelReadIdeal.main_arg2)
      ∧ m' ((c.tc : Thread Cert.ReferenceReadIdeal.nD Cert.ReferenceReadIdeal.τ).loc Cert.ReferenceReadIdeal.main_arg3) = m ((c.tc : Thread Cert.KernelReadIdeal.nD Cert.KernelReadIdeal.τ).loc Cert.KernelReadIdeal.main_arg3)
      ∧ m' ((c.tc : Thread Cert.ReferenceReadIdeal.nD Cert.ReferenceReadIdeal.τ).loc Cert.ReferenceReadIdeal.main_arg4) = m ((c.tc : Thread Cert.KernelReadIdeal.nD Cert.KernelReadIdeal.τ).loc Cert.KernelReadIdeal.main_arg4)
      ∧ m' ((c.tc : Thread Cert.ReferenceReadIdeal.nD Cert.ReferenceReadIdeal.τ).loc Cert.ReferenceReadIdeal.main_arg5) = m ((c.tc : Thread Cert.KernelReadIdeal.nD Cert.KernelReadIdeal.τ).loc Cert.KernelReadIdeal.main_arg5)) →
    ∃ (v0 : (c : Dev Cert.KernelReadIdeal.nD) → Buf (Elt Ideal) ((c.tc : Thread Cert.KernelReadIdeal.nD Cert.KernelReadIdeal.τ).loc Cert.KernelReadIdeal.main_v39)),
      θ_run (Cert.KernelReadIdeal.defs (F := Ideal)) (onTc (τ := Cert.KernelReadIdeal.τ) (Cert.KernelReadIdeal.main (F := Ideal))) ⟨m, fun _ => 0, g⟩ (fun r => ∀ c : Dev Cert.KernelReadIdeal.nD,
          r.2.mem ((c.tc : Thread Cert.KernelReadIdeal.nD Cert.KernelReadIdeal.τ).loc Cert.KernelReadIdeal.main_v39) = v0 c
          ∧ r.2.mem ((c.tc : Thread Cert.KernelReadIdeal.nD Cert.KernelReadIdeal.τ).loc Cert.KernelReadIdeal.main_arg0) = m ((c.tc : Thread Cert.KernelReadIdeal.nD Cert.KernelReadIdeal.τ).loc Cert.KernelReadIdeal.main_arg0)
          ∧ r.2.mem ((c.tc : Thread Cert.KernelReadIdeal.nD Cert.KernelReadIdeal.τ).loc Cert.KernelReadIdeal.main_arg1) = m ((c.tc : Thread Cert.KernelReadIdeal.nD Cert.KernelReadIdeal.τ).loc Cert.KernelReadIdeal.main_arg1)
          ∧ r.2.mem ((c.tc : Thread Cert.KernelReadIdeal.nD Cert.KernelReadIdeal.τ).loc Cert.KernelReadIdeal.main_arg2) = m ((c.tc : Thread Cert.KernelReadIdeal.nD Cert.KernelReadIdeal.τ).loc Cert.KernelReadIdeal.main_arg2)
          ∧ r.2.mem ((c.tc : Thread Cert.KernelReadIdeal.nD Cert.KernelReadIdeal.τ).loc Cert.KernelReadIdeal.main_arg3) = m ((c.tc : Thread Cert.KernelReadIdeal.nD Cert.KernelReadIdeal.τ).loc Cert.KernelReadIdeal.main_arg3)
          ∧ r.2.mem ((c.tc : Thread Cert.KernelReadIdeal.nD Cert.KernelReadIdeal.τ).loc Cert.KernelReadIdeal.main_arg4) = m ((c.tc : Thread Cert.KernelReadIdeal.nD Cert.KernelReadIdeal.τ).loc Cert.KernelReadIdeal.main_arg4)
          ∧ r.2.mem ((c.tc : Thread Cert.KernelReadIdeal.nD Cert.KernelReadIdeal.τ).loc Cert.KernelReadIdeal.main_arg5) = m ((c.tc : Thread Cert.KernelReadIdeal.nD Cert.KernelReadIdeal.τ).loc Cert.KernelReadIdeal.main_arg5))
      ∧ θ_run (Cert.ReferenceReadIdeal.defs (F := Ideal)) (onTc (τ := Cert.ReferenceReadIdeal.τ) (Cert.ReferenceReadIdeal.main (F := Ideal))) ⟨m', fun _ => 0, g'⟩ (fun r => ∀ c : Dev Cert.ReferenceReadIdeal.nD,
          r.2.mem ((c.tc : Thread Cert.ReferenceReadIdeal.nD Cert.ReferenceReadIdeal.τ).loc Cert.ReferenceReadIdeal.main_v30) = v0 c
          ∧ r.2.mem ((c.tc : Thread Cert.ReferenceReadIdeal.nD Cert.ReferenceReadIdeal.τ).loc Cert.ReferenceReadIdeal.main_arg0) = m' ((c.tc : Thread Cert.ReferenceReadIdeal.nD Cert.ReferenceReadIdeal.τ).loc Cert.ReferenceReadIdeal.main_arg0)
          ∧ r.2.mem ((c.tc : Thread Cert.ReferenceReadIdeal.nD Cert.ReferenceReadIdeal.τ).loc Cert.ReferenceReadIdeal.main_arg1) = m' ((c.tc : Thread Cert.ReferenceReadIdeal.nD Cert.ReferenceReadIdeal.τ).loc Cert.ReferenceReadIdeal.main_arg1)
          ∧ r.2.mem ((c.tc : Thread Cert.ReferenceReadIdeal.nD Cert.ReferenceReadIdeal.τ).loc Cert.ReferenceReadIdeal.main_arg2) = m' ((c.tc : Thread Cert.ReferenceReadIdeal.nD Cert.ReferenceReadIdeal.τ).loc Cert.ReferenceReadIdeal.main_arg2)
          ∧ r.2.mem ((c.tc : Thread Cert.ReferenceReadIdeal.nD Cert.ReferenceReadIdeal.τ).loc Cert.ReferenceReadIdeal.main_arg3) = m' ((c.tc : Thread Cert.ReferenceReadIdeal.nD Cert.ReferenceReadIdeal.τ).loc Cert.ReferenceReadIdeal.main_arg3)
          ∧ r.2.mem ((c.tc : Thread Cert.ReferenceReadIdeal.nD Cert.ReferenceReadIdeal.τ).loc Cert.ReferenceReadIdeal.main_arg4) = m' ((c.tc : Thread Cert.ReferenceReadIdeal.nD Cert.ReferenceReadIdeal.τ).loc Cert.ReferenceReadIdeal.main_arg4)
          ∧ r.2.mem ((c.tc : Thread Cert.ReferenceReadIdeal.nD Cert.ReferenceReadIdeal.τ).loc Cert.ReferenceReadIdeal.main_arg5) = m' ((c.tc : Thread Cert.ReferenceReadIdeal.nD Cert.ReferenceReadIdeal.τ).loc Cert.ReferenceReadIdeal.main_arg5))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelGates : Cert.KernelGates.Facts) (hKernelGatesIdeal : Cert.KernelGatesIdeal.Facts) (hReferenceGatesIdeal : Cert.ReferenceGatesIdeal.Facts) (hKernelOut : Cert.KernelOut.Facts) (hKernelOutIdeal : Cert.KernelOutIdeal.Facts) (hReferenceOutIdeal : Cert.ReferenceOutIdeal.Facts) (hKernelGlu : Cert.KernelGlu.Facts) (hKernelGluIdeal : Cert.KernelGluIdeal.Facts) (hReferenceGluIdeal : Cert.ReferenceGluIdeal.Facts) (hKernelUp : Cert.KernelUp.Facts) (hKernelUpIdeal : Cert.KernelUpIdeal.Facts) (hReferenceUpIdeal : Cert.ReferenceUpIdeal.Facts) (hKernelRoute : Cert.KernelRoute.Facts) (hKernelRouteIdeal : Cert.KernelRouteIdeal.Facts) (hReferenceRouteIdeal : Cert.ReferenceRouteIdeal.Facts) (hKernelDown : Cert.KernelDown.Facts) (hKernelDownIdeal : Cert.KernelDownIdeal.Facts) (hReferenceDownIdeal : Cert.ReferenceDownIdeal.Facts) (hKernelDrive : Cert.KernelDrive.Facts) (hKernelDriveIdeal : Cert.KernelDriveIdeal.Facts) (hReferenceDriveIdeal : Cert.ReferenceDriveIdeal.Facts) (hKernelRead : Cert.KernelRead.Facts) (hKernelReadIdeal : Cert.KernelReadIdeal.Facts) (hReferenceReadIdeal : Cert.ReferenceReadIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelGates (hKernelGates := hKernelGates)
    ∧ quiescent_KernelGatesIdeal (hKernelGatesIdeal := hKernelGatesIdeal)
    ∧ quiescent_ReferenceGatesIdeal (hReferenceGatesIdeal := hReferenceGatesIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelGlu (hKernelGlu := hKernelGlu)
    ∧ quiescent_KernelGluIdeal (hKernelGluIdeal := hKernelGluIdeal)
    ∧ quiescent_ReferenceGluIdeal (hReferenceGluIdeal := hReferenceGluIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelRoute (hKernelRoute := hKernelRoute)
    ∧ quiescent_KernelRouteIdeal (hKernelRouteIdeal := hKernelRouteIdeal)
    ∧ quiescent_ReferenceRouteIdeal (hReferenceRouteIdeal := hReferenceRouteIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelDrive (hKernelDrive := hKernelDrive)
    ∧ quiescent_KernelDriveIdeal (hKernelDriveIdeal := hKernelDriveIdeal)
    ∧ quiescent_ReferenceDriveIdeal (hReferenceDriveIdeal := hReferenceDriveIdeal)
    ∧ quiescent_KernelRead (hKernelRead := hKernelRead)
    ∧ quiescent_KernelReadIdeal (hKernelReadIdeal := hKernelReadIdeal)
    ∧ quiescent_ReferenceReadIdeal (hReferenceReadIdeal := hReferenceReadIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelIn_KernelInIdeal
    ∧ algebraic_KernelInIdeal_ReferenceInIdeal (hKernelInIdeal := hKernelInIdeal) (hReferenceInIdeal := hReferenceInIdeal)
    ∧ preserves_KernelGates_KernelGatesIdeal
    ∧ algebraic_KernelGatesIdeal_ReferenceGatesIdeal (hKernelGatesIdeal := hKernelGatesIdeal) (hReferenceGatesIdeal := hReferenceGatesIdeal)
    ∧ preserves_KernelOut_KernelOutIdeal
    ∧ algebraic_KernelOutIdeal_ReferenceOutIdeal (hKernelOutIdeal := hKernelOutIdeal) (hReferenceOutIdeal := hReferenceOutIdeal)
    ∧ preserves_KernelGlu_KernelGluIdeal
    ∧ algebraic_KernelGluIdeal_ReferenceGluIdeal (hKernelGluIdeal := hKernelGluIdeal) (hReferenceGluIdeal := hReferenceGluIdeal)
    ∧ preserves_KernelUp_KernelUpIdeal
    ∧ algebraic_KernelUpIdeal_ReferenceUpIdeal (hKernelUpIdeal := hKernelUpIdeal) (hReferenceUpIdeal := hReferenceUpIdeal)
    ∧ preserves_KernelRoute_KernelRouteIdeal
    ∧ algebraic_KernelRouteIdeal_ReferenceRouteIdeal (hKernelRouteIdeal := hKernelRouteIdeal) (hReferenceRouteIdeal := hReferenceRouteIdeal)
    ∧ preserves_KernelDown_KernelDownIdeal
    ∧ algebraic_KernelDownIdeal_ReferenceDownIdeal (hKernelDownIdeal := hKernelDownIdeal) (hReferenceDownIdeal := hReferenceDownIdeal)
    ∧ preserves_KernelDrive_KernelDriveIdeal
    ∧ algebraic_KernelDriveIdeal_ReferenceDriveIdeal (hKernelDriveIdeal := hKernelDriveIdeal) (hReferenceDriveIdeal := hReferenceDriveIdeal)
    ∧ preserves_KernelRead_KernelReadIdeal
    ∧ algebraic_KernelReadIdeal_ReferenceReadIdeal (hKernelReadIdeal := hKernelReadIdeal) (hReferenceReadIdeal := hReferenceReadIdeal)
-- ==== Pre_finite.lean ====
abbrev S8448x2048 : Shape := ⟨2, ![8448, 2048]⟩
abbrev S2x8448x16 : Shape := ⟨3, ![2, 8448, 16]⟩
abbrev S_ : Shape := ⟨0, ![]⟩

class Facts : Prop where
  bcast_S_S8448x2048 : S_.BroadcastsInDim S8448x2048 (![] : Fin 0 → Fin S8448x2048.rank)
  bcast_S_S2x8448x16 : S_.BroadcastsInDim S2x8448x16 (![] : Fin 0 → Fin S2x8448x16.rank)

variable [Facts]

def fn {F : FTy → Type} [FloatOps F] (main_arg0 : FVec F S8448x2048 .f32) (main_arg1 : FVec F S8448x2048 .f32) (main_arg2 : FVec F S8448x2048 .f32) (main_arg3 : FVec F S2x8448x16 .f32) (main_arg4 : FVec F S2x8448x16 .f32) : IVec S8448x2048 1 × IVec S8448x2048 1 × IVec S8448x2048 1 × IVec S2x8448x16 1 × IVec S2x8448x16 1 :=
  let main_v0 : FVec F S8448x2048 .f32 := Host.absf main_arg0
  let main_cst : FVec F S_ .f32 := constant S_ .f32 0x7F800000#32
  let main_v1 : FVec F S8448x2048 .f32 := broadcastInDim S8448x2048 ![] bcast_S_S8448x2048 main_cst
  let main_v2 : IVec S8448x2048 1 := cmpf .olt main_v0 main_v1
  let main_v3 : FVec F S8448x2048 .f32 := Host.absf main_arg1
  let main_cst_0 : FVec F S_ .f32 := constant S_ .f32 0x7F800000#32
  let main_v4 : FVec F S8448x2048 .f32 := broadcastInDim S8448x2048 ![] bcast_S_S8448x2048 main_cst_0
  let main_v5 : IVec S8448x2048 1 := cmpf .olt main_v3 main_v4
  let main_v6 : FVec F S8448x2048 .f32 := Host.absf main_arg2
  let main_cst_1 : FVec F S_ .f32 := constant S_ .f32 0x7F800000#32
  let main_v7 : FVec F S8448x2048 .f32 := broadcastInDim S8448x2048 ![] bcast_S_S8448x2048 main_cst_1
  let main_v8 : IVec S8448x2048 1 := cmpf .olt main_v6 main_v7
  let main_v9 : FVec F S2x8448x16 .f32 := Host.absf main_arg3
  let main_cst_2 : FVec F S_ .f32 := constant S_ .f32 0x7F800000#32
  let main_v10 : FVec F S2x8448x16 .f32 := broadcastInDim S2x8448x16 ![] bcast_S_S2x8448x16 main_cst_2
  let main_v11 : IVec S2x8448x16 1 := cmpf .olt main_v9 main_v10
  let main_v12 : FVec F S2x8448x16 .f32 := Host.absf main_arg4
  let main_cst_3 : FVec F S_ .f32 := constant S_ .f32 0x7F800000#32
  let main_v13 : FVec F S2x8448x16 .f32 := broadcastInDim S2x8448x16 ![] bcast_S_S2x8448x16 main_cst_3
  let main_v14 : IVec S2x8448x16 1 := cmpf .olt main_v12 main_v13
  (main_v2, main_v5, main_v8, main_v11, main_v14)
-- ==== Kernel.lean ====
abbrev S8448x2048 : Shape := ⟨2, ![8448, 2048]⟩
abbrev S2x8448x16 : Shape := ⟨3, ![2, 8448, 16]⟩
abbrev S2x16x8448 : Shape := ⟨3, ![2, 16, 8448]⟩
abbrev S2x16x132x64 : Shape := ⟨4, ![2, 16, 132, 64]⟩
abbrev S1x16x132x64 : Shape := ⟨4, ![1, 16, 132, 64]⟩
abbrev S16x132x64 : Shape := ⟨3, ![16, 132, 64]⟩
abbrev S_ : Shape := ⟨0, ![]⟩
abbrev S32x8448x1 : Shape := ⟨3, ![32, 8448, 1]⟩
abbrev S32x132x1x64 : Shape := ⟨4, ![32, 132, 1, 64]⟩
abbrev S2x8448x2048 : Shape := ⟨3, ![2, 8448, 2048]⟩
abbrev S64x2048 : Shape := ⟨2, ![64, 2048]⟩
abbrev S16x64x1 : Shape := ⟨3, ![16, 64, 1]⟩
abbrev S16x1x1x64 : Shape := ⟨4, ![16, 1, 1, 64]⟩
abbrev S1x64x2048 : Shape := ⟨3, ![1, 64, 2048]⟩
abbrev S16x128x128 : Shape := ⟨3, ![16, 128, 128]⟩
abbrev S64x64 : Shape := ⟨2, ![64, 64]⟩
abbrev S64x1 : Shape := ⟨2, ![64, 1]⟩
abbrev S64x128 : Shape := ⟨2, ![64, 128]⟩
abbrev S1x64x128 : Shape := ⟨3, ![1, 64, 128]⟩
abbrev S16x64x128 : Shape := ⟨3, ![16, 64, 128]⟩
abbrev S16x1x64 : Shape := ⟨3, ![16, 1, 64]⟩
abbrev S1x64x1 : Shape := ⟨3, ![1, 64, 1]⟩
abbrev S16x1 : Shape := ⟨2, ![16, 1]⟩
abbrev S16x1x1 : Shape := ⟨3, ![16, 1, 1]⟩
abbrev S16x64x64 : Shape := ⟨3, ![16, 64, 64]⟩
abbrev S1x64x64 : Shape := ⟨3, ![1, 64, 64]⟩
abbrev S16x128x64 : Shape := ⟨3, ![16, 128, 64]⟩

abbrev nBuf : Space → Nat
  | .hbm => 27
  | .vmem => 15
  | .smem => 0
  | _ => 0

abbrev bufTy : (tb : Table) → Fin (tcTables nBuf tb) → BufTy
  | .hbm, ⟨0, _⟩ => ⟨S8448x2048, .f32⟩
  | .hbm, ⟨1, _⟩ => ⟨S8448x2048, .f32⟩
  | .hbm, ⟨2, _⟩ => ⟨S8448x2048, .f32⟩
  | .hbm, ⟨3, _⟩ => ⟨S2x8448x16, .f32⟩
  | .hbm, ⟨4, _⟩ => ⟨S2x8448x16, .f32⟩
  | .hbm, ⟨5, _⟩ => ⟨S2x16x8448, .f32⟩
  | .hbm, ⟨6, _⟩ => ⟨S2x16x132x64, .f32⟩
  | .hbm, ⟨7, _⟩ => ⟨S1x16x132x64, .f32⟩
  | .hbm, ⟨8, _⟩ => ⟨S16x132x64, .f32⟩
  | .hbm, ⟨9, _⟩ => ⟨S_, .f32⟩
  | .hbm, ⟨10, _⟩ => ⟨S_, .f32⟩
  | .hbm, ⟨11, _⟩ => ⟨S16x132x64, .f32⟩
  | .hbm, ⟨12, _⟩ => ⟨S1x16x132x64, .f32⟩
  | .hbm, ⟨13, _⟩ => ⟨S1x16x132x64, .f32⟩
  | .hbm, ⟨14, _⟩ => ⟨S16x132x64, .f32⟩
  | .hbm, ⟨15, _⟩ => ⟨S_, .f32⟩
  | .hbm, ⟨16, _⟩ => ⟨S_, .f32⟩
  | .hbm, ⟨17, _⟩ => ⟨S16x132x64, .f32⟩
  | .hbm, ⟨18, _⟩ => ⟨S16x132x64, .f32⟩
  | .hbm, ⟨19, _⟩ => ⟨S1x16x132x64, .f32⟩
  | .hbm, ⟨20, _⟩ => ⟨S1x16x132x64, .f32⟩
  | .hbm, ⟨21, _⟩ => ⟨S2x16x132x64, .f32⟩
  | .hbm, ⟨22, _⟩ => ⟨S32x8448x1, .f32⟩
  | .hbm, ⟨23, _⟩ => ⟨S32x132x1x64, .f32⟩
  | .hbm, ⟨24, _⟩ => ⟨S2x16x8448, .f32⟩
  | .hbm, ⟨25, _⟩ => ⟨S32x8448x1, .f32⟩
  | .hbm, ⟨26, _⟩ => ⟨S2x8448x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S16x64x1, .f32⟩
  | .local _ .vmem, ⟨7, _⟩ => ⟨S16x64x1, .f32⟩
  | .local _ .vmem, ⟨8, _⟩ => ⟨S16x1x1x64, .f32⟩
  | .local _ .vmem, ⟨9, _⟩ => ⟨S16x1x1x64, .f32⟩
  | .local _ .vmem, ⟨10, _⟩ => ⟨S16x64x1, .f32⟩
  | .local _ .vmem, ⟨11, _⟩ => ⟨S16x64x1, .f32⟩
  | .local _ .vmem, ⟨12, _⟩ => ⟨S1x64x2048, .f32⟩
  | .local _ .vmem, ⟨13, _⟩ => ⟨S1x64x2048, .f32⟩
  | .local _ .vmem, ⟨14, _⟩ => ⟨S16x128x128, .f32⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_call0_cst : Ref sig .tc := ⟨.hbm, 9, rfl⟩
abbrev main_call0_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_call1_call0_cst : Ref sig .tc := ⟨.hbm, 15, rfl⟩
abbrev main_call1_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 132], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c4_i32 : BitVec 32 := 4#32
  let v1 : BitVec 1 := Scalar.cmpi .slt arg1 c4_i32
  let c3_i32 : BitVec 32 := 3#32
  let v2 : BitVec 32 := Scalar.subi c3_i32 arg1
  let c135_i32 : BitVec 32 := 135#32
  let v3 : BitVec 32 := Scalar.subi c135_i32 arg1
  let v4 : BitVec 32 := Scalar.select v1 v2 v3
  let v5 : BitVec 32 := Scalar.select v0 v4 arg1
  let c1_i32_0 : BitVec 32 := 1#32
  let c0_i32 : BitVec 32 := 0#32
  let v6 : BitVec 1 := Scalar.cmpi .eq c1_i32_0 c0_i32
  let c1_i32_1 : BitVec 32 := 1#32
  let v7 : BitVec 32 := Scalar.select v6 c1_i32_1 c1_i32_0
  let v8 : BitVec 32 := Scalar.remsi arg0 v7
  let c0_i32_2 : BitVec 32 := 0#32
  let v9 : BitVec 1 := Scalar.cmpi .ne v8 c0_i32_2
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let v13 : BitVec 1 := Scalar.andi v12 v9
  let v14 : BitVec 32 := Scalar.addi v8 v7
  let v15 : BitVec 32 := Scalar.select v13 v14 v8
  let c0_i32_5 : BitVec 32 := 0#32
  ![v5.toNat, v15.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c4_i32 : BitVec 32 := 4#32
  let v1 : BitVec 1 := Scalar.cmpi .slt arg1 c4_i32
  let c3_i32 : BitVec 32 := 3#32
  let v2 : BitVec 32 := Scalar.subi c3_i32 arg1
  let c135_i32 : BitVec 32 := 135#32
  let v3 : BitVec 32 := Scalar.subi c135_i32 arg1
  let v4 : BitVec 32 := Scalar.select v1 v2 v3
  let v5 : BitVec 32 := Scalar.select v0 v4 arg1
  let c1_i32_0 : BitVec 32 := 1#32
  let c0_i32 : BitVec 32 := 0#32
  let v6 : BitVec 1 := Scalar.cmpi .eq c1_i32_0 c0_i32
  let c1_i32_1 : BitVec 32 := 1#32
  let v7 : BitVec 32 := Scalar.select v6 c1_i32_1 c1_i32_0
  let v8 : BitVec 32 := Scalar.remsi arg0 v7
  let c0_i32_2 : BitVec 32 := 0#32
  let v9 : BitVec 1 := Scalar.cmpi .ne v8 c0_i32_2
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let v13 : BitVec 1 := Scalar.andi v12 v9
  let v14 : BitVec 32 := Scalar.addi v8 v7
  let v15 : BitVec 32 := Scalar.select v13 v14 v8
  let c0_i32_5 : BitVec 32 := 0#32
  ![v5.toNat, v15.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c4_i32 : BitVec 32 := 4#32
  let v1 : BitVec 1 := Scalar.cmpi .slt arg1 c4_i32
  let c3_i32 : BitVec 32 := 3#32
  let v2 : BitVec 32 := Scalar.subi c3_i32 arg1
  let c135_i32 : BitVec 32 := 135#32
  let v3 : BitVec 32 := Scalar.subi c135_i32 arg1
  let v4 : BitVec 32 := Scalar.select v1 v2 v3
  let v5 : BitVec 32 := Scalar.select v0 v4 arg1
  let c1_i32_0 : BitVec 32 := 1#32
  let c0_i32 : BitVec 32 := 0#32
  let v6 : BitVec 1 := Scalar.cmpi .eq c1_i32_0 c0_i32
  let c1_i32_1 : BitVec 32 := 1#32
  let v7 : BitVec 32 := Scalar.select v6 c1_i32_1 c1_i32_0
  let v8 : BitVec 32 := Scalar.remsi arg0 v7
  let c0_i32_2 : BitVec 32 := 0#32
  let v9 : BitVec 1 := Scalar.cmpi .ne v8 c0_i32_2
  let c0_i32_3 : BitVec 32 := 0#32
  let v10 : BitVec 1 := Scalar.cmpi .slt v8 c0_i32_3
  let c0_i32_4 : BitVec 32 := 0#32
  let v11 : BitVec 1 := Scalar.cmpi .slt v7 c0_i32_4
  let v12 : BitVec 1 := Scalar.xori v10 v11
  let v13 : BitVec 1 := Scalar.andi v12 v9
  let v14 : BitVec 32 := Scalar.addi v8 v7
  let v15 : BitVec 32 := Scalar.select v13 v14 v8
  let c0_i32_5 : BitVec 32 := 0#32
  ![v5.toNat, v15.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c4_i32 : BitVec 32 := 4#32
  let v1 : BitVec 1 := Scalar.cmpi .slt arg1 c4_i32
  let c3_i32 : BitVec 32 := 3#32
  let v2 : BitVec 32 := Scalar.subi c3_i32 arg1
  let c135_i32 : BitVec 32 := 135#32
  let v3 : BitVec 32 := Scalar.subi c135_i32 arg1
  let v4 : BitVec 32 := Scalar.select v1 v2 v3
  let v5 : BitVec 32 := Scalar.select v0 v4 arg1
  let c0_i32 : BitVec 32 := 0#32
  let c0_i32_0 : BitVec 32 := 0#32
  ![arg0.toNat, v5.toNat, c0_i32.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c4_i32 : BitVec 32 := 4#32
  let v1 : BitVec 1 := Scalar.cmpi .slt arg1 c4_i32
  let c3_i32 : BitVec 32 := 3#32
  let v2 : BitVec 32 := Scalar.subi c3_i32 arg1
  let c135_i32 : BitVec 32 := 135#32
  let v3 : BitVec 32 := Scalar.subi c135_i32 arg1
  let v4 : BitVec 32 := Scalar.select v1 v2 v3
  let v5 : BitVec 32 := Scalar.select v0 v4 arg1
  let c0_i32 : BitVec 32 := 0#32
  let c0_i32_0 : BitVec 32 := 0#32
  let c0_i32_1 : BitVec 32 := 0#32
  ![arg0.toNat, v5.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .sge arg0 c1_i32
  let c4_i32 : BitVec 32 := 4#32
  let v1 : BitVec 1 := Scalar.cmpi .slt arg1 c4_i32
  let c3_i32 : BitVec 32 := 3#32
  let v2 : BitVec 32 := Scalar.subi c3_i32 arg1
  let c135_i32 : BitVec 32 := 135#32
  let v3 : BitVec 32 := Scalar.subi c135_i32 arg1
  let v4 : BitVec 32 := Scalar.select v1 v2 v3
  let v5 : BitVec 32 := Scalar.select v0 v4 arg1
  let c0_i32 : BitVec 32 := 0#32
  let c0_i32_0 : BitVec 32 := 0#32
  ![arg0.toNat, v5.toNat, c0_i32.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .sge arg0 c1_i32_5
  let c4_i32 : BitVec 32 := 4#32
  let v18 : BitVec 1 := Scalar.cmpi .slt arg1 c4_i32
  let c3_i32 : BitVec 32 := 3#32
  let v19 : BitVec 32 := Scalar.subi c3_i32 arg1
  let c135_i32 : BitVec 32 := 135#32
  let v20 : BitVec 32 := Scalar.subi c135_i32 arg1
  let v21 : BitVec 32 := Scalar.select v18 v19 v20
  let v22 : BitVec 32 := Scalar.select v17 v21 arg1
  let c1_i32_6 : BitVec 32 := 1#32
  let c0_i32_7 : BitVec 32 := 0#32
  let v23 : BitVec 1 := Scalar.cmpi .eq c1_i32_6 c0_i32_7
  let c1_i32_8 : BitVec 32 := 1#32
  let v24 : BitVec 32 := Scalar.select v23 c1_i32_8 c1_i32_6
  let v25 : BitVec 32 := Scalar.remsi arg0 v24
  let c0_i32_9 : BitVec 32 := 0#32
  let v26 : BitVec 1 := Scalar.cmpi .ne v25 c0_i32_9
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let v30 : BitVec 1 := Scalar.andi v29 v26
  let v31 : BitVec 32 := Scalar.addi v25 v24
  let v32 : BitVec 32 := Scalar.select v30 v31 v25
  let c0_i32_12 : BitVec 32 := 0#32
  ![v16.toNat, v22.toNat, v32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8448x2048 : Shape := ⟨2, ![8448, 2048]⟩
abbrev S2x8448x16 : Shape := ⟨3, ![2, 8448, 16]⟩
abbrev S_ : Shape := ⟨0, ![]⟩
abbrev S2x16x128x128 : Shape := ⟨4, ![2, 16, 128, 128]⟩
abbrev S8448x16x128 : Shape := ⟨3, ![8448, 16, 128]⟩
abbrev S256x16x128 : Shape := ⟨3, ![256, 16, 128]⟩
abbrev S8192x16x128 : Shape := ⟨3, ![8192, 16, 128]⟩
abbrev S8448x1x16x128 : Shape := ⟨4, ![8448, 1, 16, 128]⟩
abbrev S8448x2x16x128 : Shape := ⟨4, ![8448, 2, 16, 128]⟩
abbrev S1x8448x16 : Shape := ⟨3, ![1, 8448, 16]⟩
abbrev S8448x16 : Shape := ⟨2, ![8448, 16]⟩
abbrev S256x16 : Shape := ⟨2, ![256, 16]⟩
abbrev S8192x16 : Shape := ⟨2, ![8192, 16]⟩
abbrev S8448x1x16 : Shape := ⟨3, ![8448, 1, 16]⟩
abbrev S8448x2x16 : Shape := ⟨3, ![8448, 2, 16]⟩
abbrev S1x2x16x128 : Shape := ⟨4, ![1, 2, 16, 128]⟩
abbrev S2x16x128 : Shape := ⟨3, ![2, 16, 128]⟩
abbrev S1x2x16 : Shape := ⟨3, ![1, 2, 16]⟩
abbrev S2x16 : Shape := ⟨2, ![2, 16]⟩
abbrev S2x16x1x1 : Shape := ⟨4, ![2, 16, 1, 1]⟩
abbrev S2x16x1 : Shape := ⟨3, ![2, 16, 1]⟩
abbrev S2x16x128x1 : Shape := ⟨4, ![2, 16, 128, 1]⟩
abbrev S2x16x1x128 : Shape := ⟨4, ![2, 16, 1, 128]⟩
abbrev S8448x2x2048 : Shape := ⟨3, ![8448, 2, 2048]⟩
abbrev S8448x1x2048 : Shape := ⟨3, ![8448, 1, 2048]⟩
abbrev S256x2048 : Shape := ⟨2, ![256, 2048]⟩
abbrev S8192x2048 : Shape := ⟨2, ![8192, 2048]⟩
abbrev S1x8448x2048 : Shape := ⟨3, ![1, 8448, 2048]⟩
abbrev S2x8448x2048 : Shape := ⟨3, ![2, 8448, 2048]⟩

abbrev nBuf : Space → Nat
  | .hbm => 130
  | .vmem => 0
  | .smem => 0
  | _ => 0

abbrev hbmTy0_0 (i : Nat) : BufTy := match i % 128 with
  | 0 => ⟨S8448x2048, .f32⟩
  | 1 => ⟨S8448x2048, .f32⟩
  | 2 => ⟨S8448x2048, .f32⟩
  | 3 => ⟨S2x8448x16, .f32⟩
  | 4 => ⟨S2x8448x16, .f32⟩
  | 5 => ⟨S_, .f32⟩
  | 6 => ⟨S2x16x128x128, .f32⟩
  | 7 => ⟨S8448x16x128, .f32⟩
  | 8 => ⟨S256x16x128, .f32⟩
  | 9 => ⟨S256x16x128, .f32⟩
  | 10 => ⟨S8192x16x128, .f32⟩
  | 11 => ⟨S8192x16x128, .f32⟩
  | 12 => ⟨S8448x16x128, .f32⟩
  | 13 => ⟨S8448x1x16x128, .f32⟩
  | 14 => ⟨S8448x1x16x128, .f32⟩
  | 15 => ⟨S8448x2x16x128, .f32⟩
  | 16 => ⟨S8448x16x128, .f32⟩
  | 17 => ⟨S256x16x128, .f32⟩
  | 18 => ⟨S256x16x128, .f32⟩
  | 19 => ⟨S8192x16x128, .f32⟩
  | 20 => ⟨S8192x16x128, .f32⟩
  | 21 => ⟨S8448x16x128, .f32⟩
  | 22 => ⟨S8448x1x16x128, .f32⟩
  | 23 => ⟨S8448x1x16x128, .f32⟩
  | 24 => ⟨S8448x2x16x128, .f32⟩
  | 25 => ⟨S8448x16x128, .f32⟩
  | 26 => ⟨S256x16x128, .f32⟩
  | 27 => ⟨S256x16x128, .f32⟩
  | 28 => ⟨S8192x16x128, .f32⟩
  | 29 => ⟨S8192x16x128, .f32⟩
  | 30 => ⟨S8448x16x128, .f32⟩
  | 31 => ⟨S8448x1x16x128, .f32⟩
  | 32 => ⟨S8448x1x16x128, .f32⟩
  | 33 => ⟨S8448x2x16x128, .f32⟩
  | 34 => ⟨S1x8448x16, .f32⟩
  | 35 => ⟨S8448x16, .f32⟩
  | 36 => ⟨S1x8448x16, .f32⟩
  | 37 => ⟨S8448x16, .f32⟩
  | 38 => ⟨S256x16, .f32⟩
  | 39 => ⟨S256x16, .f32⟩
  | 40 => ⟨S8192x16, .f32⟩
  | 41 => ⟨S8192x16, .f32⟩
  | 42 => ⟨S8448x16, .f32⟩
  | 43 => ⟨S8448x1x16, .f32⟩
  | 44 => ⟨S8448x1x16, .f32⟩
  | 45 => ⟨S8448x2x16, .f32⟩
  | 46 => ⟨S1x8448x16, .f32⟩
  | 47 => ⟨S8448x16, .f32⟩
  | 48 => ⟨S1x8448x16, .f32⟩
  | 49 => ⟨S8448x16, .f32⟩
  | 50 => ⟨S256x16, .f32⟩
  | 51 => ⟨S256x16, .f32⟩
  | 52 => ⟨S8192x16, .f32⟩
  | 53 => ⟨S8192x16, .f32⟩
  | 54 => ⟨S8448x16, .f32⟩
  | 55 => ⟨S8448x1x16, .f32⟩
  | 56 => ⟨S8448x1x16, .f32⟩
  | 57 => ⟨S8448x2x16, .f32⟩
  | 58 => ⟨S_, .f32⟩
  | 59 => ⟨S8448x2x16x128, .f32⟩
  | 60 => ⟨S_, .i32⟩
  | 61 => ⟨S8448x2x16x128, .f32⟩
  | 62 => ⟨S8448x2x16x128, .f32⟩
  | 63 => ⟨S8448x2x16x128, .f32⟩
  | 64 => ⟨S8448x2x16, .f32⟩
  | 65 => ⟨S8448x2x16, .f32⟩
  | 66 => ⟨S_, .i32⟩
  | 67 => ⟨S2x16x128x128, .f32⟩
  | 68 => ⟨S8448x2x16x128, .f32⟩
  | 69 => ⟨S_, .i32⟩
  | 70 => ⟨S_, .i1⟩
  | 71 => ⟨S_, .i32⟩
  | 72 => ⟨S_, .i32⟩
  | 73 => ⟨S_, .i32⟩
  | 74 => ⟨S1x2x16x128, .f32⟩
  | 75 => ⟨S2x16x128, .f32⟩
  | 76 => ⟨S_, .i32⟩
  | 77 => ⟨S_, .i32⟩
  | 78 => ⟨S_, .i32⟩
  | 79 => ⟨S1x2x16x128, .f32⟩
  | 80 => ⟨S2x16x128, .f32⟩
  | 81 => ⟨S_, .i32⟩
  | 82 => ⟨S_, .i32⟩
  | 83 => ⟨S_, .i32⟩
  | 84 => ⟨S1x2x16x128, .f32⟩
  | 85 => ⟨S2x16x128, .f32⟩
  | 86 => ⟨S_, .i32⟩
  | 87 => ⟨S_, .i32⟩
  | 88 => ⟨S1x2x16, .f32⟩
  | 89 => ⟨S2x16, .f32⟩
  | 90 => ⟨S_, .i32⟩
  | 91 => ⟨S_, .i32⟩
  | 92 => ⟨S1x2x16, .f32⟩
  | 93 => ⟨S2x16, .f32⟩
  | 94 => ⟨S2x16, .f32⟩
  | 95 => ⟨S2x16x1x1, .f32⟩
  | 96 => ⟨S2x16x128x128, .f32⟩
  | 97 => ⟨S2x16x128x128, .f32⟩
  | 98 => ⟨S2x16x128, .f32⟩
  | 99 => ⟨S2x16x128, .f32⟩
  | 100 => ⟨S2x16x1, .f32⟩
  | 101 => ⟨S2x16x128, .f32⟩
  | 102 => ⟨S2x16x128, .f32⟩
  | 103 => ⟨S2x16x128x1, .f32⟩
  | 104 => ⟨S2x16x1x128, .f32⟩
  | 105 => ⟨S2x16x128x128, .f32⟩
  | 106 => ⟨S2x16x128x128, .f32⟩
  | 107 => ⟨S2x16x128x128, .f32⟩
  | 108 => ⟨S2x16x128x128, .f32⟩
  | 109 => ⟨S2x16x128, .f32⟩
  | 110 => ⟨S1x2x16x128, .f32⟩
  | 111 => ⟨S_, .i32⟩
  | 112 => ⟨S_, .i32⟩
  | 113 => ⟨S_, .i32⟩
  | 114 => ⟨S8448x2x16x128, .f32⟩
  | 115 => ⟨S_, .i32⟩
  | 116 => ⟨S_, .i32⟩
  | 117 => ⟨S8448x2x2048, .f32⟩
  | 118 => ⟨S8448x1x2048, .f32⟩
  | 119 => ⟨S8448x2048, .f32⟩
  | 120 => ⟨S8448x1x2048, .f32⟩
  | 121 => ⟨S8448x2048, .f32⟩
  | 122 => ⟨S256x2048, .f32⟩
  | 123 => ⟨S256x2048, .f32⟩
  | 124 => ⟨S8192x2048, .f32⟩
  | 125 => ⟨S8192x2048, .f32⟩
  | 126 => ⟨S8448x2048, .f32⟩
  | 127 => ⟨S1x8448x2048, .f32⟩
  | _ => ⟨S8448x2048, .f32⟩

abbrev hbmTy0_1 (i : Nat) : BufTy := match i % 128 with
  | 0 => ⟨S1x8448x2048, .f32⟩
  | 1 => ⟨S2x8448x2048, .f32⟩
  | _ => ⟨S8448x2048, .f32⟩

abbrev hbmTy (i : Nat) : BufTy := match i / 128 with
  | 0 => hbmTy0_0 i
  | 1 => hbmTy0_1 i
  | _ => ⟨S8448x2048, .f32⟩

abbrev bufTy : (tb : Table) → Fin (tcTables nBuf tb) → BufTy
  | .hbm, ⟨i, _⟩ => hbmTy i
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_cst_0 : Ref sig .tc := ⟨.hbm, 58, rfl⟩
abbrev main_v52 : Ref sig .tc := ⟨.hbm, 59, rfl⟩
abbrev main_c : Ref sig .tc := ⟨.hbm, 60, rfl⟩
abbrev main_v53_0 : Ref sig .tc := ⟨.hbm, 61, rfl⟩
abbrev main_v53_1 : Ref sig .tc := ⟨.hbm, 62, rfl⟩
abbrev main_v53_2 : Ref sig .tc := ⟨.hbm, 63, rfl⟩
abbrev main_v53_3 : Ref sig .tc := ⟨.hbm, 64, rfl⟩
abbrev main_v53_4 : Ref sig .tc := ⟨.hbm, 65, rfl⟩
abbrev main_v53_5 : Ref sig .tc := ⟨.hbm, 66, rfl⟩
abbrev main_v53_6 : Ref sig .tc := ⟨.hbm, 67, rfl⟩
abbrev main_v53_7 : Ref sig .tc := ⟨.hbm, 68, rfl⟩
abbrev main_while0c_c_8 : Ref sig .tc := ⟨.hbm, 69, rfl⟩
abbrev main_while0c_v67 : Ref sig .tc := ⟨.hbm, 70, rfl⟩
abbrev main_while0b_call0_c : Ref sig .tc := ⟨.hbm, 71, rfl⟩
abbrev main_while0b_call0_c_0 : Ref sig .tc := ⟨.hbm, 72, rfl⟩
abbrev main_while0b_call0_c_1 : Ref sig .tc := ⟨.hbm, 73, rfl⟩
abbrev main_while0b_call0_v0 : Ref sig .tc := ⟨.hbm, 74, rfl⟩
abbrev main_while0b_v67 : Ref sig .tc := ⟨.hbm, 75, rfl⟩
abbrev main_while0b_call1_c : Ref sig .tc := ⟨.hbm, 76, rfl⟩
abbrev main_while0b_call1_c_0 : Ref sig .tc := ⟨.hbm, 77, rfl⟩
abbrev main_while0b_call1_c_1 : Ref sig .tc := ⟨.hbm, 78, rfl⟩
abbrev main_while0b_call1_v0 : Ref sig .tc := ⟨.hbm, 79, rfl⟩
abbrev main_while0b_v68 : Ref sig .tc := ⟨.hbm, 80, rfl⟩
abbrev main_while0b_call2_c : Ref sig .tc := ⟨.hbm, 81, rfl⟩
abbrev main_while0b_call2_c_0 : Ref sig .tc := ⟨.hbm, 82, rfl⟩
abbrev main_while0b_call2_c_1 : Ref sig .tc := ⟨.hbm, 83, rfl⟩
abbrev main_while0b_call2_v0 : Ref sig .tc := ⟨.hbm, 84, rfl⟩
abbrev main_while0b_v69 : Ref sig .tc := ⟨.hbm, 85, rfl⟩
abbrev main_while0b_call3_c : Ref sig .tc := ⟨.hbm, 86, rfl⟩
abbrev main_while0b_call3_c_0 : Ref sig .tc := ⟨.hbm, 87, rfl⟩
abbrev main_while0b_call3_v0 : Ref sig .tc := ⟨.hbm, 88, rfl⟩
abbrev main_while0b_v70 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_v0 : Ref sig .tc := ⟨.hbm, 92, rfl⟩
abbrev main_while0b_v71 : Ref sig .tc := ⟨.hbm, 93, rfl⟩
abbrev main_while0b_v72 : Ref sig .tc := ⟨.hbm, 94, rfl⟩
abbrev main_while0b_v73 : Ref sig .tc := ⟨.hbm, 95, rfl⟩
abbrev main_while0b_v74 : Ref sig .tc := ⟨.hbm, 96, rfl⟩
abbrev main_while0b_v75 : Ref sig .tc := ⟨.hbm, 97, rfl⟩
abbrev main_while0b_v76 : Ref sig .tc := ⟨.hbm, 98, rfl⟩
abbrev main_while0b_v77 : Ref sig .tc := ⟨.hbm, 99, rfl⟩
abbrev main_while0b_v78 : Ref sig .tc := ⟨.hbm, 100, rfl⟩
abbrev main_while0b_v79 : Ref sig .tc := ⟨.hbm, 101, rfl⟩
abbrev main_while0b_v80 : Ref sig .tc := ⟨.hbm, 102, rfl⟩
abbrev main_while0b_v81 : Ref sig .tc := ⟨.hbm, 103, rfl⟩
abbrev main_while0b_v82 : Ref sig .tc := ⟨.hbm, 104, rfl⟩
abbrev main_while0b_v83 : Ref sig .tc := ⟨.hbm, 105, rfl⟩
abbrev main_while0b_v84 : Ref sig .tc := ⟨.hbm, 106, rfl⟩
abbrev main_while0b_v85 : Ref sig .tc := ⟨.hbm, 107, rfl⟩
abbrev main_while0b_v86 : Ref sig .tc := ⟨.hbm, 108, rfl⟩
abbrev main_while0b_v87 : Ref sig .tc := ⟨.hbm, 109, rfl⟩
abbrev main_while0b_call5_v0 : Ref sig .tc := ⟨.hbm, 110, rfl⟩
abbrev main_while0b_call5_c : Ref sig .tc := ⟨.hbm, 111, rfl⟩
abbrev main_while0b_call5_c_0 : Ref sig .tc := ⟨.hbm, 112, rfl⟩
abbrev main_while0b_call5_c_1 : Ref sig .tc := ⟨.hbm, 113, rfl⟩
abbrev main_while0b_v88 : Ref sig .tc := ⟨.hbm, 114, rfl⟩
abbrev main_while0b_c_8 : Ref sig .tc := ⟨.hbm, 115, rfl⟩
abbrev main_while0b_v89 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩

abbrev nD : Nat := 1
abbrev τ : Topo := Topo.v7x

variable {F : FTy → Type} [FloatOps F]

abbrev main_while0_count : Scf.Loop 32 := ⟨0#32, 8448#32, 1#32⟩
-- ==== KernelIn.lean ====
abbrev S1x8192x4096 : Shape := ⟨3, ![1, 8192, 4096]⟩
abbrev S4096x14400 : Shape := ⟨2, ![4096, 14400]⟩
abbrev S1x4096x14400 : Shape := ⟨3, ![1, 4096, 14400]⟩
abbrev S1x8192x14336 : Shape := ⟨3, ![1, 8192, 14336]⟩
abbrev S1x512x4096 : Shape := ⟨3, ![1, 512, 4096]⟩
abbrev S1x4096x512 : Shape := ⟨3, ![1, 4096, 512]⟩
abbrev S1x512x512 : Shape := ⟨3, ![1, 512, 512]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S1x8192x4096, .f32⟩
  | .hbm, ⟨1, _⟩ => ⟨S4096x14400, .f32⟩
  | .hbm, ⟨2, _⟩ => ⟨S1x8192x4096, .bf16⟩
  | .hbm, ⟨3, _⟩ => ⟨S1x4096x14400, .f32⟩
  | .hbm, ⟨4, _⟩ => ⟨S1x8192x14336, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512x512, .f32⟩
  | .local _ .vmem, ⟨5, _⟩ => ⟨S1x512x512, .f32⟩
  | .local _ .vmem, ⟨6, _⟩ => ⟨S4096x512, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 28, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceInIdeal.lean ====
abbrev S1x8192x4096 : Shape := ⟨3, ![1, 8192, 4096]⟩
abbrev S4096x14400 : Shape := ⟨2, ![4096, 14400]⟩
abbrev S1x8192x14400 : Shape := ⟨3, ![1, 8192, 14400]⟩
abbrev S1x8192x14336 : Shape := ⟨3, ![1, 8192, 14336]⟩

abbrev nBuf : Space → Nat
  | .hbm => 4
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096x14400, .f32⟩
  | .hbm, ⟨2, _⟩ => ⟨S1x8192x14400, .f32⟩
  | .hbm, ⟨3, _⟩ => ⟨S1x8192x14336, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelGates.lean ====
abbrev S1x8192x4096 : Shape := ⟨3, ![1, 8192, 4096]⟩
abbrev S4096x14400 : Shape := ⟨2, ![4096, 14400]⟩
abbrev S4096x64 : Shape := ⟨2, ![4096, 64]⟩
abbrev S1x4096x64 : Shape := ⟨3, ![1, 4096, 64]⟩
abbrev S1x8192x64 : Shape := ⟨3, ![1, 8192, 64]⟩
abbrev S1x512x4096 : Shape := ⟨3, ![1, 512, 4096]⟩
abbrev S1x512x64 : Shape := ⟨3, ![1, 512, 64]⟩
abbrev S512x4096 : Shape := ⟨2, ![512, 4096]⟩
abbrev S512x64 : Shape := ⟨2, ![512, 64]⟩

abbrev nBuf : Space → Nat
  | .hbm => 6
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S4096x14400, .f32⟩
  | .hbm, ⟨2, _⟩ => ⟨S1x8192x4096, .bf16⟩
  | .hbm, ⟨3, _⟩ => ⟨S4096x64, .f32⟩
  | .hbm, ⟨4, _⟩ => ⟨S1x4096x64, .f32⟩
  | .hbm, ⟨5, _⟩ => ⟨S1x8192x64, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x64, .f32⟩
  | .local _ .vmem, ⟨3, _⟩ => ⟨S1x512x64, .f32⟩
  | .local _ .vmem, ⟨4, _⟩ => ⟨S1x512x64, .f32⟩
  | .local _ .vmem, ⟨5, _⟩ => ⟨S4096x64, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 2 → Memref sig .tc .vmem S1x512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceGatesIdeal.lean ====
abbrev S1x8192x4096 : Shape := ⟨3, ![1, 8192, 4096]⟩
abbrev S4096x14400 : Shape := ⟨2, ![4096, 14400]⟩
abbrev S1x8192x14400 : Shape := ⟨3, ![1, 8192, 14400]⟩
abbrev S1x8192x64 : Shape := ⟨3, ![1, 8192, 64]⟩

abbrev nBuf : Space → Nat
  | .hbm => 4
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096x14400, .f32⟩
  | .hbm, ⟨2, _⟩ => ⟨S1x8192x14400, .f32⟩
  | .hbm, ⟨3, _⟩ => ⟨S1x8192x64, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelOut.lean ====
abbrev S1x8192x4096 : Shape := ⟨3, ![1, 8192, 4096]⟩
abbrev S4096x4096 : Shape := ⟨2, ![4096, 4096]⟩
abbrev S1x4096x4096 : Shape := ⟨3, ![1, 4096, 4096]⟩
abbrev S1x512x4096 : Shape := ⟨3, ![1, 512, 4096]⟩
abbrev S1x4096x512 : Shape := ⟨3, ![1, 4096, 512]⟩
abbrev S1x512x512 : Shape := ⟨3, ![1, 512, 512]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S1x8192x4096, .f32⟩
  | .hbm, ⟨1, _⟩ => ⟨S4096x4096, .f32⟩
  | .hbm, ⟨2, _⟩ => ⟨S1x8192x4096, .bf16⟩
  | .hbm, ⟨3, _⟩ => ⟨S1x4096x4096, .f32⟩
  | .hbm, ⟨4, _⟩ => ⟨S1x8192x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512x512, .f32⟩
  | .local _ .vmem, ⟨5, _⟩ => ⟨S1x512x512, .f32⟩
  | .local _ .vmem, ⟨6, _⟩ => ⟨S4096x512, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== KernelOutIdeal.lean ====
abbrev S1x8192x4096 : Shape := ⟨3, ![1, 8192, 4096]⟩
abbrev S4096x4096 : Shape := ⟨2, ![4096, 4096]⟩
abbrev S1x4096x4096 : Shape := ⟨3, ![1, 4096, 4096]⟩
abbrev S1x512x4096 : Shape := ⟨3, ![1, 512, 4096]⟩
abbrev S1x4096x512 : Shape := ⟨3, ![1, 4096, 512]⟩
abbrev S1x512x512 : Shape := ⟨3, ![1, 512, 512]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S1x8192x4096, .f32⟩
  | .hbm, ⟨1, _⟩ => ⟨S4096x4096, .f32⟩
  | .hbm, ⟨2, _⟩ => ⟨S1x8192x4096, .bf16⟩
  | .hbm, ⟨3, _⟩ => ⟨S1x4096x4096, .f32⟩
  | .hbm, ⟨4, _⟩ => ⟨S1x8192x4096, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512x512, .f32⟩
  | .local _ .vmem, ⟨5, _⟩ => ⟨S1x512x512, .f32⟩
  | .local _ .vmem, ⟨6, _⟩ => ⟨S4096x512, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceOutIdeal.lean ====
abbrev S1x8192x4096 : Shape := ⟨3, ![1, 8192, 4096]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096x4096, .f32⟩
  | .hbm, ⟨2, _⟩ => ⟨S1x8192x4096, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelGlu.lean ====
abbrev S1x8192x4096 : Shape := ⟨3, ![1, 8192, 4096]⟩
abbrev S4096x8192 : Shape := ⟨2, ![4096, 8192]⟩
abbrev S1x4096x8192 : Shape := ⟨3, ![1, 4096, 8192]⟩
abbrev S1x8192x8192 : Shape := ⟨3, ![1, 8192, 8192]⟩
abbrev S1x512x4096 : Shape := ⟨3, ![1, 512, 4096]⟩
abbrev S1x4096x512 : Shape := ⟨3, ![1, 4096, 512]⟩
abbrev S1x512x512 : Shape := ⟨3, ![1, 512, 512]⟩
abbrev S4096x512 : Shape := ⟨2, ![4096, 512]⟩
abbrev S512x4096 : Shape := ⟨2, ![512, 4096]⟩
abbrev S512x512 : Shape := ⟨2, ![512, 512]⟩

abbrev nBuf : Space → Nat
  | .hbm => 5
  | .vmem => 7
  | .smem => 0
  | _ => 0

abbrev bufTy : (tb : Table) → Fin (tcTables nBuf tb) → BufTy
  | .hbm, ⟨0, _⟩ => ⟨S1x8192x4096, .f32⟩
  | .hbm, ⟨1, _⟩ => ⟨S4096x8192, .f32⟩
  | .hbm, ⟨2, _⟩ => ⟨S1x8192x4096, .bf16⟩
  | .hbm, ⟨3, _⟩ => ⟨S1x4096x8192, .f32⟩
  | .hbm, ⟨4, _⟩ => ⟨S1x8192x8192, .f32⟩
  | .local _ .vmem, ⟨0, _⟩ => ⟨S1x512x4096, .bf16⟩
  | .local _ .vmem, ⟨1, _⟩ => ⟨S1x512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x512x512, .f32⟩
  | .local _ .vmem, ⟨5, _⟩ => ⟨S1x512x512, .f32⟩
  | .local _ .vmem, ⟨6, _⟩ => ⟨S4096x512, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 16, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceGluIdeal.lean ====
abbrev S1x8192x4096 : Shape := ⟨3, ![1, 8192, 4096]⟩
abbrev S4096x8192 : Shape := ⟨2, ![4096, 8192]⟩
abbrev S1x8192x8192 : Shape := ⟨3, ![1, 8192, 8192]⟩

abbrev nBuf : Space → Nat
  | .hbm => 3
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096x8192, .f32⟩
  | .hbm, ⟨2, _⟩ => ⟨S1x8192x8192, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelUp.lean ====
abbrev S16x1024x4096 : Shape := ⟨3, ![16, 1024, 4096]⟩
abbrev S16x4096x768 : Shape := ⟨3, ![16, 4096, 768]⟩
abbrev S16x1024x768 : Shape := ⟨3, ![16, 1024, 768]⟩
abbrev S1x512x4096 : Shape := ⟨3, ![1, 512, 4096]⟩
abbrev S1x4096x384 : Shape := ⟨3, ![1, 4096, 384]⟩
abbrev S1x512x384 : Shape := ⟨3, ![1, 512, 384]⟩
abbrev S4096x384 : Shape := ⟨2, ![4096, 384]⟩
abbrev S512x4096 : Shape := ⟨2, ![512, 4096]⟩
abbrev S512x384 : Shape := ⟨2, ![512, 384]⟩

abbrev nBuf : Space → Nat
  | .hbm => 3
  | .vmem => 7
  | .smem => 0
  | _ => 0

abbrev bufTy : (tb : Table) → Fin (tcTables nBuf tb) → BufTy
  | .hbm, ⟨0, _⟩ => ⟨S16x1024x4096, .f32⟩
  | .hbm, ⟨1, _⟩ => ⟨S16x4096x768, .f32⟩
  | .hbm, ⟨2, _⟩ => ⟨S16x1024x768, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x384, .f32⟩
  | .local _ .vmem, ⟨3, _⟩ => ⟨S1x4096x384, .f32⟩
  | .local _ .vmem, ⟨4, _⟩ => ⟨S1x512x384, .f32⟩
  | .local _ .vmem, ⟨5, _⟩ => ⟨S1x512x384, .f32⟩
  | .local _ .vmem, ⟨6, _⟩ => ⟨S4096x384, .bf16⟩
  | _, _ => ⟨S16x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceUpIdeal.lean ====
abbrev S16x1024x4096 : Shape := ⟨3, ![16, 1024, 4096]⟩
abbrev S16x4096x768 : Shape := ⟨3, ![16, 4096, 768]⟩
abbrev S16x1024x768 : Shape := ⟨3, ![16, 1024, 768]⟩

abbrev nBuf : Space → Nat
  | .hbm => 3
  | .vmem => 0
  | .smem => 0
  | _ => 0

abbrev bufTy : (tb : Table) → Fin (tcTables nBuf tb) → BufTy
  | .hbm, ⟨0, _⟩ => ⟨S16x1024x4096, .f32⟩
  | .hbm, ⟨1, _⟩ => ⟨S16x4096x768, .f32⟩
  | .hbm, ⟨2, _⟩ => ⟨S16x1024x768, .f32⟩
  | _, _ => ⟨S16x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelRoute.lean ====
abbrev S1x8192x4096 : Shape := ⟨3, ![1, 8192, 4096]⟩
abbrev S4096x16 : Shape := ⟨2, ![4096, 16]⟩
abbrev S16x4096x768 : Shape := ⟨3, ![16, 4096, 768]⟩
abbrev S1x8192x16 : Shape := ⟨3, ![1, 8192, 16]⟩
abbrev S_ : Shape := ⟨0, ![]⟩
abbrev S1x8192 : Shape := ⟨2, ![1, 8192]⟩
abbrev S1x8192x1 : Shape := ⟨3, ![1, 8192, 1]⟩
abbrev S1x16x8192 : Shape := ⟨3, ![1, 16, 8192]⟩
abbrev S1x16x1024 : Shape := ⟨3, ![1, 16, 1024]⟩
abbrev S1x16x1024x1 : Shape := ⟨4, ![1, 16, 1024, 1]⟩
abbrev S1x16x1024x4096 : Shape := ⟨4, ![1, 16, 1024, 4096]⟩
abbrev S16x1024x4096 : Shape := ⟨3, ![16, 1024, 4096]⟩
abbrev S16x1024x768 : Shape := ⟨3, ![16, 1024, 768]⟩
abbrev S1x512x4096 : Shape := ⟨3, ![1, 512, 4096]⟩
abbrev S1x4096x384 : Shape := ⟨3, ![1, 4096, 384]⟩
abbrev S1x512x384 : Shape := ⟨3, ![1, 512, 384]⟩
abbrev S4096x384 : Shape := ⟨2, ![4096, 384]⟩
abbrev S512x4096 : Shape := ⟨2, ![512, 4096]⟩
abbrev S512x384 : Shape := ⟨2, ![512, 384]⟩

abbrev nBuf : Space → Nat
  | .hbm => 32
  | .vmem => 7
  | .smem => 0
  | _ => 0

abbrev bufTy : (tb : Table) → Fin (tcTables nBuf tb) → BufTy
  | .hbm, ⟨0, _⟩ => ⟨S1x8192x4096, .f32⟩
  | .hbm, ⟨1, _⟩ => ⟨S4096x16, .f32⟩
  | .hbm, ⟨2, _⟩ => ⟨S16x4096x768, .f32⟩
  | .hbm, ⟨3, _⟩ => ⟨S1x8192x16, .f32⟩
  | .hbm, ⟨4, _⟩ => ⟨S_, .f32⟩
  | .hbm, ⟨5, _⟩ => ⟨S1x8192, .f32⟩
  | .hbm, ⟨6, _⟩ => ⟨S_, .f32⟩
  | .hbm, ⟨7, _⟩ => ⟨S1x8192, .f32⟩
  | .hbm, ⟨8, _⟩ => ⟨S1x8192, .f32⟩
  | .hbm, ⟨9, _⟩ => ⟨S1x8192x1, .f32⟩
  | .hbm, ⟨10, _⟩ => ⟨S1x8192x16, .f32⟩
  | .hbm, ⟨11, _⟩ => ⟨S1x8192x16, .f32⟩
  | .hbm, ⟨12, _⟩ => ⟨S1x8192x16, .f32⟩
  | .hbm, ⟨13, _⟩ => ⟨S_, .f32⟩
  | .hbm, ⟨14, _⟩ => ⟨S1x8192, .f32⟩
  | .hbm, ⟨15, _⟩ => ⟨S1x8192x1, .f32⟩
  | .hbm, ⟨16, _⟩ => ⟨S1x8192x16, .f32⟩
  | .hbm, ⟨17, _⟩ => ⟨S1x8192x16, .f32⟩
  | .hbm, ⟨18, _⟩ => ⟨S1x16x8192, .f32⟩
  | .hbm, ⟨19, _⟩ => ⟨S1x16x1024, .f32⟩
  | .hbm, ⟨20, _⟩ => ⟨S1x16x1024, .i32⟩
  | .hbm, ⟨21, _⟩ => ⟨S_, .i32⟩
  | .hbm, ⟨22, _⟩ => ⟨S1x16x1024, .i32⟩
  | .hbm, ⟨23, _⟩ => ⟨S1x16x1024, .i1⟩
  | .hbm, ⟨24, _⟩ => ⟨S_, .i32⟩
  | .hbm, ⟨25, _⟩ => ⟨S1x16x1024, .i32⟩
  | .hbm, ⟨26, _⟩ => ⟨S1x16x1024, .i32⟩
  | .hbm, ⟨27, _⟩ => ⟨S1x16x1024, .i32⟩
  | .hbm, ⟨28, _⟩ => ⟨S1x16x1024x1, .i32⟩
  | .hbm, ⟨29, _⟩ => ⟨S1x16x1024x4096, .f32⟩
  | .hbm, ⟨30, _⟩ => ⟨S16x1024x4096, .f32⟩
  | .hbm, ⟨31, _⟩ => ⟨S16x1024x768, .f32⟩
  | .local _ .vmem, ⟨0, _⟩ => ⟨S1x512x4096, .f32⟩
  | .local _ .vmem, ⟨1, _⟩ => ⟨S1x512x4096, .f32⟩
  | .local _ .vmem, ⟨2, _⟩ => ⟨S1x4096x384, .f32⟩
  | .local _ .vmem, ⟨3, _⟩ => ⟨S1x4096x384, .f32⟩
  | .local _ .vmem, ⟨4, _⟩ => ⟨S1x512x384, .f32⟩
  | .local _ .vmem, ⟨5, _⟩ => ⟨S1x512x384, .f32⟩
  | .local _ .vmem, ⟨6, _⟩ => ⟨S4096x384, .bf16⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_values : Ref sig .tc := ⟨.hbm, 19, rfl⟩
abbrev main_indices : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 2, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceRouteIdeal.lean ====
abbrev S1x8192x4096 : Shape := ⟨3, ![1, 8192, 4096]⟩
abbrev S4096x16 : Shape := ⟨2, ![4096, 16]⟩
abbrev S16x4096x768 : Shape := ⟨3, ![16, 4096, 768]⟩
abbrev S1x8192x16 : Shape := ⟨3, ![1, 8192, 16]⟩
abbrev S_ : Shape := ⟨0, ![]⟩
abbrev S1x8192 : Shape := ⟨2, ![1, 8192]⟩
abbrev S1x8192x1 : Shape := ⟨3, ![1, 8192, 1]⟩
abbrev S1x16x8192 : Shape := ⟨3, ![1, 16, 8192]⟩
abbrev S1x16x1024 : Shape := ⟨3, ![1, 16, 1024]⟩
abbrev S1x16x1024x1 : Shape := ⟨4, ![1, 16, 1024, 1]⟩
abbrev S1x16x1024x4096 : Shape := ⟨4, ![1, 16, 1024, 4096]⟩
abbrev S16x768x1x1024 : Shape := ⟨4, ![16, 768, 1, 1024]⟩
abbrev S1x16x1024x768 : Shape := ⟨4, ![1, 16, 1024, 768]⟩
abbrev S16x1024x768 : Shape := ⟨3, ![16, 1024, 768]⟩

abbrev nBuf : Space → Nat
  | .hbm => 33
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S4096x16, .f32⟩
  | .hbm, ⟨2, _⟩ => ⟨S16x4096x768, .f32⟩
  | .hbm, ⟨3, _⟩ => ⟨S1x8192x16, .f32⟩
  | .hbm, ⟨4, _⟩ => ⟨S_, .f32⟩
  | .hbm, ⟨5, _⟩ => ⟨S1x8192, .f32⟩
  | .hbm, ⟨6, _⟩ => ⟨S_, .f32⟩
  | .hbm, ⟨7, _⟩ => ⟨S1x8192, .f32⟩
  | .hbm, ⟨8, _⟩ => ⟨S1x8192, .f32⟩
  | .hbm, ⟨9, _⟩ => ⟨S1x8192x1, .f32⟩
  | .hbm, ⟨10, _⟩ => ⟨S1x8192x16, .f32⟩
  | .hbm, ⟨11, _⟩ => ⟨S1x8192x16, .f32⟩
  | .hbm, ⟨12, _⟩ => ⟨S1x8192x16, .f32⟩
  | .hbm, ⟨13, _⟩ => ⟨S_, .f32⟩
  | .hbm, ⟨14, _⟩ => ⟨S1x8192, .f32⟩
  | .hbm, ⟨15, _⟩ => ⟨S1x8192x1, .f32⟩
  | .hbm, ⟨16, _⟩ => ⟨S1x8192x16, .f32⟩
  | .hbm, ⟨17, _⟩ => ⟨S1x8192x16, .f32⟩
  | .hbm, ⟨18, _⟩ => ⟨S1x16x8192, .f32⟩
  | .hbm, ⟨19, _⟩ => ⟨S1x16x1024, .f32⟩
  | .hbm, ⟨20, _⟩ => ⟨S1x16x1024, .i32⟩
  | .hbm, ⟨21, _⟩ => ⟨S_, .i32⟩
  | .hbm, ⟨22, _⟩ => ⟨S1x16x1024, .i32⟩
  | .hbm, ⟨23, _⟩ => ⟨S1x16x1024, .i1⟩
  | .hbm, ⟨24, _⟩ => ⟨S_, .i32⟩
  | .hbm, ⟨25, _⟩ => ⟨S1x16x1024, .i32⟩
  | .hbm, ⟨26, _⟩ => ⟨S1x16x1024, .i32⟩
  | .hbm, ⟨27, _⟩ => ⟨S1x16x1024, .i32⟩
  | .hbm, ⟨28, _⟩ => ⟨S1x16x1024x1, .i32⟩
  | .hbm, ⟨29, _⟩ => ⟨S1x16x1024x4096, .f32⟩
  | .hbm, ⟨30, _⟩ => ⟨S16x768x1x1024, .f32⟩
  | .hbm, ⟨31, _⟩ => ⟨S1x16x1024x768, .f32⟩
  | .hbm, ⟨32, _⟩ => ⟨S16x1024x768, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_values : Ref sig .tc := ⟨.hbm, 19, rfl⟩
abbrev main_indices : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== KernelDown.lean ====
abbrev S16x1024x768 : Shape := ⟨3, ![16, 1024, 768]⟩
abbrev S16x384x4096 : Shape := ⟨3, ![16, 384, 4096]⟩
abbrev S16x1024x384 : Shape := ⟨3, ![16, 1024, 384]⟩
abbrev S_ : Shape := ⟨0, ![]⟩
abbrev S16x1024x4096 : Shape := ⟨3, ![16, 1024, 4096]⟩
abbrev S1x512x384 : Shape := ⟨3, ![1, 512, 384]⟩
abbrev S1x384x512 : Shape := ⟨3, ![1, 384, 512]⟩
abbrev S1x512x512 : Shape := ⟨3, ![1, 512, 512]⟩
abbrev S384x512 : Shape := ⟨2, ![384, 512]⟩
abbrev S512x384 : Shape := ⟨2, ![512, 384]⟩
abbrev S512x512 : Shape := ⟨2, ![512, 512]⟩

abbrev nBuf : Space → Nat
  | .hbm => 15
  | .vmem => 7
  | .smem => 0
  | _ => 0

abbrev bufTy : (tb : Table) → Fin (tcTables nBuf tb) → BufTy
  | .hbm, ⟨0, _⟩ => ⟨S16x1024x768, .f32⟩
  | .hbm, ⟨1, _⟩ => ⟨S16x384x4096, .f32⟩
  | .hbm, ⟨2, _⟩ => ⟨S16x1024x384, .f32⟩
  | .hbm, ⟨3, _⟩ => ⟨S16x1024x384, .f32⟩
  | .hbm, ⟨4, _⟩ => ⟨S16x1024x384, .f32⟩
  | .hbm, ⟨5, _⟩ => ⟨S_, .f32⟩
  | .hbm, ⟨6, _⟩ => ⟨S16x1024x384, .f32⟩
  | .hbm, ⟨7, _⟩ => ⟨S16x1024x384, .f32⟩
  | .hbm, ⟨8, _⟩ => ⟨S_, .f32⟩
  | .hbm, ⟨9, _⟩ => ⟨S16x1024x384, .f32⟩
  | .hbm, ⟨10, _⟩ => ⟨S16x1024x384, .f32⟩
  | .hbm, ⟨11, _⟩ => ⟨S16x1024x384, .f32⟩
  | .hbm, ⟨12, _⟩ => ⟨S16x1024x384, .f32⟩
  | .hbm, ⟨13, _⟩ => ⟨S16x1024x384, .f32⟩
  | .hbm, ⟨14, _⟩ => ⟨S16x1024x4096, .f32⟩
  | .local _ .vmem, ⟨0, _⟩ => ⟨S1x512x384, .f32⟩
  | .local _ .vmem, ⟨1, _⟩ => ⟨S1x512x384, .f32⟩
  | .local _ .vmem, ⟨2, _⟩ => ⟨S1x384x512, .f32⟩
  | .local _ .vmem, ⟨3, _⟩ => ⟨S1x384x512, .f32⟩
  | .local _ .vmem, ⟨4, _⟩ => ⟨S1x512x512, .f32⟩
  | .local _ .vmem, ⟨5, _⟩ => ⟨S1x512x512, .f32⟩
  | .local _ .vmem, ⟨6, _⟩ => ⟨S384x512, .bf16⟩
  | _, _ => ⟨S16x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 8, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== ReferenceDownIdeal.lean ====
abbrev S16x1024x768 : Shape := ⟨3, ![16, 1024, 768]⟩
abbrev S16x384x4096 : Shape := ⟨3, ![16, 384, 4096]⟩
abbrev S16x1024x384 : Shape := ⟨3, ![16, 1024, 384]⟩
abbrev S_ : Shape := ⟨0, ![]⟩
abbrev S16x1024x4096 : Shape := ⟨3, ![16, 1024, 4096]⟩

abbrev nBuf : Space → Nat
  | .hbm => 15
  | .vmem => 0
  | .smem => 0
  | _ => 0

abbrev bufTy : (tb : Table) → Fin (tcTables nBuf tb) → BufTy
  | .hbm, ⟨0, _⟩ => ⟨S16x1024x768, .f32⟩
  | .hbm, ⟨1, _⟩ => ⟨S16x384x4096, .f32⟩
  | .hbm, ⟨2, _⟩ => ⟨S16x1024x384, .f32⟩
  | .hbm, ⟨3, _⟩ => ⟨S16x1024x384, .f32⟩
  | .hbm, ⟨4, _⟩ => ⟨S16x1024x384, .f32⟩
  | .hbm, ⟨5, _⟩ => ⟨S_, .f32⟩
  | .hbm, ⟨6, _⟩ => ⟨S16x1024x384, .f32⟩
  | .hbm, ⟨7, _⟩ => ⟨S16x1024x384, .f32⟩
  | .hbm, ⟨8, _⟩ => ⟨S_, .f32⟩
  | .hbm, ⟨9, _⟩ => ⟨S16x1024x384, .f32⟩
  | .hbm, ⟨10, _⟩ => ⟨S16x1024x384, .f32⟩
  | .hbm, ⟨11, _⟩ => ⟨S16x1024x384, .f32⟩
  | .hbm, ⟨12, _⟩ => ⟨S16x1024x384, .f32⟩
  | .hbm, ⟨13, _⟩ => ⟨S16x1024x384, .f32⟩
  | .hbm, ⟨14, _⟩ => ⟨S16x1024x4096, .f32⟩
  | _, _ => ⟨S16x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]
-- ==== KernelDrive.lean ====
abbrev S8448x4096 : Shape := ⟨2, ![8448, 4096]⟩
abbrev S2x256x64x16 : Shape := ⟨4, ![2, 256, 64, 16]⟩
abbrev S8x8 : Shape := ⟨2, ![8, 8]⟩
abbrev S_ : Shape := ⟨0, ![]⟩
abbrev S2x32x8x64x16 : Shape := ⟨5, ![2, 32, 8, 64, 16]⟩
abbrev S8x1x8x1 : Shape := ⟨4, ![8, 1, 8, 1]⟩
abbrev S2x32x16x8x64 : Shape := ⟨5, ![2, 32, 16, 8, 64]⟩
abbrev S2x32x1x16x8x64 : Shape := ⟨6, ![2, 32, 1, 16, 8, 64]⟩
abbrev S1x1x8x1x8x1 : Shape := ⟨6, ![1, 1, 8, 1, 8, 1]⟩
abbrev S2x32x8x16x8x64 : Shape := ⟨6, ![2, 32, 8, 16, 8, 64]⟩
abbrev S2x32x128x512 : Shape := ⟨4, ![2, 32, 128, 512]⟩
abbrev S1x32x128x512 : Shape := ⟨4, ![1, 32, 128, 512]⟩
abbrev S32x128x512 : Shape := ⟨3, ![32, 128, 512]⟩
abbrev S32x128x1x512 : Shape := ⟨4, ![32, 128, 1, 512]⟩
abbrev S32x128x4x512 : Shape := ⟨4, ![32, 128, 4, 512]⟩
abbrev S32x128x2048 : Shape := ⟨3, ![32, 128, 2048]⟩
abbrev S4x8448x16384 : Shape := ⟨3, ![4, 8448, 16384]⟩
abbrev S1056x128 : Shape := ⟨2, ![1056, 128]⟩
abbrev S1x128x2048 : Shape := ⟨3, ![1, 128, 2048]⟩
abbrev S4x1056x512 : Shape := ⟨3, ![4, 1056, 512]⟩
abbrev S128x2048 : Shape := ⟨2, ![128, 2048]⟩
abbrev S1056x2048 : Shape := ⟨2, ![1056, 2048]⟩
abbrev S1056x512 : Shape := ⟨2, ![1056, 512]⟩
abbrev S1x1056x512 : Shape := ⟨3, ![1, 1056, 512]⟩

abbrev nBuf : Space → Nat
  | .hbm => 43
  | .vmem => 6
  | .smem => 0
  | _ => 0

abbrev bufTy : (tb : Table) → Fin (tcTables nBuf tb) → BufTy
  | .hbm, ⟨0, _⟩ => ⟨S8448x4096, .f32⟩
  | .hbm, ⟨1, _⟩ => ⟨S2x256x64x16, .f32⟩
  | .hbm, ⟨2, _⟩ => ⟨S2x256x64x16, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S2x32x8x64x16, .f32⟩
  | .hbm, ⟨11, _⟩ => ⟨S8x1x8x1, .f32⟩
  | .hbm, ⟨12, _⟩ => ⟨S2x32x16x8x64, .f32⟩
  | .hbm, ⟨13, _⟩ => ⟨S2x32x1x16x8x64, .f32⟩
  | .hbm, ⟨14, _⟩ => ⟨S1x1x8x1x8x1, .f32⟩
  | .hbm, ⟨15, _⟩ => ⟨S2x32x8x16x8x64, .f32⟩
  | .hbm, ⟨16, _⟩ => ⟨S2x32x8x16x8x64, .f32⟩
  | .hbm, ⟨17, _⟩ => ⟨S2x32x8x16x8x64, .f32⟩
  | .hbm, ⟨18, _⟩ => ⟨S2x32x128x512, .f32⟩
  | .hbm, ⟨19, _⟩ => ⟨S2x32x8x64x16, .f32⟩
  | .hbm, ⟨20, _⟩ => ⟨S8x1x8x1, .f32⟩
  | .hbm, ⟨21, _⟩ => ⟨S2x32x16x8x64, .f32⟩
  | .hbm, ⟨22, _⟩ => ⟨S2x32x1x16x8x64, .f32⟩
  | .hbm, ⟨23, _⟩ => ⟨S1x1x8x1x8x1, .f32⟩
  | .hbm, ⟨24, _⟩ => ⟨S2x32x8x16x8x64, .f32⟩
  | .hbm, ⟨25, _⟩ => ⟨S2x32x8x16x8x64, .f32⟩
  | .hbm, ⟨26, _⟩ => ⟨S2x32x8x16x8x64, .f32⟩
  | .hbm, ⟨27, _⟩ => ⟨S2x32x128x512, .f32⟩
  | .hbm, ⟨28, _⟩ => ⟨S1x32x128x512, .f32⟩
  | .hbm, ⟨29, _⟩ => ⟨S32x128x512, .f32⟩
  | .hbm, ⟨30, _⟩ => ⟨S1x32x128x512, .f32⟩
  | .hbm, ⟨31, _⟩ => ⟨S32x128x512, .f32⟩
  | .hbm, ⟨32, _⟩ => ⟨S1x32x128x512, .f32⟩
  | .hbm, ⟨33, _⟩ => ⟨S32x128x512, .f32⟩
  | .hbm, ⟨34, _⟩ => ⟨S1x32x128x512, .f32⟩
  | .hbm, ⟨35, _⟩ => ⟨S32x128x512, .f32⟩
  | .hbm, ⟨36, _⟩ => ⟨S32x128x1x512, .f32⟩
  | .hbm, ⟨37, _⟩ => ⟨S32x128x1x512, .f32⟩
  | .hbm, ⟨38, _⟩ => ⟨S32x128x1x512, .f32⟩
  | .hbm, ⟨39, _⟩ => ⟨S32x128x1x512, .f32⟩
  | .hbm, ⟨40, _⟩ => ⟨S32x128x4x512, .f32⟩
  | .hbm, ⟨41, _⟩ => ⟨S32x128x2048, .f32⟩
  | .hbm, ⟨42, _⟩ => ⟨S4x8448x16384, .f32⟩
  | .local _ .vmem, ⟨0, _⟩ => ⟨S1056x128, .f32⟩
  | .local _ .vmem, ⟨1, _⟩ => ⟨S1056x128, .f32⟩
  | .local _ .vmem, ⟨2, _⟩ => ⟨S1x128x2048, .f32⟩
  | .local _ .vmem, ⟨3, _⟩ => ⟨S1x128x2048, .f32⟩
  | .local _ .vmem, ⟨4, _⟩ => ⟨S4x1056x512, .f32⟩
  | .local _ .vmem, ⟨5, _⟩ => ⟨S4x1056x512, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1056x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDriveIdeal.lean ====
abbrev S8448x4096 : Shape := ⟨2, ![8448, 4096]⟩
abbrev S2x256x64x16 : Shape := ⟨4, ![2, 256, 64, 16]⟩
abbrev S8448x256x16 : Shape := ⟨3, ![8448, 256, 16]⟩
abbrev S256x8448x2x64 : Shape := ⟨4, ![256, 8448, 2, 64]⟩
abbrev S2x8448x256x64 : Shape := ⟨4, ![2, 8448, 256, 64]⟩
abbrev S1x8448x256x64 : Shape := ⟨4, ![1, 8448, 256, 64]⟩
abbrev S8448x256x64 : Shape := ⟨3, ![8448, 256, 64]⟩
abbrev S4x8448x256x64 : Shape := ⟨4, ![4, 8448, 256, 64]⟩
abbrev S4x8448x16384 : Shape := ⟨3, ![4, 8448, 16384]⟩

abbrev nBuf : Space → Nat
  | .hbm => 22
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S2x256x64x16, .f32⟩
  | .hbm, ⟨2, _⟩ => ⟨S2x256x64x16, .f32⟩
  | .hbm, ⟨3, _⟩ => ⟨S8448x256x16, .f32⟩
  | .hbm, ⟨4, _⟩ => ⟨S256x8448x2x64, .f32⟩
  | .hbm, ⟨5, _⟩ => ⟨S2x8448x256x64, .f32⟩
  | .hbm, ⟨6, _⟩ => ⟨S256x8448x2x64, .f32⟩
  | .hbm, ⟨7, _⟩ => ⟨S2x8448x256x64, .f32⟩
  | .hbm, ⟨8, _⟩ => ⟨S1x8448x256x64, .f32⟩
  | .hbm, ⟨9, _⟩ => ⟨S8448x256x64, .f32⟩
  | .hbm, ⟨10, _⟩ => ⟨S1x8448x256x64, .f32⟩
  | .hbm, ⟨11, _⟩ => ⟨S8448x256x64, .f32⟩
  | .hbm, ⟨12, _⟩ => ⟨S1x8448x256x64, .f32⟩
  | .hbm, ⟨13, _⟩ => ⟨S8448x256x64, .f32⟩
  | .hbm, ⟨14, _⟩ => ⟨S1x8448x256x64, .f32⟩
  | .hbm, ⟨15, _⟩ => ⟨S8448x256x64, .f32⟩
  | .hbm, ⟨16, _⟩ => ⟨S1x8448x256x64, .f32⟩
  | .hbm, ⟨17, _⟩ => ⟨S1x8448x256x64, .f32⟩
  | .hbm, ⟨18, _⟩ => ⟨S1x8448x256x64, .f32⟩
  | .hbm, ⟨19, _⟩ => ⟨S1x8448x256x64, .f32⟩
  | .hbm, ⟨20, _⟩ => ⟨S4x8448x256x64, .f32⟩
  | .hbm, ⟨21, _⟩ => ⟨S4x8448x16384, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩

abbrev nD : Nat := 1
abbrev τ : Topo := Topo.v7x

variable {F : FTy → Type} [FloatOps F]
-- ==== KernelRead.lean ====
abbrev S2x8448x16384 : Shape := ⟨3, ![2, 8448, 16384]⟩
abbrev S8448x4096 : Shape := ⟨2, ![8448, 4096]⟩
abbrev S2x256x16x64 : Shape := ⟨4, ![2, 256, 16, 64]⟩
abbrev S4096 : Shape := ⟨1, ![4096]⟩
abbrev S8x8 : Shape := ⟨2, ![8, 8]⟩
abbrev S_ : Shape := ⟨0, ![]⟩
abbrev S2x32x8x16x64 : Shape := ⟨5, ![2, 32, 8, 16, 64]⟩
abbrev S8x1x8x1 : Shape := ⟨4, ![8, 1, 8, 1]⟩
abbrev S2x32x8x64x16 : Shape := ⟨5, ![2, 32, 8, 64, 16]⟩
abbrev S2x32x8x64x1x16 : Shape := ⟨6, ![2, 32, 8, 64, 1, 16]⟩
abbrev S1x1x8x1x8x1 : Shape := ⟨6, ![1, 1, 8, 1, 8, 1]⟩
abbrev S2x32x8x64x8x16 : Shape := ⟨6, ![2, 32, 8, 64, 8, 16]⟩
abbrev S2x32x512x128 : Shape := ⟨4, ![2, 32, 512, 128]⟩
abbrev S1x32x512x128 : Shape := ⟨4, ![1, 32, 512, 128]⟩
abbrev S32x512x128 : Shape := ⟨3, ![32, 512, 128]⟩
abbrev S32x1x512x128 : Shape := ⟨4, ![32, 1, 512, 128]⟩
abbrev S32x4x512x128 : Shape := ⟨4, ![32, 4, 512, 128]⟩
abbrev S1x4096 : Shape := ⟨2, ![1, 4096]⟩
abbrev S2x1056x512 : Shape := ⟨3, ![2, 1056, 512]⟩
abbrev S1056x128 : Shape := ⟨2, ![1056, 128]⟩
abbrev S1x4x512x128 : Shape := ⟨4, ![1, 4, 512, 128]⟩
abbrev S1x128 : Shape := ⟨2, ![1, 128]⟩
abbrev S1x1056x512 : Shape := ⟨3, ![1, 1056, 512]⟩
abbrev S1056x512 : Shape := ⟨2, ![1056, 512]⟩
abbrev S1x1x512x128 : Shape := ⟨4, ![1, 1, 512, 128]⟩
abbrev S512x128 : Shape := ⟨2, ![512, 128]⟩

abbrev nBuf : Space → Nat
  | .hbm => 47
  | .vmem => 12
  | .smem => 0
  | _ => 0

abbrev bufTy : (tb : Table) → Fin (tcTables nBuf tb) → BufTy
  | .hbm, ⟨0, _⟩ => ⟨S2x8448x16384, .f32⟩
  | .hbm, ⟨1, _⟩ => ⟨S2x8448x16384, .f32⟩
  | .hbm, ⟨2, _⟩ => ⟨S8448x4096, .f32⟩
  | .hbm, ⟨3, _⟩ => ⟨S2x256x16x64, .f32⟩
  | .hbm, ⟨4, _⟩ => ⟨S2x256x16x64, .f32⟩
  | .hbm, ⟨5, _⟩ => ⟨S4096, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S2x32x8x16x64, .f32⟩
  | .hbm, ⟨14, _⟩ => ⟨S8x1x8x1, .f32⟩
  | .hbm, ⟨15, _⟩ => ⟨S2x32x8x64x16, .f32⟩
  | .hbm, ⟨16, _⟩ => ⟨S2x32x8x64x1x16, .f32⟩
  | .hbm, ⟨17, _⟩ => ⟨S1x1x8x1x8x1, .f32⟩
  | .hbm, ⟨18, _⟩ => ⟨S2x32x8x64x8x16, .f32⟩
  | .hbm, ⟨19, _⟩ => ⟨S2x32x8x64x8x16, .f32⟩
  | .hbm, ⟨20, _⟩ => ⟨S2x32x8x64x8x16, .f32⟩
  | .hbm, ⟨21, _⟩ => ⟨S2x32x512x128, .f32⟩
  | .hbm, ⟨22, _⟩ => ⟨S2x256x16x64, .f32⟩
  | .hbm, ⟨23, _⟩ => ⟨S2x32x8x16x64, .f32⟩
  | .hbm, ⟨24, _⟩ => ⟨S8x1x8x1, .f32⟩
  | .hbm, ⟨25, _⟩ => ⟨S2x32x8x64x16, .f32⟩
  | .hbm, ⟨26, _⟩ => ⟨S2x32x8x64x1x16, .f32⟩
  | .hbm, ⟨27, _⟩ => ⟨S1x1x8x1x8x1, .f32⟩
  | .hbm, ⟨28, _⟩ => ⟨S2x32x8x64x8x16, .f32⟩
  | .hbm, ⟨29, _⟩ => ⟨S2x32x8x64x8x16, .f32⟩
  | .hbm, ⟨30, _⟩ => ⟨S2x32x8x64x8x16, .f32⟩
  | .hbm, ⟨31, _⟩ => ⟨S2x32x512x128, .f32⟩
  | .hbm, ⟨32, _⟩ => ⟨S1x32x512x128, .f32⟩
  | .hbm, ⟨33, _⟩ => ⟨S32x512x128, .f32⟩
  | .hbm, ⟨34, _⟩ => ⟨S1x32x512x128, .f32⟩
  | .hbm, ⟨35, _⟩ => ⟨S32x512x128, .f32⟩
  | .hbm, ⟨36, _⟩ => ⟨S1x32x512x128, .f32⟩
  | .hbm, ⟨37, _⟩ => ⟨S32x512x128, .f32⟩
  | .hbm, ⟨38, _⟩ => ⟨S1x32x512x128, .f32⟩
  | .hbm, ⟨39, _⟩ => ⟨S32x512x128, .f32⟩
  | .hbm, ⟨40, _⟩ => ⟨S32x1x512x128, .f32⟩
  | .hbm, ⟨41, _⟩ => ⟨S32x1x512x128, .f32⟩
  | .hbm, ⟨42, _⟩ => ⟨S32x1x512x128, .f32⟩
  | .hbm, ⟨43, _⟩ => ⟨S32x1x512x128, .f32⟩
  | .hbm, ⟨44, _⟩ => ⟨S32x4x512x128, .f32⟩
  | .hbm, ⟨45, _⟩ => ⟨S1x4096, .f32⟩
  | .hbm, ⟨46, _⟩ => ⟨S8448x4096, .f32⟩
  | .local _ .vmem, ⟨0, _⟩ => ⟨S2x1056x512, .f32⟩
  | .local _ .vmem, ⟨1, _⟩ => ⟨S2x1056x512, .f32⟩
  | .local _ .vmem, ⟨2, _⟩ => ⟨S2x1056x512, .f32⟩
  | .local _ .vmem, ⟨3, _⟩ => ⟨S2x1056x512, .f32⟩
  | .local _ .vmem, ⟨4, _⟩ => ⟨S1056x128, .f32⟩
  | .local _ .vmem, ⟨5, _⟩ => ⟨S1056x128, .f32⟩
  | .local _ .vmem, ⟨6, _⟩ => ⟨S1x4x512x128, .f32⟩
  | .local _ .vmem, ⟨7, _⟩ => ⟨S1x4x512x128, .f32⟩
  | .local _ .vmem, ⟨8, _⟩ => ⟨S1x128, .f32⟩
  | .local _ .vmem, ⟨9, _⟩ => ⟨S1x128, .f32⟩
  | .local _ .vmem, ⟨10, _⟩ => ⟨S1056x128, .f32⟩
  | .local _ .vmem, ⟨11, _⟩ => ⟨S1056x128, .f32⟩
  | _, _ => ⟨S2x8448x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x1056x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1056x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1056x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1056x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceReadIdeal.lean ====
abbrev S2x8448x16384 : Shape := ⟨3, ![2, 8448, 16384]⟩
abbrev S8448x4096 : Shape := ⟨2, ![8448, 4096]⟩
abbrev S2x256x16x64 : Shape := ⟨4, ![2, 256, 16, 64]⟩
abbrev S4096 : Shape := ⟨1, ![4096]⟩
abbrev S2x8448x256x64 : Shape := ⟨4, ![2, 8448, 256, 64]⟩
abbrev S2x256x8448x16 : Shape := ⟨4, ![2, 256, 8448, 16]⟩
abbrev S2x8448x256x16 : Shape := ⟨4, ![2, 8448, 256, 16]⟩
abbrev S2x8448x4096 : Shape := ⟨3, ![2, 8448, 4096]⟩
abbrev S1x8448x4096 : Shape := ⟨3, ![1, 8448, 4096]⟩
abbrev S1x4096 : Shape := ⟨2, ![1, 4096]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S2x8448x16384, .f32⟩
  | .hbm, ⟨1, _⟩ => ⟨S2x8448x16384, .f32⟩
  | .hbm, ⟨2, _⟩ => ⟨S8448x4096, .f32⟩
  | .hbm, ⟨3, _⟩ => ⟨S2x256x16x64, .f32⟩
  | .hbm, ⟨4, _⟩ => ⟨S2x256x16x64, .f32⟩
  | .hbm, ⟨5, _⟩ => ⟨S4096, .f32⟩
  | .hbm, ⟨6, _⟩ => ⟨S2x8448x256x64, .f32⟩
  | .hbm, ⟨7, _⟩ => ⟨S2x8448x256x64, .f32⟩
  | .hbm, ⟨8, _⟩ => ⟨S2x256x8448x16, .f32⟩
  | .hbm, ⟨9, _⟩ => ⟨S2x8448x256x16, .f32⟩
  | .hbm, ⟨10, _⟩ => ⟨S2x256x16x64, .f32⟩
  | .hbm, ⟨11, _⟩ => ⟨S2x256x8448x16, .f32⟩
  | .hbm, ⟨12, _⟩ => ⟨S2x8448x256x16, .f32⟩
  | .hbm, ⟨13, _⟩ => ⟨S2x8448x256x16, .f32⟩
  | .hbm, ⟨14, _⟩ => ⟨S2x8448x4096, .f32⟩
  | .hbm, ⟨15, _⟩ => ⟨S1x8448x4096, .f32⟩
  | .hbm, ⟨16, _⟩ => ⟨S8448x4096, .f32⟩
  | .hbm, ⟨17, _⟩ => ⟨S1x8448x4096, .f32⟩
  | .hbm, ⟨18, _⟩ => ⟨S8448x4096, .f32⟩
  | .hbm, ⟨19, _⟩ => ⟨S8448x4096, .f32⟩
  | .hbm, ⟨20, _⟩ => ⟨S1x4096, .f32⟩
  | .hbm, ⟨21, _⟩ => ⟨S8448x4096, .f32⟩
  | .hbm, ⟨22, _⟩ => ⟨S8448x4096, .f32⟩
  | .hbm, ⟨23, _⟩ => ⟨S8448x4096, .f32⟩
  | .hbm, ⟨24, _⟩ => ⟨S8448x4096, .f32⟩
  | .hbm, ⟨25, _⟩ => ⟨S8448x4096, .f32⟩
  | .hbm, ⟨26, _⟩ => ⟨S_, .f32⟩
  | .hbm, ⟨27, _⟩ => ⟨S8448x4096, .f32⟩
  | .hbm, ⟨28, _⟩ => ⟨S8448x4096, .f32⟩
  | .hbm, ⟨29, _⟩ => ⟨S8448x4096, .f32⟩
  | .hbm, ⟨30, _⟩ => ⟨S_, .f32⟩
  | .hbm, ⟨31, _⟩ => ⟨S8448x4096, .f32⟩
  | .hbm, ⟨32, _⟩ => ⟨S8448x4096, .f32⟩
  | .hbm, ⟨33, _⟩ => ⟨S8448x4096, .f32⟩
  | .hbm, ⟨34, _⟩ => ⟨S_, .f32⟩
  | .hbm, ⟨35, _⟩ => ⟨S8448x4096, .f32⟩
  | .hbm, ⟨36, _⟩ => ⟨S8448x4096, .f32⟩
  | .hbm, ⟨37, _⟩ => ⟨S_, .f32⟩
  | .hbm, ⟨38, _⟩ => ⟨S8448x4096, .f32⟩
  | .hbm, ⟨39, _⟩ => ⟨S8448x4096, .f32⟩
  | .hbm, ⟨40, _⟩ => ⟨S8448x4096, .f32⟩
  | _, _ => ⟨S2x8448x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.ChunkMath.lean ====
/- The mathematics of one chunk of the gated delta recurrence, over the real numbers: the chunkwise form (a triangular
   system solved by a product of matrices) equals the token-by-token recurrence. -/
module

public import Mathlib.Analysis.SpecialFunctions.Exp
public import Mathlib.LinearAlgebra.Matrix.NonsingularInverse

@[expose] public section

noncomputable section

namespace Delta

open scoped BigOperators

/-! ## The inverse of a unit triangular matrix, by doubling -/

section Inverse

variable {R : Type} [Ring R]

/-- One doubling step: from a product `x (1 + a) = 1 - p` with `p` commuting with `a` to the product with `p` squared. -/
theorem double_step (a x p : R) (hp : Commute p a) (hx : x * (1 + a) = 1 - p) :
    (x + x * p) * (1 + a) = 1 - p * p := by
  have h : x * p * (1 + a) = x * (1 + a) * p := by
    rw [mul_assoc, mul_assoc, mul_add, add_mul, mul_one, one_mul, hp.eq]
  rw [add_mul, h, hx]
  noncomm_ring

/-- The approximate inverse of `1 + a` after five doublings. -/
def dbl (a : R) : R :=
  let p0 := a * a
  let x0 := 1 - a
  let x1 := x0 + x0 * p0
  let p1 := p0 * p0
  let x2 := x1 + x1 * p1
  let p2 := p1 * p1
  let x3 := x2 + x2 * p2
  let p3 := p2 * p2
  let x4 := x3 + x3 * p3
  let p4 := p3 * p3
  x4 + x4 * p4

/-- The doubling product followed by one Newton step. -/
def inv (a : R) : R := dbl a + dbl a * (1 - (1 + a) * dbl a)

/-- Where the sixty-fourth power of `a` vanishes, five doublings give a left inverse of `1 + a`. -/
theorem dbl_mul (a : R) (ha : a ^ 64 = 0) : dbl a * (1 + a) = 1 := by
  have c0 : Commute (a * a) a := (Commute.refl a).mul_left (Commute.refl a)
  have s0 : (1 - a) * (1 + a) = 1 - a * a := by noncomm_ring
  have s1 := double_step a _ _ c0 s0
  have c1 := c0.mul_left c0
  have s2 := double_step a _ _ c1 s1
  have c2 := c1.mul_left c1
  have s3 := double_step a _ _ c2 s2
  have c3 := c2.mul_left c2
  have s4 := double_step a _ _ c3 s3
  have c4 := c3.mul_left c3
  have s5 := double_step a _ _ c4 s4
  unfold dbl
  dsimp only
  rw [s5]
  have : a * a * (a * a) * (a * a * (a * a)) * (a * a * (a * a) * (a * a * (a * a))) *
      (a * a * (a * a) * (a * a * (a * a)) * (a * a * (a * a) * (a * a * (a * a)))) *
      (a * a * (a * a) * (a * a * (a * a)) * (a * a * (a * a) * (a * a * (a * a))) *
      (a * a * (a * a) * (a * a * (a * a)) * (a * a * (a * a) * (a * a * (a * a))))) = a ^ 64 := by
    simp only [← pow_two, ← pow_mul]
    norm_num
  rw [this, ha, sub_zero]

end Inverse

/-- Square matrices: five doublings and a Newton step give the left inverse of `1 + a` where `a ^ 64 = 0`. -/
theorem inv_mul {n : ℕ} (a : Matrix (Fin n) (Fin n) ℝ) (ha : a ^ 64 = 0) : inv a * (1 + a) = 1 := by
  have h := dbl_mul a ha
  have h' : (1 + a) * dbl a = 1 := mul_eq_one_comm.mp h
  unfold inv
  rw [h', sub_self, mul_zero, add_zero, h]

/-- A matrix over 64 positions whose nonzero entries strictly decrease a numbering of the positions below 64 is nilpotent. -/
theorem pow_eq_zero_of_pos (pos : Fin 64 → ℕ) (hpos : ∀ p, pos p < 64) (a : Matrix (Fin 64) (Fin 64) ℝ)
    (ha : ∀ p r, ¬ pos r < pos p → a p r = 0) : a ^ 64 = 0 := by
  have key : ∀ n : ℕ, ∀ p r, pos p < pos r + n → (a ^ n) p r = 0 := by
    intro n
    induction n with
    | zero =>
      intro p r h
      rw [pow_zero, Matrix.one_apply_ne]
      rintro rfl
      omega
    | succ n ih =>
      intro p r h
      rw [pow_succ, Matrix.mul_apply]
      refine Finset.sum_eq_zero fun s _ => ?_
      by_cases hs : pos r < pos s
      · rw [ih p s (by omega), zero_mul]
      · rw [ha s r hs, mul_zero]
  ext p r
  exact key 64 p r (by have := hpos p; omega)

/-! ## Sums over the positions before a place -/

/-- A sum over the positions before place `n + 1` is the sum over those before `n` and the term at place `n`. -/
theorem sum_before_succ (pos : Fin 64 → ℕ) (hinj : Function.Injective pos) (f : Fin 64 → ℝ) (p : Fin 64) :
    (∑ r, if pos r < pos p + 1 then f r else 0) = (∑ r, if pos r < pos p then f r else 0) + f p := by
  have h : ∀ r, (if pos r < pos p + 1 then f r else 0)
      = (if pos r < pos p then f r else 0) + (if r = p then f r else 0) := by
    intro r
    by_cases e : r = p
    · subst e; simp
    · have : pos r ≠ pos p := fun h => e (hinj h)
      by_cases h1 : pos r < pos p
      · rw [if_pos (by omega), if_pos h1, if_neg e, add_zero]
      · rw [if_neg (by omega), if_neg h1, if_neg e, add_zero]
  rw [Finset.sum_congr rfl fun r _ => h r, Finset.sum_add_distrib, Finset.sum_ite_eq' Finset.univ p f,
    if_pos (Finset.mem_univ p)]

/-! ## The recurrence and the chunk -/

/-- A state of one head: keys by values. -/
abbrev State := Fin 128 → Fin 128 → ℝ

/-- What a token adds along its key, over the decayed state: the value's prediction error scaled by the token's rate. -/
def err (S : State) (k v : Fin 128 → ℝ) (g b : ℝ) : Fin 128 → ℝ :=
  fun d => (v d - ∑ c, k c * (S c d * Real.exp g)) * b

/-- The recurrence's step: the state decayed, then corrected along the token's key. -/
def stepS (S : State) (k v : Fin 128 → ℝ) (g b : ℝ) : State :=
  fun c d => S c d * Real.exp g + k c * err S k v g b d

/-- The output of a token whose query is `q`, over the state after it. -/
def outO (S : State) (q : Fin 128 → ℝ) : Fin 128 → ℝ := fun d => ∑ c, q c * S c d

section Chunk

variable (pos : Fin 64 → ℕ) (q k v : Fin 64 → Fin 128 → ℝ) (g b : Fin 64 → ℝ) (S0 : State)

/-- The log decay summed over the positions before place `n`. -/
def cum (n : ℕ) : ℝ := ∑ r, if pos r < n then g r else 0

/-- The log decay summed up to and including a position. -/
def G (p : Fin 64) : ℝ := cum pos g (pos p + 1)

/-- The decay from position `r` to a later position `p`, zero where `p` comes before `r`. -/
def dec (p r : Fin 64) : ℝ := if pos r ≤ pos p then Real.exp (G pos g p - G pos g r) else 0

/-- The chunk's strictly triangular matrix. -/
def tri : Matrix (Fin 64) (Fin 64) ℝ :=
  fun p r => if pos r < pos p then (∑ c, k p c * b p * k r c) * dec pos g p r else 0

/-- The chunk's corrections, in the solved form. -/
def corr (p : Fin 64) (d : Fin 128) : ℝ :=
  (∑ r, inv (tri pos k g b) p r * (v r d * b r))
    - ∑ c, (∑ r, inv (tri pos k g b) p r * (k r c * b r * Real.exp (G pos g r))) * S0 c d

/-- The chunk's outputs. -/
def chunkOut (p : Fin 64) (d : Fin 128) : ℝ :=
  (∑ c, q p c * Real.exp (G pos g p) * S0 c d)
    + ∑ r, (∑ c, q p c * k r c) * dec pos g p r * corr pos k v g b S0 r d

/-- The chunk's last state. -/
def chunkState : State := fun c d =>
  S0 c d * Real.exp (cum pos g 64)
    + ∑ r, k r c * Real.exp (cum pos g 64 - G pos g r) * corr pos k v g b S0 r d

variable {pos q k v g b S0}

section Run

variable (hinj : Function.Injective pos) (hlt : ∀ p, pos p < 64)
  (S : ℕ → State) (h0 : S 0 = S0)
  (hS : ∀ p, S (pos p + 1) = stepS (S (pos p)) (k p) (v p) (g p) (b p))

include hinj in
/-- The summed log decay grows by the position's own. -/
theorem cum_succ (p : Fin 64) : cum pos g (pos p + 1) = cum pos g (pos p) + g p :=
  sum_before_succ pos hinj g p

include hinj hlt in
/-- Every place below 64 is some position's. -/
theorem exists_pos (n : ℕ) (hn : n < 64) : ∃ p, pos p = n := by
  have hb : Function.Bijective (fun p : Fin 64 => (⟨pos p, hlt p⟩ : Fin 64)) :=
    Finite.injective_iff_bijective.mp fun a c h => hinj (by simpa using h)
  obtain ⟨p, hp⟩ := hb.2 ⟨n, hn⟩
  exact ⟨p, by simpa using congrArg Fin.val hp⟩

include hinj hlt h0 hS in
/-- The state after `n` tokens of the chunk is the first state decayed, and every earlier correction decayed since. -/
theorem state_eq (n : ℕ) (hn : n ≤ 64) (c d : Fin 128) :
    S n c d = Real.exp (cum pos g n) * S0 c d
      + ∑ r, if pos r < n then
          Real.exp (cum pos g n - G pos g r) * (k r c * err (S (pos r)) (k r) (v r) (g r) (b r) d) else 0 := by
  induction n generalizing c d with
  | zero => simp [h0, cum]
  | succ n ih =>
    obtain ⟨p, hp⟩ := exists_pos hinj hlt n (by omega)
    subst hp
    rw [hS p]
    unfold stepS
    rw [ih (by omega) c d, sum_before_succ pos hinj _ p, cum_succ hinj p]
    have e0 : Real.exp (cum pos g (pos p) + g p - G pos g p) = 1 := by
      rw [G, cum_succ hinj p, sub_self, Real.exp_zero]
    rw [e0, one_mul, add_mul, Finset.sum_mul, ← add_assoc]
    congr 1
    congr 1
    · rw [Real.exp_add]; ring
    · refine Finset.sum_congr rfl fun r _ => ?_
      by_cases hr : pos r < pos p
      · rw [if_pos hr, if_pos hr, add_sub_right_comm, Real.exp_add]; ring
      · rw [if_neg hr, if_neg hr, zero_mul]

include hinj hlt h0 hS in
/-- The corrections solve the chunk's triangular system. -/
theorem system (p : Fin 64) (d : Fin 128) :
    err (S (pos p)) (k p) (v p) (g p) (b p) d
        + ∑ r, tri pos k g b p r * err (S (pos r)) (k r) (v r) (g r) (b r) d
      = v p d * b p - ∑ c, k p c * b p * Real.exp (G pos g p) * S0 c d := by
  have hst := fun c => state_eq hinj hlt S h0 hS (pos p) (hlt p).le c d
  have hdec : ∀ c, S (pos p) c d * Real.exp (g p) = Real.exp (G pos g p) * S0 c d
      + ∑ r, if pos r < pos p then
          Real.exp (G pos g p - G pos g r) * (k r c * err (S (pos r)) (k r) (v r) (g r) (b r) d) else 0 := by
    intro c
    rw [hst c, add_mul, Finset.sum_mul]
    congr 1
    · rw [G, cum_succ hinj p, Real.exp_add]; ring
    · refine Finset.sum_congr rfl fun r _ => ?_
      by_cases hr : pos r < pos p
      · rw [if_pos hr, if_pos hr]
        have : G pos g p - G pos g r = (cum pos g (pos p) - G pos g r) + g p := by
          rw [show G pos g p = cum pos g (pos p) + g p from cum_succ hinj p]; ring
        rw [this, Real.exp_add]; ring
      · rw [if_neg hr, if_neg hr, zero_mul]
  have hsum : (∑ c, k p c * (S (pos p) c d * Real.exp (g p))) * b p
      = (∑ c, k p c * b p * Real.exp (G pos g p) * S0 c d)
        + ∑ r, tri pos k g b p r * err (S (pos r)) (k r) (v r) (g r) (b r) d := by
    rw [Finset.sum_mul]
    have : ∀ c, k p c * (S (pos p) c d * Real.exp (g p)) * b p
        = k p c * b p * Real.exp (G pos g p) * S0 c d
          + ∑ r, (if pos r < pos p then
              k p c * b p * k r c * Real.exp (G pos g p - G pos g r) else 0)
                * err (S (pos r)) (k r) (v r) (g r) (b r) d := by
      intro c
      rw [hdec c, mul_add, add_mul]
      congr 1
      · ring
      · rw [Finset.mul_sum, Finset.sum_mul]
        refine Finset.sum_congr rfl fun r _ => ?_
        by_cases hr : pos r < pos p
        · rw [if_pos hr, if_pos hr]; ring
        · rw [if_neg hr, if_neg hr]; ring
    rw [Finset.sum_congr rfl fun c _ => this c, Finset.sum_add_distrib, Finset.sum_comm]
    congr 1
    refine Finset.sum_congr rfl fun r _ => ?_
    rw [← Finset.sum_mul]
    congr 1
    unfold tri dec
    by_cases hr : pos r < pos p
    · simp only [if_pos hr, if_pos hr.le, Finset.sum_mul]
    · simp only [if_neg hr, Finset.sum_const_zero]
  have e : err (S (pos p)) (k p) (v p) (g p) (b p) d
      = v p d * b p - (∑ c, k p c * (S (pos p) c d * Real.exp (g p))) * b p := by
    rw [err, sub_mul]
  rw [e, hsum]
  ring

include hlt in
/-- The chunk's triangular matrix is nilpotent. -/
theorem tri_pow : tri pos k g b ^ 64 = 0 :=
  pow_eq_zero_of_pos pos hlt _ fun p r h => by rw [tri, if_neg h]

include hinj hlt h0 hS in
/-- The corrections of the recurrence are the solved ones. -/
theorem err_eq_corr (p : Fin 64) (d : Fin 128) :
    err (S (pos p)) (k p) (v p) (g p) (b p) d = corr pos k v g b S0 p d := by
  have hinv := inv_mul (tri pos k g b) (tri_pow (k := k) (g := g) (b := b) hlt)
  set A := tri pos k g b with hA
  let δ : Fin 64 → ℝ := fun r => err (S (pos r)) (k r) (v r) (g r) (b r) d
  have hsys : (1 + A).mulVec δ = fun r => v r d * b r - ∑ c, k r c * b r * Real.exp (G pos g r) * S0 c d := by
    funext r
    rw [Matrix.add_mulVec, Matrix.one_mulVec]
    exact system hinj hlt S h0 hS r d
  have hδ : δ = (inv A).mulVec (fun r => v r d * b r - ∑ c, k r c * b r * Real.exp (G pos g r) * S0 c d) := by
    rw [← hsys, Matrix.mulVec_mulVec, hinv, Matrix.one_mulVec]
  have := congrFun hδ p
  refine this.trans ?_
  unfold corr Matrix.mulVec dotProduct
  rw [← hA]
  simp only [mul_sub, Finset.sum_sub_distrib]
  congr 1
  simp only [Finset.mul_sum, Finset.sum_mul]
  rw [Finset.sum_comm]
  refine Finset.sum_congr rfl fun c _ => Finset.sum_congr rfl fun r _ => by ring

include hinj hlt h0 hS in
/-- The chunk's outputs are the recurrence's. -/
theorem chunkOut_eq (p : Fin 64) (d : Fin 128) :
    chunkOut pos q k v g b S0 p d = outO (S (pos p + 1)) (q p) d := by
  unfold outO chunkOut
  have hst := fun c => state_eq hinj hlt S h0 hS (pos p + 1) (by have := hlt p; omega) c d
  simp only [hst, mul_add, Finset.sum_add_distrib]
  congr 1
  · refine Finset.sum_congr rfl fun c _ => ?_
    rw [G]; ring
  · simp only [Finset.mul_sum, Finset.sum_mul]
    rw [Finset.sum_comm]
    refine Finset.sum_congr rfl fun c _ => Finset.sum_congr rfl fun r _ => ?_
    rw [← err_eq_corr hinj hlt S h0 hS r d]
    unfold dec
    by_cases hr : pos r < pos p + 1
    · rw [if_pos hr, if_pos (by omega), G]; ring
    · rw [if_neg hr, if_neg (by omega)]; ring

include hinj hlt h0 hS in
/-- The chunk's last state is the recurrence's after its 64 tokens. -/
theorem chunkState_eq : chunkState pos k v g b S0 = S 64 := by
  funext c d
  rw [state_eq hinj hlt S h0 hS 64 le_rfl c d]
  unfold chunkState
  congr 1
  · ring
  · refine Finset.sum_congr rfl fun r _ => ?_
    rw [if_pos (hlt r), err_eq_corr hinj hlt S h0 hS r d]
    ring

end Run

end Chunk

end Delta

end
-- ==== Proof.RealTensor.lean ====
/- Vectors of extended reals all of whose elements are real numbers, and the kernel's operations on them. -/
module

public import proofs.«01_k».proof.Proof.Gen.KernelIdeal.Skeleton
public import proofs.«01_k».proof.Proof.ChunkMath
public import Idealize.ShloMosaic.Lib.Pointwise

@[expose] public section

set_option maxRecDepth 16384

noncomputable section

namespace Delta

open Idealize.ShloMosaic Cert.KernelIdeal Cert.KernelIdeal.Gen
open scoped BigOperators

/-- A finite sum of real numbers, taken among the extended reals, is the real sum. -/
theorem coe_sum {ι : Type} [Fintype ι] (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := by
    intro s
    induction s using Finset.induction_on with
    | empty => simp
    | insert a s ha ih => rw [Finset.sum_insert ha, Finset.sum_insert ha, ih, EReal.coe_add]
  exact h Finset.univ

/-- A rank-3 vector of extended reals is the table `f` of real numbers. -/
def Is3 {a b c : ℕ} (x : (⟨3, ![a, b, c]⟩ : Shape).Idx → EReal) (f : Fin a → Fin b → Fin c → ℝ) : Prop :=
  ∀ i j k, x (ix3 i j k) = ((f i j k : ℝ) : EReal)

namespace Is3

variable {a b c : ℕ}

/-- Equal tables describe the same vector. -/
theorem congr {x : (⟨3, ![a, b, c]⟩ : Shape).Idx → EReal} {f g : Fin a → Fin b → Fin c → ℝ} (h : Is3 x f)
    (e : ∀ i j k, f i j k = g i j k) : Is3 x g := fun i j k => by rw [h, e]

/-- A vector described by a table is that table, index by index. -/
theorem eq_fun {x : (⟨3, ![a, b, c]⟩ : Shape).Idx → EReal} {f : Fin a → Fin b → Fin c → ℝ} (h : Is3 x f) :
    x = fun i => ((f (i 0) (i 1) (i 2) : ℝ) : EReal) := by
  funext i
  rw [eq_ix3 i]
  exact h _ _ _

variable {φ : FTy} {x y : FVec Ideal ⟨3, ![a, b, c]⟩ φ} {f g : Fin a → Fin b → Fin c → ℝ}

/-- Products element by element. -/
theorem mul (hx : Is3 x f) (hy : Is3 y g) : Is3 (mulf x y) (fun i j k => f i j k * g i j k) := fun i j k => by
  show x _ * y _ = _
  rw [hx, hy, EReal.coe_mul]

/-- Sums element by element. -/
theorem add (hx : Is3 x f) (hy : Is3 y g) : Is3 (addf x y) (fun i j k => f i j k + g i j k) := fun i j k => by
  show x _ + y _ = _
  rw [hx, hy, EReal.coe_add]

/-- Differences element by element. -/
theorem sub (hx : Is3 x f) (hy : Is3 y g) : Is3 (subf x y) (fun i j k => f i j k - g i j k) := fun i j k => by
  show x _ - y _ = _
  rw [hx, hy, EReal.coe_sub]

/-- Exponentials element by element. -/
theorem exp (hx : Is3 x f) : Is3 (Idealize.ShloMosaic.exp x) (fun i j k => Real.exp (f i j k)) := fun i j k => by
  show Ideal.exp (x _) = _
  rw [hx, Ideal.exp_coe]

/-- Narrowing the format changes nothing. -/
theorem trunc {x : FVec Ideal ⟨3, ![a, b, c]⟩ .f32} (hx : Is3 x f) (h : FTy.bits .bf16 < FTy.bits .f32) :
    Is3 (truncf .bf16 x h) f := fun i j k => hx i j k

/-- What a narrowing leaves over is zero. -/
theorem rest {x : FVec Ideal ⟨3, ![a, b, c]⟩ .f32} (hx : Is3 x f) (h h' h'' : FTy.bits .bf16 < FTy.bits .f32) :
    Is3 (truncf .bf16 (subf x (extf .f32 (truncf .bf16 x h) h')) h'') (fun _ _ _ => 0) := fun i j k => by
  show x _ - x _ = _
  rw [hx, ← EReal.coe_sub, sub_self]

end Is3

/-- A three-term product whose last two terms vanish. -/
theorem Is3.three {a b c : ℕ} {x y z : FVec Ideal ⟨3, ![a, b, c]⟩ .f32} {f g g' : Fin a → Fin b → Fin c → ℝ}
    (hx : Is3 x f) (hy : Is3 y g) (hz : Is3 z g') (e : ∀ i j k, g i j k = 0) (e' : ∀ i j k, g' i j k = 0) :
    Is3 (addf x (addf y z)) f :=
  (hx.add (hy.add hz)).congr fun i j k => by rw [e, e', add_zero, add_zero]

/-! ## Products of matrices, head by head -/

/-- The vector of zeros a product starts from. -/
abbrev zeros (s : Shape) : FVec Ideal s .f32 := constant s .f32 0x00000000#32

/-- A table of sums of products is real. -/
theorem sum_mul_coe {n : ℕ} (f g : Fin n → ℝ) :
    (0 : EReal) + ∑ i, ((f i : ℝ) : EReal) * ((g i : ℝ) : EReal) = ((∑ i, f i * g i : ℝ) : EReal) := by
  rw [zero_add, ← coe_sum]
  exact Finset.sum_congr rfl fun i _ => (EReal.coe_mul _ _).symm

/-- Queries by keys: each head's `x yᵀ`. -/
theorem mm_qk {φ₁ φ₂ : FTy} {x : FVec Ideal S16x64x128 φ₁} {y : FVec Ideal S16x64x128 φ₂} {f g}
    (hx : Is3 x f) (hy : Is3 y g) :
    Is3 (matmul dot_S16x64x128_S16x64x128_S16x64x64_2_2_1_1_0_0 none x y (zeros S16x64x64))
      (fun h p r => ∑ c, f h p c * g h r c) := fun h p r => by
  pointwise
  simp only [hx _ _ _, hy _ _ _]
  first | exact sum_mul_coe _ _ | (rw [← sum_mul_coe, zero_add])

/-- Square matrices of positions: each head's `x y`. -/
theorem mm_pp {φ₁ φ₂ : FTy} {x : FVec Ideal S16x64x64 φ₁} {y : FVec Ideal S16x64x64 φ₂} {f g}
    (hx : Is3 x f) (hy : Is3 y g) :
    Is3 (matmul dot_S16x64x64_S16x64x64_S16x64x64_2_1_1_2_0_0 none x y (zeros S16x64x64))
      (fun h p r => ∑ s, f h p s * g h s r) := fun h p r => by
  pointwise
  simp only [hx _ _ _, hy _ _ _]
  first | exact sum_mul_coe _ _ | (rw [← sum_mul_coe, zero_add])

/-- A matrix of positions times a block of tokens. -/
theorem mm_pt {φ₁ φ₂ : FTy} {x : FVec Ideal S16x64x64 φ₁} {y : FVec Ideal S16x64x128 φ₂} {f g}
    (hx : Is3 x f) (hy : Is3 y g) :
    Is3 (matmul dot_S16x64x64_S16x64x128_S16x64x128_2_1_1_2_0_0 none x y (zeros S16x64x128))
      (fun h p d => ∑ s, f h p s * g h s d) := fun h p r => by
  pointwise
  simp only [hx _ _ _, hy _ _ _]
  first | exact sum_mul_coe _ _ | (rw [← sum_mul_coe, zero_add])

/-- A block of tokens times the state. -/
theorem mm_ts {φ₁ φ₂ : FTy} {x : FVec Ideal S16x64x128 φ₁} {y : FVec Ideal S16x128x128 φ₂} {f g}
    (hx : Is3 x f) (hy : Is3 y g) :
    Is3 (matmul dot_S16x64x128_S16x128x128_S16x64x128_2_1_1_2_0_0 none x y (zeros S16x64x128))
      (fun h p d => ∑ s, f h p s * g h s d) := fun h p r => by
  pointwise
  simp only [hx _ _ _, hy _ _ _]
  first | exact sum_mul_coe _ _ | (rw [← sum_mul_coe, zero_add])

/-- Keys transposed times a block of tokens. -/
theorem mm_kt {φ₁ φ₂ : FTy} {x : FVec Ideal S16x128x64 φ₁} {y : FVec Ideal S16x64x128 φ₂} {f g}
    (hx : Is3 x f) (hy : Is3 y g) :
    Is3 (matmul dot_S16x128x64_S16x64x128_S16x128x128_2_1_1_2_0_0 none x y (zeros S16x128x128))
      (fun h p d => ∑ s, f h p s * g h s d) := fun h p r => by
  pointwise
  simp only [hx _ _ _, hy _ _ _]
  first | exact sum_mul_coe _ _ | (rw [← sum_mul_coe, zero_add])

/-! ## Broadcasts along an axis of size one -/

/-- A column over the positions, repeated along a second axis of positions. -/
theorem bc_col64 {x : FVec Ideal S16x64x1 .f32} {f : Fin 16 → Fin 64 → ℝ} (hx : Is3 x fun h p _ => f h p) :
    Is3 (broadcastTo S16x64x64 x broadcasts_S16x64x1_S16x64x64) (fun h p _ => f h p) := fun h p r => by
  pointwise
  exact hx _ _ _

/-- A column over the positions, repeated along the features. -/
theorem bc_col128 {x : FVec Ideal S16x64x1 .f32} {f : Fin 16 → Fin 64 → ℝ} (hx : Is3 x fun h p _ => f h p) :
    Is3 (broadcastTo S16x64x128 x broadcasts_S16x64x1_S16x64x128) (fun h p _ => f h p) := fun h p r => by
  pointwise
  exact hx _ _ _

/-- A row over the positions, repeated along a first axis of positions. -/
theorem bc_row64 {x : FVec Ideal S16x1x64 .f32} {f : Fin 16 → Fin 64 → ℝ} (hx : Is3 x fun h _ r => f h r) :
    Is3 (broadcastTo S16x64x64 x broadcasts_S16x1x64_S16x64x64) (fun h _ r => f h r) := fun h p r => by
  pointwise
  exact hx _ _ _

/-- One number per head, repeated along the positions. -/
theorem bc_head64 {x : FVec Ideal S16x1x1 .f32} {f : Fin 16 → ℝ} (hx : Is3 x fun h _ _ => f h) :
    Is3 (broadcastTo S16x64x1 x broadcasts_S16x1x1_S16x64x1) (fun h _ _ => f h) := fun h p r => by
  pointwise
  exact hx _ _ _

/-- One number per head, repeated over its state. -/
theorem bc_head128 {x : FVec Ideal S16x1x1 .f32} {f : Fin 16 → ℝ} (hx : Is3 x fun h _ _ => f h) :
    Is3 (broadcastTo S16x128x128 x broadcasts_S16x1x1_S16x128x128) (fun h _ _ => f h) := fun h p r => by
  pointwise
  exact hx _ _ _

end Delta

end
-- ==== Proof.Payload.lean ====
/- One chunk of the kernel on real numbers: its output block and its new state are the chunkwise form of the
   recurrence. -/
module

public import proofs.«01_k».proof.Proof.RealTensor

@[expose] public section

set_option maxRecDepth 16384

noncomputable section

namespace Delta

open Idealize.ShloMosaic Cert.KernelIdeal Cert.KernelIdeal.Gen
open scoped BigOperators

/-- The place of a row of the chunk in the direction's order of tokens: forward, or reversed. -/
def posd (d : Fin 2) (p : Fin 64) : ℕ := if d = 0 then p.val else 63 - p.val

/-- Different rows have different places. -/
theorem posd_inj (d : Fin 2) : Function.Injective (posd d) := fun a b h => by
  unfold posd at h
  split at h <;> omega

/-- Places are below 64. -/
theorem posd_lt (d : Fin 2) (p : Fin 64) : posd d p < 64 := by
  unfold posd
  split <;> omega

/-! ## The masks -/

/-- The mask of pairs of rows, the second at or before the first. -/
theorem mask_le (i : grid0.Coords) (p r : Fin 64) :
    k0_pay6 i (ix2 p r) = if posd (i 0) r ≤ posd (i 0) p then 1#1 else 0#1 := by
  have key : ∀ (d : Fin 2) (p r : Fin 64),
      IntOp.cmpi CmpIPredicate.sge
        (Scalar.select (Scalar.cmpi CmpIPredicate.sge (BitVec.ofNat 32 d.val) 1#32)
          (IntOp.subi (BitVec.ofNat 32 r.val) (BitVec.ofNat 32 p.val))
          (IntOp.subi (BitVec.ofNat 32 p.val) (BitVec.ofNat 32 r.val))) 0#32
      = if posd d r ≤ posd d p then 1#1 else 0#1 := by decide +kernel
  refine Eq.trans ?_ (key (i 0) p r)
  pointwise [k0_pay6, k0_pay5]

/-- The mask of pairs of rows, the second before the first. -/
theorem mask_lt (i : grid0.Coords) (p r : Fin 64) :
    k0_pay7 i (ix2 p r) = if posd (i 0) r < posd (i 0) p then 1#1 else 0#1 := by
  have key : ∀ (d : Fin 2) (p r : Fin 64),
      IntOp.cmpi CmpIPredicate.sgt
        (Scalar.select (Scalar.cmpi CmpIPredicate.sge (BitVec.ofNat 32 d.val) 1#32)
          (IntOp.subi (BitVec.ofNat 32 r.val) (BitVec.ofNat 32 p.val))
          (IntOp.subi (BitVec.ofNat 32 p.val) (BitVec.ofNat 32 r.val))) 0#32
      = if posd d r < posd d p then 1#1 else 0#1 := by decide +kernel
  refine Eq.trans ?_ (key (i 0) p r)
  pointwise [k0_pay7, k0_pay5]

/-- The mask of the last row in the direction's order. -/
theorem mask_last (i : grid0.Coords) (p : Fin 64) :
    k0_pay9 i (ix2 p 0) = if posd (i 0) p = 63 then 1#1 else 0#1 := by
  have key : ∀ (d : Fin 2) (p : Fin 64),
      IntOp.cmpi CmpIPredicate.eq (BitVec.ofNat 32 p.val)
        (Scalar.select (Scalar.cmpi CmpIPredicate.sge (BitVec.ofNat 32 d.val) 1#32) 0#32 63#32)
      = if posd d p = 63 then 1#1 else 0#1 := by decide +kernel
  refine Eq.trans ?_ (key (i 0) p)
  pointwise [k0_pay9]

/-- The identity matrix. -/
theorem eye (p r : Fin 64) :
    (k0_pay8 : FVec Ideal S64x64 .f32) (ix2 p r) = (((1 : Matrix (Fin 64) (Fin 64) ℝ) p r : ℝ) : EReal) := by
  have key : ∀ p r : Fin 64,
      (BitVec.setWidth 32 (IntOp.cmpi CmpIPredicate.eq (BitVec.ofNat 32 p.val) (BitVec.ofNat 32 r.val))).toInt
        = if p = r then 1 else 0 := by decide +kernel
  pointwise [k0_pay8]
  show ((((BitVec.setWidth 32 (IntOp.cmpi CmpIPredicate.eq (BitVec.ofNat 32 p.val)
    (BitVec.ofNat 32 r.val))).toInt : ℤ) : ℝ) : EReal) = _
  rw [key, Matrix.one_apply]
  split <;> simp

/-- The zero pattern is the number zero. -/
theorem zero_bits : (Scalar.ofBits (F := Ideal) .f32 0#32 : EReal) = ((0 : ℝ) : EReal) := by
  have h : (Scalar.ofBits (F := Ideal) .f32 0#32 : EReal) = 0 := by pointwise
  rw [h, EReal.coe_zero]

/-! ## A masked vector -/

/-- Where a mask of pairs of rows holds, the vector; elsewhere one number. -/
theorem masked {x : FVec Ideal S16x64x64 .f32} {f : Fin 16 → Fin 64 → Fin 64 → ℝ} (hx : Is3 x f)
    {m : IVec S64x64 1} {P : Fin 64 → Fin 64 → Prop} [∀ p r, Decidable (P p r)]
    (hm : ∀ p r, m (ix2 p r) = if P p r then 1#1 else 0#1) (z : EReal) (h : Fin 16) (p r : Fin 64) :
    select (broadcastTo S16x64x64 (shapeCast S1x64x64 m shapeCasts_S64x64_S1x64x64) broadcasts_S1x64x64_S16x64x64)
      x (broadcast S16x64x64 z) (ix3 h p r) = if P p r then ((f h p r : ℝ) : EReal) else z := by
  pointwise
  rw [hm, hx]
  by_cases e : P p r
  · rw [if_pos e, if_pos e]; rfl
  · rw [if_neg e, if_neg e]; rfl

/-- A square matrix repeated for every head. -/
theorem heads {m : FVec Ideal S64x64 .f32} {A : Matrix (Fin 64) (Fin 64) ℝ}
    (hm : ∀ p r, m (ix2 p r) = ((A p r : ℝ) : EReal)) :
    Is3 (broadcastTo S16x64x64 (shapeCast S1x64x64 m shapeCasts_S64x64_S1x64x64) broadcasts_S1x64x64_S16x64x64)
      (fun _ p r => A p r) := fun h p r => by
  pointwise
  exact hm p r

/-- The place of the last row carries the whole chunk's log decay. -/
theorem sum_last (d : Fin 2) (g : Fin 64 → ℝ) :
    (∑ p, if posd d p = 63 then G (posd d) g p else 0) = cum (posd d) g 64 := by
  obtain ⟨p, hp⟩ := exists_pos (posd_inj d) (posd_lt d) 63 (by norm_num)
  rw [Finset.sum_eq_single p]
  · rw [if_pos hp, G, hp]
  · intro r _ hr
    rw [if_neg fun h => hr (posd_inj d (h.trans hp.symm))]
  · intro h; exact absurd (Finset.mem_univ p) h

/-! ## The payloads -/

/-- The features turned to the front. -/
theorem turned {x : FVec Ideal S16x64x128 .f32} {f : Fin 16 → Fin 64 → Fin 128 → ℝ} (hx : Is3 x f) :
    Is3 (transpose S16x128x64 [0, 2, 1] x transposes_S16x64x128_p0_2_1_S16x128x64) (fun h c p => f h p c) :=
  fun h c p => by
  pointwise
  exact hx _ _ _

/-- Casting a state to its own shape changes nothing. -/
theorem same_shape {x : FVec Ideal S16x128x128 .f32} {f : Fin 16 → Fin 128 → Fin 128 → ℝ} (hx : Is3 x f) :
    Is3 (shapeCast S16x128x128 x shapeCasts_S16x128x128_S16x128x128) f := fun h c d => by
  pointwise
  exact hx _ _ _

section Chunk

variable {i : grid0.Coords}
  {v52 v85 v118 : FVec Ideal S16x64x128 .f32} {v120 : FVec Ideal S16x64x1 .f32} {v122 : FVec Ideal S16x1x64 .f32} {v123 : FVec Ideal S16x64x1 .f32}
  {v125 : FVec Ideal S16x128x128 .f32}
  {q k v : Fin 16 → Fin 64 → Fin 128 → ℝ} {g b : Fin 16 → Fin 64 → ℝ} {S0 : Fin 16 → State}
  (hq : Is3 v52 q) (hk : Is3 v85 k) (hv : Is3 v118 v)
  (hG : Is3 v120 fun h p _ => G (posd (i 0)) (g h) p) (hGr : Is3 v122 fun h _ r => G (posd (i 0)) (g h) r)
  (hb : Is3 v123 fun h p _ => b h p) (hS : Is3 v125 S0)

include hb in
/-- The write strengths, as the kernel keeps them. -/
theorem pay15 : Is3 (c := 1) (k0_pay15 (F := Ideal) v123) fun h p _ => b h p := fun h p r => by
  pointwise [k0_pay15]
  exact hb _ _ _

include hG in
/-- The chunk's whole log decay. -/
theorem pay16 : Is3 (k0_pay16 (k0_pay9 i) v120) fun h _ _ => cum (posd (i 0)) (g h) 64 := fun h p r => by
  obtain rfl : p = 0 := Subsingleton.elim _ _
  obtain rfl : r = 0 := Subsingleton.elim _ _
  have e : ∀ s, Scalar.select (k0_pay9 i (ix2 s 0)) (v120 (ix3 h s 0)) (Scalar.ofBits (F := Ideal) .f32 0#32)
      = ((if posd (i 0) s = 63 then G (posd (i 0)) (g h) s else 0 : ℝ) : EReal) := by
    intro s
    rw [mask_last, hG]
    by_cases h' : posd (i 0) s = 63
    · rw [if_pos h', if_pos h']; rfl
    · rw [if_neg h', if_neg h']; exact zero_bits
  rw [show Scalar.ofBits (F := Ideal) .f32 0#32 = (0 : EReal) from zero_bits.trans EReal.coe_zero] at e
  pointwise [k0_pay16]
  rw [Finset.sum_congr rfl fun s _ => e s, coe_sum]
  exact congrArg _ (sum_last _ _)

include hG hGr in
/-- The decays between the chunk's positions. -/
theorem pay17 : Is3 (k0_pay17 (k0_pay6 i) v120 v122) fun h p r => dec (posd (i 0)) (g h) p r := fun h p r => by
  have e := masked ((bc_col64 hG).sub (bc_row64 hGr)) (mask_le i) ⊥ h p r
  unfold k0_pay17
  refine (congrArg Ideal.exp e).trans ?_
  show _ = ((if _ then _ else _ : ℝ) : EReal)
  split
  · rw [Ideal.exp_coe]
  · rw [Ideal.exp_bot, EReal.coe_zero]

include hk hb in
/-- The keys times the write strengths. -/
theorem pay18 : Is3 (k0_pay18 v85 v123) fun h p c => k h p c * b h p := hk.mul (bc_col128 (pay15 hb))

include hk hG hGr hb in
/-- The strictly triangular matrices. -/
theorem pay19 : Is3 (k0_pay19 (k0_pay6 i) (k0_pay7 i) v85 v120 v122 v123)
    fun h p r => tri (posd (i 0)) (k h) (g h) (b h) p r := fun h p r => by
  have hkb := pay18 hk hb
  have prod := (Is3.three (mm_qk (hkb.trunc bitsLt_bf16_f32) (hk.trunc bitsLt_bf16_f32))
    (mm_qk (hkb.trunc bitsLt_bf16_f32) (hk.rest bitsLt_bf16_f32 bitsLt_bf16_f32 bitsLt_bf16_f32))
    (mm_qk (hkb.rest bitsLt_bf16_f32 bitsLt_bf16_f32 bitsLt_bf16_f32) (hk.trunc bitsLt_bf16_f32))
    (fun _ _ _ => by simp) (fun _ _ _ => by simp)).mul (pay17 hG hGr)
  have e := masked prod (mask_lt i) (Scalar.ofBits (F := Ideal) .f32 0#32) h p r
  unfold k0_pay19
  refine e.trans ?_
  show _ = ((if _ then _ else _ : ℝ) : EReal)
  split
  · rfl
  · exact zero_bits

/-- A vector of square matrices of positions, one per head. -/
abbrev IsM {φ : FTy} (x : FVec Ideal S16x64x64 φ) (A : Fin 16 → Matrix (Fin 64) (Fin 64) ℝ) : Prop :=
  Is3 x fun h p r => A h p r

/-- A product of real matrices, head by head. -/
theorem mm_mat {φ₁ φ₂ : FTy} {x : FVec Ideal S16x64x64 φ₁} {y : FVec Ideal S16x64x64 φ₂}
    {A B : Fin 16 → Matrix (Fin 64) (Fin 64) ℝ} (hx : IsM x A) (hy : IsM y B) :
    IsM (matmul dot_S16x64x64_S16x64x64_S16x64x64_2_1_1_2_0_0 none x y (zeros S16x64x64)) (fun h => A h * B h) :=
  (mm_pp hx hy).congr fun _ _ _ => (Matrix.mul_apply).symm

/-- A three-term product of real matrices, from the parts of its factors. -/
theorem three_mat {x x' y y' : FVec Ideal S16x64x64 .bf16} {A B : Fin 16 → Matrix (Fin 64) (Fin 64) ℝ}
    (hx : IsM x A) (hx' : Is3 x' fun _ _ _ => 0) (hy : IsM y B) (hy' : Is3 y' fun _ _ _ => 0) :
    IsM (addf (matmul dot_S16x64x64_S16x64x64_S16x64x64_2_1_1_2_0_0 none x y (zeros S16x64x64))
      (addf (matmul dot_S16x64x64_S16x64x64_S16x64x64_2_1_1_2_0_0 none x y' (zeros S16x64x64))
        (matmul dot_S16x64x64_S16x64x64_S16x64x64_2_1_1_2_0_0 none x' y (zeros S16x64x64)))) (fun h => A h * B h) :=
  (mm_mat hx hy).three (mm_pp hx hy') (mm_pp hx' hy) (fun _ _ _ => by simp) (fun _ _ _ => by simp)

/-- The three-term product of a matrix of positions with a block of tokens. -/
theorem three_pt {x x' : FVec Ideal S16x64x64 .bf16} {y y' : FVec Ideal S16x64x128 .bf16}
    {A : Fin 16 → Fin 64 → Fin 64 → ℝ} {f : Fin 16 → Fin 64 → Fin 128 → ℝ}
    (hx : Is3 x A) (hx' : Is3 x' fun _ _ _ => 0) (hy : Is3 y f) (hy' : Is3 y' fun _ _ _ => 0) :
    Is3 (addf (matmul dot_S16x64x64_S16x64x128_S16x64x128_2_1_1_2_0_0 none x y (zeros S16x64x128))
      (addf (matmul dot_S16x64x64_S16x64x128_S16x64x128_2_1_1_2_0_0 none x y' (zeros S16x64x128))
        (matmul dot_S16x64x64_S16x64x128_S16x64x128_2_1_1_2_0_0 none x' y (zeros S16x64x128))))
      (fun h p d => ∑ r, A h p r * f h r d) :=
  (mm_pt hx hy).three (mm_pt hx hy') (mm_pt hx' hy) (fun _ _ _ => by simp) (fun _ _ _ => by simp)

/-- One doubling step of the kernel. -/
theorem step_mat {x : FVec Ideal S16x64x64 .f32} {p : FVec Ideal S16x64x64 .f32}
    {X P : Fin 16 → Matrix (Fin 64) (Fin 64) ℝ} (hx : IsM x X) (hp : IsM p P) :
    IsM (addf x (matmul dot_S16x64x64_S16x64x64_S16x64x64_2_1_1_2_0_0 none (truncf .bf16 x bitsLt_bf16_f32)
      (truncf .bf16 p bitsLt_bf16_f32) (zeros S16x64x64))) (fun h => X h + X h * P h) :=
  hx.add (mm_mat (hx.trunc _) (hp.trunc _))

/-- The square of a matrix, as the kernel takes it. -/
theorem sq_mat {p : FVec Ideal S16x64x64 .f32} {P : Fin 16 → Matrix (Fin 64) (Fin 64) ℝ} (hp : IsM p P) :
    IsM (matmul dot_S16x64x64_S16x64x64_S16x64x64_2_1_1_2_0_0 none (truncf .bf16 p bitsLt_bf16_f32)
      (truncf .bf16 p bitsLt_bf16_f32) (zeros S16x64x64)) (fun h => P h * P h) :=
  mm_mat (hp.trunc _) (hp.trunc _)

/-- The kernel's doubling product. -/
theorem doubling {A : Fin 16 → Matrix (Fin 64) (Fin 64) ℝ}
    {x1 : FVec Ideal S16x64x64 .f32} {p0 p0' : FVec Ideal S16x64x64 .bf16}
    (hx1 : IsM x1 fun h => (1 - A h) + (1 - A h) * (A h * A h) ) (hp0 : IsM p0 fun h => A h * A h)
    (hp0' : IsM p0' fun h => A h * A h) : IsM (k0_pay24 x1 p0 p0') fun h => dbl (A h) := by
  have p1 := mm_mat hp0 hp0'
  have x2 := step_mat hx1 p1
  have p2 := sq_mat p1
  have x3 := step_mat x2 p2
  have p3 := sq_mat p2
  have x4 := step_mat x3 p3
  have p4 := sq_mat p3
  exact step_mat x4 p4

section Solve

variable (i v85 v120 v122 v123)

/-- The first doubling's result, as the kernel computes it. -/
abbrev x1 : FVec Ideal S16x64x64 .f32 := k0_pay21 (k0_pay6 i) (k0_pay7 i) k0_pay8 v85 v120 v122 v123

/-- The square of the triangular matrices, as the kernel keeps it. -/
abbrev p0 : FVec Ideal S16x64x64 .bf16 := k0_pay22 (k0_pay6 i) (k0_pay7 i) v85 v120 v122 v123

/-- The square of the triangular matrices, kept a second time. -/
abbrev p0' : FVec Ideal S16x64x64 .bf16 := k0_pay23 (k0_pay6 i) (k0_pay7 i) v85 v120 v122 v123

/-- The doubling product. -/
abbrev xs : FVec Ideal S16x64x64 .f32 := k0_pay24 (x1 i v85 v120 v122 v123) (p0 i v85 v120 v122 v123) (p0' i v85 v120 v122 v123)

/-- The residual of the doubling product. -/
abbrev rs : FVec Ideal S16x64x64 .f32 :=
  k0_pay25 k0_pay8 (k0_pay19 (k0_pay6 i) (k0_pay7 i) v85 v120 v122 v123) (x1 i v85 v120 v122 v123)
    (p0 i v85 v120 v122 v123) (p0' i v85 v120 v122 v123)

/-- The leading part of the doubling product. -/
abbrev xh : FVec Ideal S16x64x64 .bf16 := k0_pay26 (x1 i v85 v120 v122 v123) (p0 i v85 v120 v122 v123) (p0' i v85 v120 v122 v123)

/-- The rest of the doubling product. -/
abbrev xl : FVec Ideal S16x64x64 .bf16 := k0_pay27 (x1 i v85 v120 v122 v123) (p0 i v85 v120 v122 v123) (p0' i v85 v120 v122 v123)

variable (v118)

/-- The solved values. -/
abbrev us : FVec Ideal S16x64x128 .f32 :=
  k0_pay29 v118 (k0_pay15 v123) (xs i v85 v120 v122 v123) (rs i v85 v120 v122 v123) (xh i v85 v120 v122 v123)
    (xl i v85 v120 v122 v123)

/-- The leading part of the solved keys. -/
abbrev wh : FVec Ideal S16x64x128 .bf16 :=
  k0_pay32 v120 (k0_pay18 v85 v123) (xs i v85 v120 v122 v123) (rs i v85 v120 v122 v123) (xh i v85 v120 v122 v123)
    (xl i v85 v120 v122 v123)

/-- The rest of the solved keys. -/
abbrev wl : FVec Ideal S16x64x128 .bf16 :=
  k0_pay33 v120 (k0_pay18 v85 v123) (xs i v85 v120 v122 v123) (rs i v85 v120 v122 v123) (xh i v85 v120 v122 v123)
    (xl i v85 v120 v122 v123)

end Solve

include hk hG hGr hb

/-- The squares of the triangular matrices. -/
theorem pay20 : IsM (k0_pay20 (k0_pay6 i) (k0_pay7 i) v85 v120 v122 v123) fun h =>
    tri (posd (i 0)) (k h) (g h) (b h) * tri (posd (i 0)) (k h) (g h) (b h) :=
  sq_mat (pay19 hk hG hGr hb)

/-- The first doubling. -/
theorem pay21 : IsM (x1 i v85 v120 v122 v123) fun h =>
    (1 - tri (posd (i 0)) (k h) (g h) (b h)) + (1 - tri (posd (i 0)) (k h) (g h) (b h)) *
      (tri (posd (i 0)) (k h) (g h) (b h) * tri (posd (i 0)) (k h) (g h) (b h)) :=
  step_mat (X := fun h => 1 - tri (posd (i 0)) (k h) (g h) (b h)) ((heads eye).sub (pay19 hk hG hGr hb))
    (pay20 hk hG hGr hb)

/-- The doubling product of the chunk. -/
theorem pay24 : IsM (xs i v85 v120 v122 v123) fun h => dbl (tri (posd (i 0)) (k h) (g h) (b h)) :=
  doubling (pay21 hk hG hGr hb) ((pay20 hk hG hGr hb).trunc _) ((pay20 hk hG hGr hb).trunc _)

/-- The residual of the doubling product. -/
theorem pay25 : IsM (rs i v85 v120 v122 v123) fun h =>
    1 - (1 + tri (posd (i 0)) (k h) (g h) (b h)) * dbl (tri (posd (i 0)) (k h) (g h) (b h)) := by
  have hx := pay24 hk hG hGr hb
  have h1 : IsM _ fun h => 1 + tri (posd (i 0)) (k h) (g h) (b h) := (heads eye).add (pay19 hk hG hGr hb)
  exact (heads eye).sub (three_mat (h1.trunc _) (h1.rest _ _ _) (hx.trunc _) (hx.rest _ _ _))

/-- The inverse of the chunk's unit triangular matrices. -/
theorem pay28 : IsM (k0_pay28 (xs i v85 v120 v122 v123) (rs i v85 v120 v122 v123) (xh i v85 v120 v122 v123)
    (xl i v85 v120 v122 v123)) fun h => inv (tri (posd (i 0)) (k h) (g h) (b h)) := by
  have hx := pay24 hk hG hGr hb
  have hr := pay25 hk hG hGr hb
  exact hx.add (three_mat (hx.trunc _) (hx.rest _ _ _) (hr.trunc _) (hr.rest _ _ _))

include hv in
/-- The solved values. -/
theorem pay29 : Is3 (us i v85 v118 v120 v122 v123) fun h p d =>
    ∑ r, inv (tri (posd (i 0)) (k h) (g h) (b h)) p r * (v h r d * b h r) := by
  have hx := pay28 hk hG hGr hb
  have hvb := hv.mul (bc_col128 (pay15 hb))
  exact three_pt (hx.trunc _) (hx.rest _ _ _) (hvb.trunc _) (hvb.rest _ _ _)

/-- The solved keys. -/
theorem pay30 : Is3 (k0_pay30 v120 (k0_pay18 v85 v123) (xs i v85 v120 v122 v123) (rs i v85 v120 v122 v123)
    (xh i v85 v120 v122 v123) (xl i v85 v120 v122 v123)) fun h p c =>
    ∑ r, inv (tri (posd (i 0)) (k h) (g h) (b h)) p r * (k h r c * b h r * Real.exp (G (posd (i 0)) (g h) r)) := by
  have hx := pay28 hk hG hGr hb
  have hkg := (pay18 hk hb).mul (bc_col128 hG.exp)
  exact three_pt (hx.trunc _) (hx.rest _ _ _) (hkg.trunc _) (hkg.rest _ _ _)

include hv hS

/-- The chunk's corrections. -/
theorem pay35 : Is3 (k0_pay35 v125 (us i v85 v118 v120 v122 v123) (wh i v85 v120 v122 v123) (wl i v85 v120 v122 v123)
    (k0_pay34 v125)) fun h p d => corr (posd (i 0)) (k h) (v h) (g h) (b h) (S0 h) p d := by
  have hw := pay30 hk hG hGr hb
  exact (pay29 hk hv hG hGr hb).sub
    ((mm_ts (hw.trunc _) (hS.trunc _)).three (mm_ts (hw.trunc _) (hS.rest _ _ _)) (mm_ts (hw.rest _ _ _) (hS.trunc _))
      (fun _ _ _ => by simp) (fun _ _ _ => by simp))

include hq in
/-- The chunk's outputs. -/
theorem pay36 : Is3 (k0_pay36 v52 v120 v125 (us i v85 v118 v120 v122 v123)
      (k0_pay31 v52 v85 (k0_pay17 (k0_pay6 i) v120 v122)) (wh i v85 v120 v122 v123) (wl i v85 v120 v122 v123)
      (k0_pay34 v125))
    fun h p d => chunkOut (posd (i 0)) (q h) (k h) (v h) (g h) (b h) (S0 h) p d := by
  have hvn := pay35 hk hv hG hGr hb hS
  have hqk := (mm_qk (hq.trunc bitsLt_bf16_f32) (hk.trunc bitsLt_bf16_f32)).mul (pay17 hG hGr)
  exact (mm_ts ((hq.mul (bc_col128 hG.exp)).trunc _) (hS.trunc _)).add (mm_pt (hqk.trunc _) (hvn.trunc _))

/-- The state after the chunk. -/
theorem pay37 : Is3 (k0_pay37 v85 v120 v125 (k0_pay16 (k0_pay9 i) v120) (us i v85 v118 v120 v122 v123)
      (wh i v85 v120 v122 v123) (wl i v85 v120 v122 v123) (k0_pay34 v125))
    fun h c d => chunkState (posd (i 0)) (k h) (v h) (g h) (b h) (S0 h) c d := by
  have hvn := pay35 hk hv hG hGr hb hS
  have ht := pay16 hG
  have hkg := hk.mul (bc_col128 ((bc_head64 ht).sub hG).exp)
  have hkt := turned hkg
  have hsum := (hS.mul (bc_head128 ht.exp)).add
    ((mm_kt (hkt.trunc bitsLt_bf16_f32) (hvn.trunc bitsLt_bf16_f32)).three
      (mm_kt (hkt.trunc bitsLt_bf16_f32) (hvn.rest bitsLt_bf16_f32 bitsLt_bf16_f32 bitsLt_bf16_f32))
      (mm_kt (hkt.rest bitsLt_bf16_f32 bitsLt_bf16_f32 bitsLt_bf16_f32) (hvn.trunc bitsLt_bf16_f32))
      (fun _ _ _ => by simp) (fun _ _ _ => by simp))
  exact same_shape hsum

end Chunk

end Delta

end
-- ==== Proof.HostGates.lean ====
/- What the host prepares of the gates: the log decays summed inside each chunk of 64 tokens, and the betas turned. -/
module

public import proofs.«01_k».proof.Proof.Gen.KernelIdeal.Frame
public import proofs.«01_k».proof.Proof.Payload
public import Idealize.ShloMosaic.Lib.Claim
public import Idealize.ShloMosaic.Lib.Pipeline.ValueKit

@[expose] public section

set_option maxRecDepth 16384

noncomputable section

namespace Delta

open Idealize.ShloMosaic Idealize.ShloMosaic.TcCoe Idealize.SL.Sem Cert.KernelIdeal Cert.KernelIdeal.Gen
open scoped BigOperators

/-- A left fold of additions is the sum of what it adds. -/
theorem foldl_add {ι : Type} (l : List ι) (f : ι → EReal) (z : EReal) :
    l.foldl (fun r a => r + f a) z = z + (l.map f).sum := by
  induction l generalizing z with
  | nil => simp
  | cons a l ih => rw [List.foldl_cons, ih, List.map_cons, List.sum_cons, add_assoc]

/-- The entry at place `k` of the window of 64 that ends at `p`, zero in front of the first entry. -/
def windowAt (f : Fin 64 → ℝ) (p k : Fin 64) : ℝ :=
  if h : 63 ≤ p.val + k.val then f ⟨p.val + k.val - 63, by omega⟩ else 0

/-- A window of 64 that ends at `p`, padded with zeros in front, sums the entries up to `p`. -/
theorem window_sum (f : Fin 64 → ℝ) (p : Fin 64) :
    ∑ k : Fin 64, windowAt f p k = ∑ j : Fin 64, if j.val ≤ p.val then f j else 0 := by
  unfold windowAt
  rw [← Finset.sum_filter_add_sum_filter_not _ (fun k : Fin 64 => 63 ≤ p.val + k.val),
    ← Finset.sum_filter_add_sum_filter_not Finset.univ (fun j : Fin 64 => j.val ≤ p.val)]
  rw [Finset.sum_eq_zero (s := Finset.univ.filter fun k : Fin 64 => ¬63 ≤ p.val + k.val),
    Finset.sum_eq_zero (s := Finset.univ.filter fun j : Fin 64 => ¬j.val ≤ p.val), add_zero, add_zero]
  · refine Finset.sum_bij' (fun k hk => ⟨p.val + k.val - 63, by omega⟩)
      (fun j hj => ⟨j.val + 63 - p.val, by have := (Finset.mem_filter.mp hj).2; omega⟩) ?_ ?_ ?_ ?_ ?_
    · intro k hk
      have := (Finset.mem_filter.mp hk).2
      exact Finset.mem_filter.mpr ⟨Finset.mem_univ _, by show p.val + k.val - 63 ≤ p.val; omega⟩
    · intro j hj
      have := (Finset.mem_filter.mp hj).2
      exact Finset.mem_filter.mpr ⟨Finset.mem_univ _, by show 63 ≤ p.val + (j.val + 63 - p.val); omega⟩
    · intro k hk
      have := (Finset.mem_filter.mp hk).2
      exact Fin.ext (by show p.val + k.val - 63 + 63 - p.val = k.val; omega)
    · intro j hj
      have := (Finset.mem_filter.mp hj).2
      exact Fin.ext (by show p.val + (j.val + 63 - p.val) - 63 = j.val; omega)
    · intro k hk
      have h := (Finset.mem_filter.mp hk).2
      rw [dif_pos h, if_pos (by show p.val + k.val - 63 ≤ p.val; omega)]
  · intro j hj
    exact if_neg (Finset.mem_filter.mp hj).2
  · intro k hk
    exact dif_neg (Finset.mem_filter.mp hk).2

/-- The running sum along the last axis, at an index. -/
theorem cumsum_at {x : FVec Ideal S16x132x64 .f32} {init : FVec Ideal S_ .f32} {hw hu} {f : Fin 64 → ℝ} {h : Fin 16}
    {j : Fin 132} (p : Fin 64) (hx : ∀ r, x (ix3 h j r) = ((f r : ℝ) : EReal)) (h0 : ∀ i, init i = 0) :
    Host.reduceWindowAdd (t := S16x132x64) (![1, 1, 64] : Fin 3 → Nat) ![1, 1, 1] ![0, 0, 63] ![0, 0, 0] x init hw hu (ix3 h j p)
      = ((∑ r : Fin 64, if r.val ≤ p.val then f r else 0 : ℝ) : EReal) := by
  rw [← window_sum, ← coe_sum]
  unfold Host.reduceWindowAdd
  rw [Ideal.hostReduceWindowAdd_def]
  unfold Ideal.hostReduceWindowAdd Host.reduceWindow
  refine (foldl_add _ _ _).trans ?_
  rw [h0, zero_add, ← List.ofFn_eq_map, List.sum_ofFn]
  refine (Fintype.sum_equiv (Shape.rowMajor (⟨3, ![1, 1, 64]⟩ : Shape)).symm _
    (fun w => ((windowAt f p (w 2) : ℝ) : EReal)) ?_).trans ?_
  · intro n
    suffices H : ∀ (w : (⟨3, ![1, 1, 64]⟩ : Shape).Idx) (D : Decidable (∀ a : Fin 3, (![0, 0, 63] : Fin 3 → ℕ) a ≤ (ix3 h j p a).val * (![1, 1, 1] : Fin 3 → ℕ) a + (w a).val ∧
            (ix3 h j p a).val * (![1, 1, 1] : Fin 3 → ℕ) a + (w a).val - (![0, 0, 63] : Fin 3 → ℕ) a < S16x132x64.size a)),
        @dite EReal _ D
          (fun hin => x fun a => ⟨(ix3 h j p a).val * (![1, 1, 1] : Fin 3 → ℕ) a + (w a).val - (![0, 0, 63] : Fin 3 → ℕ) a, (hin a).2⟩)
          (fun _ => 0) = ((windowAt f p (w 2) : ℝ) : EReal) from H _ _
    intro w D
    idx_vars w
    split
    · next hin =>
      have h2 := (hin 2).1
      change 63 ≤ p.val * 1 + w2.val at h2
      show x _ = _
      refine Eq.trans (congrArg x ?_) ((hx ⟨p.val + w2.val - 63, by omega⟩).trans ?_)
      · funext a
        refine Fin.ext ?_
        match a with
        | ⟨0, _⟩ => show h.val * 1 + w0.val - 0 = h.val; omega
        | ⟨1, _⟩ => show j.val * 1 + w1.val - 0 = j.val; omega
        | ⟨2, _⟩ => show p.val * 1 + w2.val - 63 = p.val + w2.val - 63; omega
      · show _ = ((windowAt f p w2 : ℝ) : EReal)
        unfold windowAt
        rw [dif_pos (by omega)]
    · next hin =>
      have hn : ¬63 ≤ p.val + w2.val := fun h2 => hin fun a => by
        match a with
        | ⟨0, _⟩ => exact ⟨Nat.zero_le _, by show h.val * 1 + w0.val - 0 < 16; omega⟩
        | ⟨1, _⟩ => exact ⟨Nat.zero_le _, by show j.val * 1 + w1.val - 0 < 132; omega⟩
        | ⟨2, _⟩ => exact ⟨by show 63 ≤ p.val * 1 + w2.val; omega, by show p.val * 1 + w2.val - 63 < 64; omega⟩
      show (0 : EReal) = ((windowAt f p w2 : ℝ) : EReal)
      unfold windowAt
      rw [dif_neg hn]
      rfl
  · rw [sum_idx3, Fin.sum_univ_one, Fin.sum_univ_one]
    rfl

/-! ## The buffers the kernel is launched on -/

section Buffers

variable (m : (ℓ : Loc nD τ sig) → Buf (Elt Ideal) ℓ) (c : Dev nD)

/-- The betas, one row of 8448 tokens for each direction and head. -/
theorem beta_at (d : Fin 2) (h : Fin 16) (t : Fin 8448) :
    (V m c main_v16 : S32x8448x1.Idx → EReal) (ix3 ⟨16 * d.val + h.val, by omega⟩ t 0)
      = (m ((c : Thread nD τ).loc main_arg4) : S2x8448x16.Idx → EReal) (ix3 d t h) := by
  simp only [V, List.flatten_cons, List.flatten_nil, hostOps0, hostOps0_1, hostOps0_2, hostOps0_3, hostOps0_4,
    List.cons_append, List.nil_append, List.append_nil]
  entry_read
  pointwise
  blk_ext []

/-- The summed log decays before they are cut in two shapes: direction, head, chunk, place in the chunk. -/
theorem sums_at {g : Fin 2 → Fin 8448 → Fin 16 → ℝ}
    (hg : Is3 (m ((c : Thread nD τ).loc main_arg3) : S2x8448x16.Idx → EReal) g)
    (d : Fin 2) (h : Fin 16) (j : Fin 132) (p : Fin 64) :
    (V m c main_v12 : S2x16x132x64.Idx → EReal) (ix4 d h j p)
      = ((G (posd d) (fun r => g d ⟨64 * j.val + r.val, by omega⟩ h) p : ℝ) : EReal) := by
  simp only [V, List.flatten_cons, List.flatten_nil, hostOps0, hostOps0_1, hostOps0_2, hostOps0_3, hostOps0_4,
    List.cons_append, List.nil_append, List.append_nil]
  entry_read
  pointwise
  have hd : d = 0 ∨ d = 1 := by omega
  split
  · next h0 =>
    obtain rfl : d = 0 := by omega
    refine (cumsum_at (f := fun r => g 0 ⟨64 * j.val + r.val, by omega⟩ h) p ?_ ?_).trans ?_
    · intro r
      refine Eq.trans ?_ (hg 0 ⟨64 * j.val + r.val, by omega⟩ h)
      show (m ((c : Thread nD τ).loc main_arg3) : S2x8448x16.Idx → EReal)
        (ix3 (0 : Fin 2) ⟨j.val * 64 + r.val, by omega⟩ h) = _
      simp only [Nat.mul_comm j.val 64]
    · intro i
      exact zero_bits
    · unfold G cum
      refine congrArg _ (Finset.sum_congr rfl fun r _ => ?_)
      show (if _ then _ else _ : ℝ) = if r.val < p.val + 1 then _ else _
      simp only [Nat.lt_succ_iff]
  · next h0 =>
    obtain rfl : d = 1 := by omega
    refine (cumsum_at (f := fun r => g 1 ⟨64 * j.val + (63 - r.val), by omega⟩ h) p.rev ?_ ?_).trans ?_
    · intro r
      refine Eq.trans ?_ (hg 1 ⟨64 * j.val + (63 - r.val), by omega⟩ h)
      show (m ((c : Thread nD τ).loc main_arg3) : S2x8448x16.Idx → EReal)
        (ix3 (1 : Fin 2) ⟨j.val * 64 + r.rev.val, by omega⟩ h) = _
      have e : j.val * 64 + r.rev.val = 64 * j.val + (63 - r.val) := by rw [Fin.val_rev]; omega
      simp only [e]
    · intro i
      exact zero_bits
    · unfold G cum
      refine congrArg _ (Fintype.sum_equiv Fin.revPerm _ _ fun r => ?_)
      show (if r.val ≤ 64 - (p.val + 1) then _ else _ : ℝ) = if 63 - (64 - (r.val + 1)) < 63 - p.val + 1 then _ else _
      have e : r.val ≤ 64 - (p.val + 1) ↔ 63 - (64 - (r.val + 1)) < 63 - p.val + 1 := by omega
      simp only [e]
      split
      · refine congrArg (fun t => g 1 t h) (Fin.ext ?_)
        show 64 * j.val + (63 - r.val) = 64 * j.val + (64 - (r.val + 1))
        omega
      · rfl

/-- The cast of direction, head, chunk and place to a column, at an index. -/
theorem col_cast (x : S2x16x132x64.Idx → EReal) (a : Fin 32) (t : Fin 8448) :
    shapeCast S32x8448x1 x shapeCasts_S2x16x132x64_S32x8448x1 (ix3 a t 0)
      = x (ix4 ⟨a.val / 16, by omega⟩ ⟨a.val % 16, by omega⟩ ⟨t.val / 64, by omega⟩ ⟨t.val % 64, by omega⟩) := by
  pointwise

/-- The summed log decays, one column of 8448 tokens for each direction and head. -/
theorem col_at (d : Fin 2) (h : Fin 16) (j : Fin 132) (p : Fin 64) :
    (V m c main_v13 : S32x8448x1.Idx → EReal) (ix3 ⟨16 * d.val + h.val, by omega⟩ ⟨64 * j.val + p.val, by omega⟩ 0)
      = (V m c main_v12 : S2x16x132x64.Idx → EReal) (ix4 d h j p) := by
  have e : (V m c main_v13 : S32x8448x1.Idx → EReal)
      = shapeCast S32x8448x1 (V m c main_v12 : S2x16x132x64.Idx → EReal) shapeCasts_S2x16x132x64_S32x8448x1 := by
    simp only [V, List.flatten_cons, List.flatten_nil, hostOps0, hostOps0_1, hostOps0_2, hostOps0_3, hostOps0_4,
      List.cons_append, List.nil_append, List.append_nil]
    entry_read
    rfl
  rw [e, col_cast]
  congr 1
  congr 1 <;> exact Fin.ext (by simp only []; omega)

/-- The cast of direction, head, chunk and place to rows, at an index. -/
theorem row_cast (x : S2x16x132x64.Idx → EReal) (a : Fin 32) (j : Fin 132) (p : Fin 64) :
    shapeCast S32x132x1x64 x shapeCasts_S2x16x132x64_S32x132x1x64 (ix4 a j 0 p)
      = x (ix4 ⟨a.val / 16, by omega⟩ ⟨a.val % 16, by omega⟩ j p) := by
  pointwise

/-- The summed log decays, one row of 64 for each direction, head and chunk. -/
theorem row_at (d : Fin 2) (h : Fin 16) (j : Fin 132) (p : Fin 64) :
    (V m c main_v14 : S32x132x1x64.Idx → EReal) (ix4 ⟨16 * d.val + h.val, by omega⟩ j 0 p)
      = (V m c main_v12 : S2x16x132x64.Idx → EReal) (ix4 d h j p) := by
  have e : (V m c main_v14 : S32x132x1x64.Idx → EReal)
      = shapeCast S32x132x1x64 (V m c main_v12 : S2x16x132x64.Idx → EReal) shapeCasts_S2x16x132x64_S32x132x1x64 := by
    simp only [V, List.flatten_cons, List.flatten_nil, hostOps0, hostOps0_1, hostOps0_2, hostOps0_3, hostOps0_4,
      List.cons_append, List.nil_append, List.append_nil]
    entry_read
    rfl
  rw [e, row_cast]
  congr 1
  congr 1 <;> exact Fin.ext (by simp only []; omega)

end Buffers

end Delta

end
-- ==== Proof.Scan.lean ====
/- The gated delta recurrence over all tokens, on real numbers: what both programs compute. -/
module

public import proofs.«01_k».proof.Proof.Payload

@[expose] public section

noncomputable section

namespace Delta

/-- The token a direction reads at step `n`: forward, or each of the two streams (256 tokens, then 8192) reversed. -/
def tok (d : Fin 2) (n : ℕ) : ℕ := if d = 0 then n else if n < 256 then 255 - n else 8703 - n

/-- The chunk of 64 tokens a direction reads at its chunk `j`. -/
def block (d : Fin 2) (j : ℕ) : ℕ := if d = 0 then j else if j < 4 then 3 - j else 135 - j

/-- Tokens are below 8448. -/
theorem tok_lt (d : Fin 2) {n : ℕ} (h : n < 8448) : tok d n < 8448 := by unfold tok; split <;> [skip; split] <;> omega

/-- The order of tokens is its own inverse. -/
theorem tok_tok (d : Fin 2) {n : ℕ} (h : n < 8448) : tok d (tok d n) = n := by
  unfold tok
  by_cases hd : d = 0
  · rw [if_pos hd, if_pos hd]
  · rw [if_neg hd, if_neg hd]
    by_cases hn : n < 256
    · rw [if_pos hn, if_pos (by omega)]; omega
    · rw [if_neg hn, if_neg (by omega)]; omega

/-- Chunks are below 132. -/
theorem block_lt (d : Fin 2) {j : ℕ} (h : j < 132) : block d j < 132 := by unfold block; split <;> [skip; split] <;> omega

/-- The order of chunks is its own inverse. -/
theorem block_block (d : Fin 2) {j : ℕ} (h : j < 132) : block d (block d j) = j := by
  unfold block
  by_cases hd : d = 0
  · rw [if_pos hd, if_pos hd]
  · rw [if_neg hd, if_neg hd]
    by_cases hn : j < 4
    · rw [if_pos hn, if_pos (by omega)]; omega
    · rw [if_neg hn, if_neg (by omega)]; omega

/-- The token of a chunk's row is read at the row's place in the chunk. -/
theorem tok_block (d : Fin 2) {j : ℕ} (h : j < 132) (p : Fin 64) :
    tok d (64 * j + posd d p) = 64 * block d j + p.val := by
  unfold tok block posd
  by_cases hd : d = 0
  · simp only [if_pos hd]
  · simp only [if_neg hd]
    by_cases hn : j < 4
    · rw [if_pos hn, if_pos (by omega)]; omega
    · rw [if_neg hn, if_neg (by omega)]; omega

/-- The arguments as tables of real numbers: queries, keys, values, log decays, betas. -/
structure Args where
  /-- the queries, by token and feature -/
  q : Fin 8448 → Fin 2048 → ℝ
  /-- the keys -/
  k : Fin 8448 → Fin 2048 → ℝ
  /-- the values -/
  v : Fin 8448 → Fin 2048 → ℝ
  /-- the log decays, by direction, token and head -/
  g : Fin 2 → Fin 8448 → Fin 16 → ℝ
  /-- the betas -/
  b : Fin 2 → Fin 8448 → Fin 16 → ℝ

/-- The 128 features of one head of a token. -/
def headRow (a : Fin 8448 → Fin 2048 → ℝ) (t : Fin 8448) (h : Fin 16) (c : Fin 128) : ℝ :=
  a t ⟨128 * h.val + c.val, by omega⟩

/-- The token read at step `n`. -/
def tokF (d : Fin 2) (n : ℕ) : Fin 8448 := Fin.ofNat 8448 (tok d n)

/-- Its number, for the steps there are. -/
theorem tokF_val (d : Fin 2) {n : ℕ} (h : n < 8448) : (tokF d n).val = tok d n := Nat.mod_eq_of_lt (tok_lt d h)

namespace Args

variable (A : Args)

/-- The state of a direction's head after `n` steps. -/
def st (d : Fin 2) (h : Fin 16) : ℕ → State
  | 0 => fun _ _ => 0
  | n + 1 => stepS (st d h n) (headRow A.k (tokF d n) h) (headRow A.v (tokF d n) h) (A.g d (tokF d n) h) (A.b d (tokF d n) h)

/-- The output of a direction's head at token `t`: its query against the state after the step that reads it. -/
def out (d : Fin 2) (t : Fin 8448) (h : Fin 16) (c : Fin 128) : ℝ :=
  outO (A.st d h (tok d t.val + 1)) (headRow A.q t h) c

end Args

end Delta

end
-- ==== Proof.KernelPoint.lean ====
/- One grid point of the kernel: what it stores is the chunk's payloads at the blocks it loads. -/
module

public import proofs.«01_k».proof.Proof.Gen.KernelIdeal.Value
public import proofs.«01_k».proof.Proof.Payload
public import Idealize.ShloMosaic.Lib.Pipeline.ValueKit
public import Idealize.ShloMosaic.Lib.Pipeline.ReadBack

@[expose] public section

set_option maxRecDepth 16384

noncomputable section

namespace Delta

open Idealize.ShloMosaic Idealize.ShloMosaic.TcCoe Idealize.SL.Sem Cert.KernelIdeal Cert.KernelIdeal.Gen
open scoped BigOperators

/-! ## The blocks of tokens, head by head -/

/-- The 128 columns of a block of tokens from column `o` on. -/
abbrev part (x : Vec Ideal S64x2048 .f32) (o : ℕ)
    (inb : ∀ a, (![0, o] : Fin 2 → Nat) a + S64x128.size a ≤ S64x2048.size a) : Vec Ideal S64x128 .f32 :=
  View.ld (Val := Elt Ideal) (e' := .f32) x (Rect.unit (s := S64x2048) ![0, o] S64x128.size inb)

/-- The block of queries with its heads stacked. -/
def hq (x : Vec Ideal S64x2048 .f32) : FVec Ideal S16x64x128 .f32 :=
  k0_pay10
    (part x 0 inb_S64x2048_S64x128_0_0)
    (part x 128 inb_S64x2048_S64x128_0_128)
    (part x 256 inb_S64x2048_S64x128_0_256)
    (part x 384 inb_S64x2048_S64x128_0_384)
    (part x 512 inb_S64x2048_S64x128_0_512)
    (part x 640 inb_S64x2048_S64x128_0_640)
    (part x 768 inb_S64x2048_S64x128_0_768)
    (part x 896 inb_S64x2048_S64x128_0_896)
    (part x 1024 inb_S64x2048_S64x128_0_1024)
    (part x 1152 inb_S64x2048_S64x128_0_1152)
    (part x 1280 inb_S64x2048_S64x128_0_1280)
    (part x 1408 inb_S64x2048_S64x128_0_1408)
    (part x 1536 inb_S64x2048_S64x128_0_1536)
    (part x 1664 inb_S64x2048_S64x128_0_1664)
    (part x 1792 inb_S64x2048_S64x128_0_1792)
    (part x 1920 inb_S64x2048_S64x128_0_1920)

/-- A head's tokens are its 128 columns of the block. -/
theorem hq_at (x : Vec Ideal S64x2048 .f32) (h : Fin 16) (p : Fin 64) (c : Fin 128) :
    hq x (ix3 h p c) = x (ix2 p ⟨128 * h.val + c.val, by omega⟩) := by
  unfold hq k0_pay10 part
  concat_tiles z e
  all_goals
    change h.val = _ at e
    change _ = p.val at e1
    change _ = c.val at e2
    pointwise
    blk_ext [] <;> omega

/-- The block of keys with its heads stacked. -/
def hk (x : Vec Ideal S64x2048 .f32) : FVec Ideal S16x64x128 .f32 :=
  k0_pay11
    (part x 0 inb_S64x2048_S64x128_0_0)
    (part x 128 inb_S64x2048_S64x128_0_128)
    (part x 256 inb_S64x2048_S64x128_0_256)
    (part x 384 inb_S64x2048_S64x128_0_384)
    (part x 512 inb_S64x2048_S64x128_0_512)
    (part x 640 inb_S64x2048_S64x128_0_640)
    (part x 768 inb_S64x2048_S64x128_0_768)
    (part x 896 inb_S64x2048_S64x128_0_896)
    (part x 1024 inb_S64x2048_S64x128_0_1024)
    (part x 1152 inb_S64x2048_S64x128_0_1152)
    (part x 1280 inb_S64x2048_S64x128_0_1280)
    (part x 1408 inb_S64x2048_S64x128_0_1408)
    (part x 1536 inb_S64x2048_S64x128_0_1536)
    (part x 1664 inb_S64x2048_S64x128_0_1664)
    (part x 1792 inb_S64x2048_S64x128_0_1792)
    (part x 1920 inb_S64x2048_S64x128_0_1920)

/-- A head's tokens are its 128 columns of the block. -/
theorem hk_at (x : Vec Ideal S64x2048 .f32) (h : Fin 16) (p : Fin 64) (c : Fin 128) :
    hk x (ix3 h p c) = x (ix2 p ⟨128 * h.val + c.val, by omega⟩) := by
  unfold hk k0_pay11 part
  concat_tiles z e
  all_goals
    change h.val = _ at e
    change _ = p.val at e1
    change _ = c.val at e2
    pointwise
    blk_ext [] <;> omega

/-- The block of values with its heads stacked. -/
def hv (x : Vec Ideal S64x2048 .f32) : FVec Ideal S16x64x128 .f32 :=
  k0_pay12
    (part x 0 inb_S64x2048_S64x128_0_0)
    (part x 128 inb_S64x2048_S64x128_0_128)
    (part x 256 inb_S64x2048_S64x128_0_256)
    (part x 384 inb_S64x2048_S64x128_0_384)
    (part x 512 inb_S64x2048_S64x128_0_512)
    (part x 640 inb_S64x2048_S64x128_0_640)
    (part x 768 inb_S64x2048_S64x128_0_768)
    (part x 896 inb_S64x2048_S64x128_0_896)
    (part x 1024 inb_S64x2048_S64x128_0_1024)
    (part x 1152 inb_S64x2048_S64x128_0_1152)
    (part x 1280 inb_S64x2048_S64x128_0_1280)
    (part x 1408 inb_S64x2048_S64x128_0_1408)
    (part x 1536 inb_S64x2048_S64x128_0_1536)
    (part x 1664 inb_S64x2048_S64x128_0_1664)
    (part x 1792 inb_S64x2048_S64x128_0_1792)
    (part x 1920 inb_S64x2048_S64x128_0_1920)

/-- A head's tokens are its 128 columns of the block. -/
theorem hv_at (x : Vec Ideal S64x2048 .f32) (h : Fin 16) (p : Fin 64) (c : Fin 128) :
    hv x (ix3 h p c) = x (ix2 p ⟨128 * h.val + c.val, by omega⟩) := by
  unfold hv k0_pay12 part
  concat_tiles z e
  all_goals
    change h.val = _ at e
    change _ = p.val at e1
    change _ = c.val at e2
    pointwise
    blk_ext [] <;> omega

/-! ## What one point stores -/

section Point

variable (i : grid0.Coords) (x0 x1 x2 : Vec Ideal S64x2048 .f32) (x3 : Vec Ideal S16x64x1 .f32)
  (x4 : Vec Ideal S16x1x1x64 .f32) (x5 : Vec Ideal S16x64x1 .f32) (S : Vec Ideal S16x128x128 .f32)

/-- The outputs of a point whose blocks are `x0` to `x5`, over the state `S`. -/
def pointOut : FVec Ideal S16x64x128 .f32 :=
  k0_pay36 (hq x0) (k0_pay13 x3) S
    (us i (hk x1) (hv x2) (k0_pay13 x3) (k0_pay14 x4) x5)
    (k0_pay31 (hq x0) (hk x1) (k0_pay17 (k0_pay6 i) (k0_pay13 x3) (k0_pay14 x4)))
    (wh i (hk x1) (k0_pay13 x3) (k0_pay14 x4) x5) (wl i (hk x1) (k0_pay13 x3) (k0_pay14 x4) x5) (k0_pay34 S)

/-- The state after a point whose blocks are `x1` to `x5`, over the state `S`. -/
def pointState : FVec Ideal S16x128x128 .f32 :=
  k0_pay37 (hk x1) (k0_pay13 x3) S (k0_pay16 (k0_pay9 i) (k0_pay13 x3))
    (us i (hk x1) (hv x2) (k0_pay13 x3) (k0_pay14 x4) x5)
    (wh i (hk x1) (k0_pay13 x3) (k0_pay14 x4) x5) (wl i (hk x1) (k0_pay13 x3) (k0_pay14 x4) x5) (k0_pay34 S)

variable {i x0 x1 x2 x3 x4 x5 S}
variable {c : Dev nD} {arg2 : Memref sig .tc .vmem S64x2048 .f32} {harg2 : arg2.IsWhole} {arg3 : Memref sig .tc .vmem S64x2048 .f32} {harg3 : arg3.IsWhole} {arg4 : Memref sig .tc .vmem S64x2048 .f32} {harg4 : arg4.IsWhole} {arg5 : Memref sig .tc .vmem S16x64x1 .f32} {harg5 : arg5.IsWhole} {arg6 : Memref sig .tc .vmem S16x1x1x64 .f32} {harg6 : arg6.IsWhole} {arg7 : Memref sig .tc .vmem S16x64x1 .f32} {harg7 : arg7.IsWhole} {arg8 : Memref sig .tc .vmem S1x64x2048 .f32} {harg8 : arg8.IsWhole} {arg9 : Memref sig .tc .vmem S16x128x128 .f32} {harg9 : arg9.IsWhole}

/-- A direction's later chunks leave the state of the chunk over the state before. -/
theorem soutB {hc0 : ¬cond0_0 i} :
    sout0_B_0 (F := Ideal) c i arg2 harg2 arg3 harg3 arg4 harg4 arg5 harg5 arg6 harg6 arg7 harg7 arg8 harg8 arg9 harg9 hc0 x0 x1 x2 x3 x4 x5 S = pointState i x1 x2 x3 x4 x5 S := by
  frame_out
  rfl

/-- A direction's first chunk leaves the state of the chunk over zeros. -/
theorem soutA {hc0 : cond0_0 i} :
    sout0_A_0 (F := Ideal) c i arg2 harg2 arg3 harg3 arg4 harg4 arg5 harg5 arg6 harg6 arg7 harg7 arg8 harg8 arg9 harg9 hc0 x0 x1 x2 x3 x4 x5 = pointState i x1 x2 x3 x4 x5 (k0_pay4 (F := Ideal)) := by
  frame_out
  rfl

/-- A slice of one head, with the casts around it, reads that head. -/
theorem head_slice {V : FVec Ideal S16x64x128 .f32} {o : ℕ} {hs} {y : S1x64x128.Idx} {h : Fin 16} {p : Fin 64}
    {d : Fin 128} (h0 : h.val = o) (h1 : (y 1).val = p.val) (h2 : (y 2).val = d.val) :
    shapeCast S1x64x128 (shapeCast S64x128 (extractStridedSlice S1x64x128 ![o, 0, 0] V hs)
      shapeCasts_S1x64x128_S64x128) shapeCasts_S64x128_S1x64x128 y = V (ix3 h p d) := by
  subst h0
  obtain rfl : (y 1 : Fin 64) = p := Fin.ext h1
  obtain rfl : (y 2 : Fin 128) = d := Fin.ext h2
  pointwise
  blk_ext []

/-- The outputs of a later chunk, over the state before. -/
theorem outB {hc0 : ¬cond0_0 i} {h : Fin 16} {p : Fin 64} {d : Fin 128} :
    out0_B_6 (F := Ideal) c i arg2 harg2 arg3 harg3 arg4 harg4 arg5 harg5 arg6 harg6 arg7 harg7 arg8 harg8 arg9 harg9 hc0 x0 x1 x2 x3 x4 x5 S (ix3 0 p ⟨128 * h.val + d.val, by omega⟩)
      = pointOut i x0 x1 x2 x3 x4 x5 S (ix3 h p d) := by
  frame_out
  canon_tiles z e
  all_goals
    change 128 * h.val + d.val = _ at e2
    change p.val = _ at e1
    simp only [k0_pay1, k0_pay2, k0_pay3, k0_pay38, k0_pay39, k0_pay40, k0_pay41, k0_pay42, k0_pay43, k0_pay44, k0_pay45, k0_pay46, k0_pay47, k0_pay48, k0_pay49, k0_pay50, k0_pay51, k0_pay52]
    refine head_slice (h := h) (p := p) (d := d) (V := pointOut i x0 x1 x2 x3 x4 x5 S) ?_ ?_ ?_ <;> omega

/-- The outputs of a direction's first chunk, over zeros. -/
theorem outA {hc0 : cond0_0 i} {h : Fin 16} {p : Fin 64} {d : Fin 128} :
    out0_A_6 (F := Ideal) c i arg2 harg2 arg3 harg3 arg4 harg4 arg5 harg5 arg6 harg6 arg7 harg7 arg8 harg8 arg9 harg9 hc0 x0 x1 x2 x3 x4 x5 (ix3 0 p ⟨128 * h.val + d.val, by omega⟩)
      = pointOut i x0 x1 x2 x3 x4 x5 (k0_pay4 (F := Ideal)) (ix3 h p d) := by
  frame_out
  canon_tiles z e
  all_goals
    change 128 * h.val + d.val = _ at e2
    change p.val = _ at e1
    simp only [k0_pay1, k0_pay2, k0_pay3, k0_pay38, k0_pay39, k0_pay40, k0_pay41, k0_pay42, k0_pay43, k0_pay44, k0_pay45, k0_pay46, k0_pay47, k0_pay48, k0_pay49, k0_pay50, k0_pay51, k0_pay52]
    refine head_slice (h := h) (p := p) (d := d) (V := pointOut i x0 x1 x2 x3 x4 x5 (k0_pay4 (F := Ideal))) ?_ ?_ ?_ <;> omega

end Point

end Delta

end
-- ==== Proof.KernelBlocks.lean ====
/- The blocks of the arguments that each point of the grid reads, and where its output block lies. -/
module

public import proofs.«01_k».proof.Proof.HostGates
public import proofs.«01_k».proof.Proof.Scan
public import proofs.«01_k».proof.Proof.KernelPoint

@[expose] public section

set_option maxRecDepth 16384

noncomputable section

namespace Delta

open Idealize.ShloMosaic Idealize.ShloMosaic.TcCoe Idealize.SL.Sem Cert.KernelIdeal Cert.KernelIdeal.Gen

/-- The direction of a point. -/
def dir (t : Fin cfg0.N) : Fin 2 := grid0.coords t 0

/-- The number of a point among its direction's 132. -/
def nth (t : Fin cfg0.N) : Fin 132 := grid0.coords t 1

/-- The direction and number of a point from its position. -/
theorem dir_nth : ∀ t : Fin cfg0.N, (dir t).val = t.val / 132 ∧ (nth t).val = t.val % 132 :=
  (by decide +kernel : ∀ t : Fin grid0.N, (grid0.coords t 0).val = t.val / 132 ∧ (grid0.coords t 1).val = t.val % 132)

/-- The block of queries a point reads. -/
theorem index0 : ∀ t : Fin cfg0.N, (cfg0.win 0).index t = ![block (dir t) (nth t).val, 0] :=
  (by decide +kernel : ∀ t : Fin grid0.N, cc0_transform_0 (grid0.coords t) = ![block (grid0.coords t 0) (grid0.coords t 1).val, 0])

/-- The block of keys. -/
theorem index1 : ∀ t : Fin cfg0.N, (cfg0.win 1).index t = ![block (dir t) (nth t).val, 0] :=
  (by decide +kernel : ∀ t : Fin grid0.N, cc0_transform_1 (grid0.coords t) = ![block (grid0.coords t 0) (grid0.coords t 1).val, 0])

/-- The block of values. -/
theorem index2 : ∀ t : Fin cfg0.N, (cfg0.win 2).index t = ![block (dir t) (nth t).val, 0] :=
  (by decide +kernel : ∀ t : Fin grid0.N, cc0_transform_2 (grid0.coords t) = ![block (grid0.coords t 0) (grid0.coords t 1).val, 0])

/-- The block of summed log decays, as columns. -/
theorem index3 : ∀ t : Fin cfg0.N, (cfg0.win 3).index t = ![(dir t).val, block (dir t) (nth t).val, 0] :=
  (by decide +kernel : ∀ t : Fin grid0.N, cc0_transform_3 (grid0.coords t) = ![(grid0.coords t 0).val, block (grid0.coords t 0) (grid0.coords t 1).val, 0])

/-- The block of summed log decays, as rows. -/
theorem index4 : ∀ t : Fin cfg0.N, (cfg0.win 4).index t = ![(dir t).val, block (dir t) (nth t).val, 0, 0] :=
  (by decide +kernel : ∀ t : Fin grid0.N, cc0_transform_4 (grid0.coords t) = ![(grid0.coords t 0).val, block (grid0.coords t 0) (grid0.coords t 1).val, 0, 0])

/-- The block of betas. -/
theorem index5 : ∀ t : Fin cfg0.N, (cfg0.win 5).index t = ![(dir t).val, block (dir t) (nth t).val, 0] :=
  (by decide +kernel : ∀ t : Fin grid0.N, cc0_transform_5 (grid0.coords t) = ![(grid0.coords t 0).val, block (grid0.coords t 0) (grid0.coords t 1).val, 0])

/-- The block of outputs a point writes. -/
theorem index6 : ∀ t : Fin cfg0.N, (cfg0.win 6).index t = ![(dir t).val, block (dir t) (nth t).val, 0] :=
  (by decide +kernel : ∀ t : Fin grid0.N, cc0_transform_6 (grid0.coords t) = ![(grid0.coords t 0).val, block (grid0.coords t 0) (grid0.coords t 1).val, 0])

section Reads

variable (m : (ℓ : Loc nD τ sig) → Buf (Elt Ideal) ℓ) (c : Dev nD) (t : Fin cfg0.N)

/-- The chunk of tokens a point works on. -/
def chunk : Fin 132 := ⟨block (dir t) (nth t).val, block_lt _ (nth t).isLt⟩

/-- A row of the queries' block. -/
theorem read0 (p : Fin 64) (x : Fin 2048) : (iblk m c 0 t : S64x2048.Idx → EReal) (ix2 p x)
    = (m ((c : Thread nD τ).loc main_arg0) : S8448x2048.Idx → EReal) (ix2 ⟨64 * (chunk t).val + p.val, by omega⟩ x) := by
  rw [← V_main_arg0 m c]
  blk_ext [iblk, index0 t, chunk]

/-- A row of the keys' block. -/
theorem read1 (p : Fin 64) (x : Fin 2048) : (iblk m c 1 t : S64x2048.Idx → EReal) (ix2 p x)
    = (m ((c : Thread nD τ).loc main_arg1) : S8448x2048.Idx → EReal) (ix2 ⟨64 * (chunk t).val + p.val, by omega⟩ x) := by
  rw [← V_main_arg1 m c]
  blk_ext [iblk, index1 t, chunk]

/-- A row of the values' block. -/
theorem read2 (p : Fin 64) (x : Fin 2048) : (iblk m c 2 t : S64x2048.Idx → EReal) (ix2 p x)
    = (m ((c : Thread nD τ).loc main_arg2) : S8448x2048.Idx → EReal) (ix2 ⟨64 * (chunk t).val + p.val, by omega⟩ x) := by
  rw [← V_main_arg2 m c]
  blk_ext [iblk, index2 t, chunk]

/-- A row of the summed log decays' block. -/
theorem read3 (p : Fin 64) (h : Fin 16) : (iblk m c 3 t : S16x64x1.Idx → EReal) (ix3 h p 0)
    = (V m c main_v13 : S32x8448x1.Idx → EReal) (ix3 ⟨16 * (dir t).val + h.val, by omega⟩ ⟨64 * (chunk t).val + p.val, by omega⟩ 0) := by
  blk_ext [iblk, index3 t, chunk]

/-- The same sums, as a row. -/
theorem read4 (p : Fin 64) (h : Fin 16) : (iblk m c 4 t : S16x1x1x64.Idx → EReal) (ix4 h 0 0 p)
    = (V m c main_v14 : S32x132x1x64.Idx → EReal) (ix4 ⟨16 * (dir t).val + h.val, by omega⟩ (chunk t) 0 p) := by
  blk_ext [iblk, index4 t, chunk]

/-- A row of the betas' block. -/
theorem read5 (p : Fin 64) (h : Fin 16) : (iblk m c 5 t : S16x64x1.Idx → EReal) (ix3 h p 0)
    = (V m c main_v16 : S32x8448x1.Idx → EReal) (ix3 ⟨16 * (dir t).val + h.val, by omega⟩ ⟨64 * (chunk t).val + p.val, by omega⟩ 0) := by
  blk_ext [iblk, index5 t, chunk]

end Reads

section Tables

variable {m : (ℓ : Loc nD τ sig) → Buf (Elt Ideal) ℓ} {c : Dev nD} {A : Args} (t : Fin cfg0.N)

/-- A rank-2 vector of extended reals is the table `f` of real numbers. -/
def Is2 {a b : ℕ} (x : (⟨2, ![a, b]⟩ : Shape).Idx → EReal) (f : Fin a → Fin b → ℝ) : Prop :=
  ∀ i j, x (ix2 i j) = ((f i j : ℝ) : EReal)

/-- The kernel's arguments are the tables `A`. -/
structure Given (m : (ℓ : Loc nD τ sig) → Buf (Elt Ideal) ℓ) (c : Dev nD) (A : Args) : Prop where
  /-- the queries -/
  q : Is2 (m ((c : Thread nD τ).loc main_arg0) : S8448x2048.Idx → EReal) A.q
  /-- the keys -/
  k : Is2 (m ((c : Thread nD τ).loc main_arg1) : S8448x2048.Idx → EReal) A.k
  /-- the values -/
  v : Is2 (m ((c : Thread nD τ).loc main_arg2) : S8448x2048.Idx → EReal) A.v
  /-- the log decays -/
  g : Is3 (m ((c : Thread nD τ).loc main_arg3) : S2x8448x16.Idx → EReal) A.g
  /-- the betas -/
  b : Is3 (m ((c : Thread nD τ).loc main_arg4) : S2x8448x16.Idx → EReal) A.b

/-- The token of a row of a point's chunk. -/
def row (t : Fin cfg0.N) (p : Fin 64) : Fin 8448 := ⟨64 * (chunk t).val + p.val, by omega⟩

/-- The row's token is the one read at the row's place. -/
theorem tokF_row (p : Fin 64) : tokF (dir t) (64 * (nth t).val + posd (dir t) p) = row t p :=
  Fin.ext ((tokF_val _ (by have := posd_lt (dir t) p; have := (nth t).isLt; omega)).trans (tok_block _ (nth t).isLt p))

/-- The state moves by one step at the row's token. -/
theorem tok_step (h : Fin 16) (p : Fin 64) : A.st (dir t) h (64 * (nth t).val + (posd (dir t) p + 1))
    = stepS (A.st (dir t) h (64 * (nth t).val + posd (dir t) p)) (headRow A.k (row t p) h) (headRow A.v (row t p) h)
      (A.g (dir t) (row t p) h) (A.b (dir t) (row t p) h) := by
  rw [← tokF_row t p]
  rfl

variable (hA : Given m c A)
include hA

/-- The queries of a point, by head, row and feature. -/
theorem queries : Is3 (hq (iblk m c 0 t)) fun h p x => headRow A.q (row t p) h x :=
  fun h p x => (hq_at _ h p x).trans ((read0 m c t p _).trans (hA.q _ _))

/-- The keys of a point. -/
theorem keys : Is3 (hk (iblk m c 1 t)) fun h p x => headRow A.k (row t p) h x :=
  fun h p x => (hk_at _ h p x).trans ((read1 m c t p _).trans (hA.k _ _))

/-- The values of a point. -/
theorem vals : Is3 (hv (iblk m c 2 t)) fun h p x => headRow A.v (row t p) h x :=
  fun h p x => (hv_at _ h p x).trans ((read2 m c t p _).trans (hA.v _ _))

/-- The summed log decays of a point, as columns. -/
theorem cols : Is3 (k0_pay13 (F := Ideal) (iblk m c 3 t)) fun h p (_ : Fin 1) => G (posd (dir t)) (fun r => A.g (dir t) (row t r) h) p := by
  intro h p z
  obtain rfl : z = 0 := Subsingleton.elim _ _
  refine Eq.trans ?_ ((read3 m c t p h).trans ((col_at m c _ h (chunk t) p).trans (sums_at m c hA.g _ h (chunk t) p)))
  unfold k0_pay13
  pointwise

/-- The summed log decays of a point, as rows. -/
theorem rows : Is3 (k0_pay14 (F := Ideal) (iblk m c 4 t)) fun h (_ : Fin 1) p => G (posd (dir t)) (fun r => A.g (dir t) (row t r) h) p := by
  intro h z p
  obtain rfl : z = 0 := Subsingleton.elim _ _
  refine Eq.trans ?_ ((read4 m c t p h).trans ((row_at m c _ h (chunk t) p).trans (sums_at m c hA.g _ h (chunk t) p)))
  unfold k0_pay14
  pointwise

/-- The betas of a point. -/
theorem betas : Is3 (iblk m c 5 t : S16x64x1.Idx → EReal) fun h p (_ : Fin 1) => A.b (dir t) (row t p) h := by
  intro h p z
  obtain rfl : z = 0 := Subsingleton.elim _ _
  exact (read5 m c t p h).trans ((beta_at m c _ h _).trans (hA.b _ _ _))

/-- One point's step of the state: from the state before its chunk to the state after. -/
theorem state_step {S : Vec Ideal S16x128x128 .f32} (hS : Is3 S fun h => A.st (dir t) h (64 * (nth t).val)) :
    Is3 (pointState (grid0.coords t) (iblk m c 1 t) (iblk m c 2 t) (iblk m c 3 t) (iblk m c 4 t) (iblk m c 5 t) S)
      fun h => A.st (dir t) h (64 * ((nth t).val + 1)) := by
  refine Is3.congr (pay37 (keys t hA) (vals t hA) (cols t hA) (rows t hA) (betas t hA) hS) fun h x y => ?_
  exact congrFun (congrFun (chunkState_eq (posd_inj _) (posd_lt _) (fun n => A.st (dir t) h (64 * (nth t).val + n)) rfl
    (fun p => tok_step t h p)) x) y

/-- One point's outputs: those of the recurrence at its chunk's tokens. -/
theorem out_step {S : Vec Ideal S16x128x128 .f32} (hS : Is3 S fun h => A.st (dir t) h (64 * (nth t).val)) :
    Is3 (pointOut (grid0.coords t) (iblk m c 0 t) (iblk m c 1 t) (iblk m c 2 t) (iblk m c 3 t) (iblk m c 4 t) (iblk m c 5 t) S)
      fun h p x => A.out (dir t) (row t p) h x := by
  refine Is3.congr (pay36 (queries t hA) (keys t hA) (vals t hA) (cols t hA) (rows t hA) (betas t hA) hS) fun h p x => ?_
  refine (chunkOut_eq (posd_inj _) (posd_lt _) (fun n => A.st (dir t) h (64 * (nth t).val + n)) rfl
    (fun p => tok_step t h p) p x).trans ?_
  have e : tok (dir t) (row t p).val = 64 * (nth t).val + posd (dir t) p := by
    rw [← tokF_row t p, tokF_val _ (by have := posd_lt (dir t) p; have := (nth t).isLt; omega)]
    exact tok_tok _ (by have := posd_lt (dir t) p; have := (nth t).isLt; omega)
  unfold Args.out
  rw [e]
  rfl

end Tables

end Delta

end
-- ==== Proof.KernelArray.lean ====
/- The kernel's whole output on real arguments: every token's output of the recurrence. -/
module

public import proofs.«01_k».proof.Proof.KernelBlocks
public import Idealize.ShloMosaic.Lib.Pipeline.Covers

@[expose] public section

set_option maxRecDepth 16384

noncomputable section

namespace Delta

open Idealize.ShloMosaic Idealize.ShloMosaic.TcCoe Idealize.SL.Sem Cert.KernelIdeal Cert.KernelIdeal.Gen

variable {m : (ℓ : Loc nD τ sig) → Buf (Elt Ideal) ℓ} {c : Dev nD} {A : Args}

/-- The state a direction starts from is zero. -/
theorem zero_state (d : Fin 2) : Is3 (k0_pay4 (F := Ideal)) fun h => A.st d h 0 := by
  intro h x y
  refine Eq.trans ?_ (EReal.coe_zero.symm)
  pointwise [k0_pay4]

/-- The state before a point is the recurrence's after the tokens of the chunks before. -/
theorem state_after (hA : Given m c A) (n : ℕ) (hn : n < cfg0.N) :
    Is3 (outsAt0 m c n hn).2 fun h => A.st (dir ⟨n, hn⟩) h (64 * ((nth ⟨n, hn⟩).val + 1)) := by
  induction n with
  | zero =>
    rw [show outsAt0 m c 0 hn = _ from outsAt0_A m c ⟨0, hn⟩ rfl]
    dsimp only
    rw [soutA]
    refine state_step ⟨0, hn⟩ hA ?_
    rw [show (nth ⟨0, hn⟩).val = 0 from (dir_nth _).2]
    exact zero_state _
  | succ n ih =>
    by_cases h0 : (n + 1) % 132 = 0
    · rw [show outsAt0 m c (n + 1) hn = _ from outsAt0_A m c ⟨n + 1, hn⟩ h0]
      dsimp only
      rw [soutA]
      refine state_step ⟨n + 1, hn⟩ hA ?_
      rw [show (nth ⟨n + 1, hn⟩).val = 0 from (dir_nth _).2.trans h0]
      exact zero_state _
    · rw [show outsAt0 m c (n + 1) hn = _ from outsAt0_B m c ⟨n + 1, hn⟩ h0]
      dsimp only
      rw [soutB]
      refine state_step ⟨n + 1, hn⟩ hA ?_
      have hd : dir ⟨n + 1, hn⟩ = dir ⟨n, by omega⟩ := Fin.ext (by rw [(dir_nth _).1, (dir_nth _).1]; dsimp only; omega)
      have hj : (nth ⟨n + 1, hn⟩).val = (nth ⟨n, by omega⟩).val + 1 := by
        rw [(dir_nth _).2, (dir_nth _).2]; dsimp only; omega
      rw [hd, hj]
      exact ih _

/-- The outputs a point leaves in its block. -/
theorem outs_at (hA : Given m c A) (t : Fin cfg0.N) (h : Fin 16) (p : Fin 64) (x : Fin 128) :
    (outsAt0 m c t.val t.isLt).1 (ix3 0 p ⟨128 * h.val + x.val, by omega⟩) = ((A.out (dir t) (row t p) h x : ℝ) : EReal) := by
  by_cases h0 : t.val % 132 = 0
  · rw [outsAt0_A m c t h0]
    dsimp only
    rw [outA]
    refine out_step t hA ?_ h p x
    rw [show (nth t).val = 0 from (dir_nth _).2.trans h0]
    exact zero_state _
  · rw [outsAt0_B m c t h0]
    dsimp only
    rw [outB]
    refine out_step t hA ?_ h p x
    obtain ⟨n, hn⟩ := t
    obtain ⟨n, rfl⟩ : ∃ k, n = k + 1 := ⟨n - 1, by dsimp only at h0; omega⟩
    dsimp only at h0
    have hd : dir ⟨n + 1, hn⟩ = dir ⟨n, by omega⟩ := Fin.ext (by rw [(dir_nth _).1, (dir_nth _).1]; dsimp only; omega)
    have hj : (nth ⟨n + 1, hn⟩).val = (nth ⟨n, by omega⟩).val + 1 := by
      rw [(dir_nth _).2, (dir_nth _).2]; dsimp only; omega
    rw [hd, hj]
    exact state_after hA n _

/-- A feature's output: the feature is a head and an entry of its row. -/
def outAt (A : Args) (d : Fin 2) (t : Fin 8448) (n : Fin 2048) : EReal :=
  ((A.out d t ⟨n.val / 128, by omega⟩ ⟨n.val % 128, by omega⟩ : ℝ) : EReal)

theorem outAt_head (A : Args) (d : Fin 2) (t : Fin 8448) (h : Fin 16) (x : Fin 128) :
    outAt A d t ⟨128 * h.val + x.val, by omega⟩ = ((A.out d t h x : ℝ) : EReal) := by
  unfold outAt
  congr 2 <;> exact Fin.ext (by simp only []; omega)

/-- The outputs of the recurrence as an array: direction, token, feature. -/
def outArr (A : Args) : S2x8448x2048.Idx → EReal := fun i => outAt A (i 0) (i 1) (i 2)

/-- The whole block a point leaves. -/
theorem outs_block (hA : Given m c A) (t : Fin cfg0.N) (y : S1x64x2048.Idx) :
    (outsAt0 m c t.val t.isLt).1 y = outAt A (dir t) (row t (y 1)) (y 2) := by
  obtain ⟨a, p, n, rfl⟩ : ∃ (a : Fin 1) (p : Fin 64) (n : Fin 2048), y = ix3 a p n := ⟨y 0, y 1, y 2, by idx_ext⟩
  obtain rfl : a = 0 := Subsingleton.elim _ _
  obtain ⟨h, x, rfl⟩ : ∃ (h : Fin 16) (x : Fin 128), n = ⟨128 * h.val + x.val, by omega⟩ :=
    ⟨⟨n.val / 128, by omega⟩, ⟨n.val % 128, by omega⟩, Fin.ext (by simp only []; omega)⟩
  exact (outs_at hA t h p x).trans (outAt_head A _ _ h x).symm

/-- The point that writes a direction's chunk. -/
theorem point_of (d : Fin 2) (b : Fin 132) : ∃ t : Fin cfg0.N, dir t = d ∧ block (dir t) (nth t).val = b.val := by
  have hb := block_lt d b.isLt
  have hN : cfg0.N = 264 := N_0
  refine ⟨⟨132 * d.val + block d b.val, by omega⟩, ?_⟩
  have hd : dir ⟨132 * d.val + block d b.val, by omega⟩ = d := Fin.ext (by rw [(dir_nth _).1]; dsimp only; omega)
  refine ⟨hd, ?_⟩
  rw [hd, (dir_nth _).2]
  dsimp only
  rw [show (132 * d.val + block d b.val) % 132 = block d b.val by omega]
  exact block_block d b.isLt

/-- The kernel's output array after the run. -/
theorem kernel_array (hA : Given m c A) : (dats m 0 c).arrAt 6 cfg0.N = outArr A := by
  refine (dats m 0 c).arrAt_eq_of_covers 6 _ ((cfg0.win 6).covers_of_index_surj rfl (by decide) fun β => ?_) fun t hf y => ?_
  · obtain ⟨t, h0, h1⟩ := point_of (β 0) (β 1)
    refine ⟨t, fun a => ?_⟩
    rw [index6 t]
    have h2 : (β 2 : ℕ) = 0 := Nat.lt_one_iff.mp (β 2).isLt
    match a with
    | 0 => exact congrArg Fin.val h0
    | 1 => exact h1
    | 2 => exact h2.symm
  · blk_simp
    rw [after0_6]
    have he : (win0_6.blk t).view.emb y = ix3 (dir t) (row t (y 1)) (y 2 : Fin 2048) := by
      blk_ext [index6 t, row, chunk]
    rw [he]
    exact outs_block hA t y

end Delta

end
-- ==== Proof.RefRun.lean ====
/- The reference's run as its step iterated: what the loop's buffers hold before each trip, and the result. -/
module

public import proofs.«01_k».proof.Proof.Gen.ReferenceIdeal.Run
public import proofs.«01_k».proof.Proof.Gen.ReferenceIdeal.Step

@[expose] public section

noncomputable section

namespace RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The loop's buffers hold the state `s`, and the counter the trip's number `j`. -/
structure Holds (V0 : Valuation τ sig (Elt F)) (s : State F) (j : ℕ) : Prop where
  state : V0 (Proc.devRef .tc main_v53_6) = s.main_v53_6
  out : V0 (Proc.devRef .tc main_v53_7) = s.main_v53_7
  q : V0 (Proc.devRef .tc main_v53_0) = s.main_v53_0
  k : V0 (Proc.devRef .tc main_v53_1) = s.main_v53_1
  v : V0 (Proc.devRef .tc main_v53_2) = s.main_v53_2
  g : V0 (Proc.devRef .tc main_v53_3) = s.main_v53_3
  b : V0 (Proc.devRef .tc main_v53_4) = s.main_v53_4
  n : V0 (Proc.devRef .tc main_v53_5) = constantI S_ 32 (BitVec.ofNat 32 j)

variable {V0 : Valuation τ sig (Elt F)} {s : State F} {j : ℕ}

set_option maxRecDepth 8192 in
/-- The state one trip leaves. -/
theorem trip_state (h : Holds V0 s j) : res_main_while0b_v86 V0 = Cert.ReferenceIdeal.Step.b37 j s := by
  unfold res_main_while0b_v86
  simp only [res_main_while0b_v68, res_main_while0b_v75, h.state, h.q, h.k, h.v, h.g, h.b, h.n]
  rfl

set_option maxRecDepth 8192 in
/-- The state one trip leaves, as the loop's step writes it. -/
theorem step_state (h : Holds V0 s j) : step_main_v53_6 V0 = (step j s).main_v53_6 := trip_state h

set_option maxRecDepth 8192 in
/-- The outputs after one trip. -/
theorem step_out (h : Holds V0 s j) : step_main_v53_7 V0 = (step j s).main_v53_7 := by
  unfold step_main_v53_7
  simp only [id, trip_state h, h.out, h.q, h.n]
  rfl

/-- The counter after one trip. -/
theorem step_n (h : Holds V0 s j) : step_main_v53_5 V0 = constantI S_ 32 (BitVec.ofNat 32 (j + 1)) := by
  unfold step_main_v53_5
  rw [h.n]
  funext i
  show BitVec.ofNat 32 j + 1#32 = BitVec.ofNat 32 (j + 1)
  simp only [BitVec.ofNat_add]

/-- One trip takes buffers holding a state to buffers holding the next. -/
theorem holds_step (h : Holds V0 s j) : Holds (STEP V0) (step j s) (j + 1) where
  state := (STEP_main_v53_6 V0).trans (step_state h)
  out := (STEP_main_v53_7 V0).trans (step_out h)
  n := (STEP_main_v53_5 V0).trans (step_n h)
  q := (STEP_main_v53_0 V0).trans h.q
  k := (STEP_main_v53_1 V0).trans h.k
  v := (STEP_main_v53_2 V0).trans h.v
  g := (STEP_main_v53_3 V0).trans h.g
  b := (STEP_main_v53_4 V0).trans h.b

variable (m : (ℓ : Loc nD τ sig) → Buf (Elt F) ℓ) (c : Dev nD)

/-- The state before the first trip. -/
abbrev start : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

set_option maxRecDepth 65536 in
set_option maxHeartbeats 4000000 in
/-- The operations before the loop leave the first state. -/
theorem entry_holds : Holds (entryContents preI m c) (start m c) 0 := by
  constructor <;> (simp only [entryContents, afterL_cons, afterL_nil]; after_reads_simp) <;> rfl

/-- The states before each trip. -/
def states : ℕ → State F
  | 0 => start m c
  | n + 1 => step n (states n)

/-- Before every trip the buffers hold that trip's state. -/
theorem holds_states : ∀ k, Holds (STEP^[k] (entryContents preI m c)) (states m c k) k
  | 0 => entry_holds m c
  | k + 1 => by
    rw [Function.iterate_succ_apply']
    exact holds_step (holds_states k)

/-- Every run ends with the result of the last state, and the arguments as they were. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v66) = Cert.ReferenceIdeal.Step.R_main_v66 (states m c 8448)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    have e : out_main_v66 (STEP^[8448] (entryContents preI m c)) = Cert.ReferenceIdeal.Step.R_main_v66 (states m c 8448) := by
      unfold out_main_v66
      rw [(holds_states m c 8448).out]
      rfl
    ⟨(h c).1.trans e, (h c).2⟩) (Value.run m ρ)

end RefRun

end
-- ==== Proof.RefValue.lean ====
/- The reference's result on real arguments: every token's output of the recurrence. -/
module

public import proofs.«01_k».proof.Proof.RefRun
public import proofs.«01_k».proof.Proof.Scan
public import Idealize.ShloMosaic.Lib.DynamicIndex
public import Idealize.ShloMosaic.Lib.Pointwise

@[expose] public section

set_option maxRecDepth 16384

noncomputable section

namespace Delta

open Idealize.ShloMosaic Idealize.ShloMosaic.TcCoe Idealize.SL.Sem
open Cert.ReferenceIdeal Cert.ReferenceIdeal.Gen Cert.ReferenceIdeal.Step
open scoped BigOperators

/-! ## The arguments in the order a direction reads them -/

/-- There are two directions. -/
theorem two_dirs (d : Fin 2) : d = 0 ∨ d = 1 := by omega

/-- Rows by token, head and feature, both directions' orders side by side. -/
theorem rows_order {α : Type} (x : S8448x16x128.Idx → α) (n : Fin 8448) (d : Fin 2) (h : Fin 16) (c : Fin 128) :
    concatenate S8448x2x16x128 1
      [⟨S8448x1x16x128, broadcastInDim S8448x1x16x128 ![0, 2, 3] bcast_S8448x16x128_S8448x1x16x128_0_2_3 x⟩,
       ⟨S8448x1x16x128, broadcastInDim S8448x1x16x128 ![0, 2, 3] bcast_S8448x16x128_S8448x1x16x128_0_2_3
        (concatenate S8448x16x128 0
          [⟨S256x16x128, Host.reverse [0] (extractStridedSlice S256x16x128 ![0, 0, 0] x slices_S8448x16x128_S256x16x128_0_0_0)⟩,
           ⟨S8192x16x128, Host.reverse [0] (extractStridedSlice S8192x16x128 ![256, 0, 0] x slices_S8448x16x128_S8192x16x128_256_0_0)⟩]
          concatenates_S256x16x128_S8192x16x128_S8448x16x128_d0)⟩]
      concatenates_S8448x1x16x128_S8448x1x16x128_S8448x2x16x128_d1 (ix4 n d h c) = x (ix3 (tokF d n) h c) := by
  pointwise
  rcases two_dirs d with rfl | rfl
  · rw [dif_pos (by decide)]
    congr 2
    exact Fin.ext ((tokF_val 0 n.isLt).trans (if_pos rfl)).symm
  · rw [dif_neg (by decide)]
    split
    · next hn =>
      congr 2
      refine Fin.ext (Eq.trans ?_ ((tokF_val 1 n.isLt).trans ((if_neg (by decide)).trans (if_pos hn))).symm)
      show 256 - (n.val + 1) = _
      omega
    · next hn =>
      congr 2
      refine Fin.ext (Eq.trans ?_ ((tokF_val 1 n.isLt).trans ((if_neg (by decide)).trans (if_neg hn))).symm)
      show 256 + (8192 - (n.val - 256 + 1)) = _
      omega

/-- The same for rows by token and head, each direction with its own. -/
theorem gates_order {α : Type} (x : S2x8448x16.Idx → α) (n : Fin 8448) (d : Fin 2) (h : Fin 16) :
    concatenate S8448x2x16 1
      [⟨S8448x1x16, broadcastInDim S8448x1x16 ![0, 2] bcast_S8448x16_S8448x1x16_0_2
        (shapeCast S8448x16 (extractStridedSlice S1x8448x16 ![0, 0, 0] x slices_S2x8448x16_S1x8448x16_0_0_0) shapeCasts_S1x8448x16_S8448x16)⟩,
       ⟨S8448x1x16, broadcastInDim S8448x1x16 ![0, 2] bcast_S8448x16_S8448x1x16_0_2
        (concatenate S8448x16 0
          [⟨S256x16, Host.reverse [0] (extractStridedSlice S256x16 ![0, 0] (shapeCast S8448x16 (extractStridedSlice S1x8448x16 ![1, 0, 0] x slices_S2x8448x16_S1x8448x16_1_0_0) shapeCasts_S1x8448x16_S8448x16) slices_S8448x16_S256x16_0_0)⟩,
           ⟨S8192x16, Host.reverse [0] (extractStridedSlice S8192x16 ![256, 0] (shapeCast S8448x16 (extractStridedSlice S1x8448x16 ![1, 0, 0] x slices_S2x8448x16_S1x8448x16_1_0_0) shapeCasts_S1x8448x16_S8448x16) slices_S8448x16_S8192x16_256_0)⟩]
          concatenates_S256x16_S8192x16_S8448x16_d0)⟩]
      concatenates_S8448x1x16_S8448x1x16_S8448x2x16_d1 (ix3 n d h) = x (ix3 d (tokF d n) h) := by
  pointwise
  rcases two_dirs d with rfl | rfl
  · rw [dif_pos (by decide)]
    congr 2
    exact Fin.ext ((tokF_val 0 n.isLt).trans (if_pos rfl)).symm
  · rw [dif_neg (by decide)]
    split
    · next hn =>
      congr 2
      refine Fin.ext (Eq.trans ?_ ((tokF_val 1 n.isLt).trans ((if_neg (by decide)).trans (if_pos hn))).symm)
      show 256 - (n.val + 1) = _
      omega
    · next hn =>
      congr 2
      refine Fin.ext (Eq.trans ?_ ((tokF_val 1 n.isLt).trans ((if_neg (by decide)).trans (if_neg hn))).symm)
      show 256 + (8192 - (n.val - 256 + 1)) = _
      omega

/-- A token's 2048 features read as 16 heads of 128. -/
theorem split_heads (x : S8448x2048.Idx → EReal) (n : Fin 8448) (h : Fin 16) (c : Fin 128) :
    shapeCast S8448x16x128 x shapeCasts_S8448x2048_S8448x16x128 (ix3 n h c) = x (ix2 n ⟨128 * h.val + c.val, by omega⟩) := by
  pointwise
  congr 2
  exact Fin.ext (by simp only []; omega)

/-! ## One trip -/

section Row

variable {j : ℕ} (hj : j < 8448)
include hj

/-- A trip reads and writes at its own row of a rank-4 table. -/
theorem at4 (a : Fin 4) : (fun k => (((![(constantI S_ 32 (BitVec.ofNat 32 j) : S_.Idx → BitVec 32), constantI S_ 32 0#32, constantI S_ 32 0#32, constantI S_ 32 0#32] : Fin 4 → S_.Idx → BitVec 32)) k (Shape.Idx.first h_S_)).toInt) a = ((![j, 0, 0, 0] : Fin 4 → ℕ) a : Int) :=
  match a with
  | 0 => toInt_ofNat_of_lt (by omega)
  | 1 => rfl
  | 2 => rfl
  | 3 => rfl

/-- The same at rank 3. -/
theorem at3 (a : Fin 3) : (fun k => (((![(constantI S_ 32 (BitVec.ofNat 32 j) : S_.Idx → BitVec 32), constantI S_ 32 0#32, constantI S_ 32 0#32] : Fin 3 → S_.Idx → BitVec 32)) k (Shape.Idx.first h_S_)).toInt) a = ((![j, 0, 0] : Fin 3 → ℕ) a : Int) :=
  match a with
  | 0 => toInt_ofNat_of_lt (by omega)
  | 1 => rfl
  | 2 => rfl

/-- The row lies inside the table. -/
theorem fits4 : S8448x2x16x128.Slices ![j, 0, 0, 0] S1x2x16x128 :=
  ⟨rfl, fun a => match a with | 0 => hj | 1 => le_refl 2 | 2 => le_refl 16 | 3 => le_refl 128⟩

/-- The same at rank 3. -/
theorem fits3 : S8448x2x16.Slices ![j, 0, 0] S1x2x16 :=
  ⟨rfl, fun a => match a with | 0 => hj | 1 => le_refl 2 | 2 => le_refl 16⟩

/-- The trip's row of a table by token, direction, head and feature. -/
theorem row4 (x : S8448x2x16x128.Idx → EReal) (d : Fin 2) (h : Fin 16) (c : Fin 128) :
    shapeCast S2x16x128 (Host.dynamicSlice S1x2x16x128 x (fun k => (((![(constantI S_ 32 (BitVec.ofNat 32 j) : S_.Idx → BitVec 32), constantI S_ 32 0#32, constantI S_ 32 0#32, constantI S_ 32 0#32] : Fin 4 → S_.Idx → BitVec 32)) k (Shape.Idx.first h_S_)).toInt) sliceFits_S8448x2x16x128_S1x2x16x128) shapeCasts_S1x2x16x128_S2x16x128
      (ix3 d h c) = x (ix4 ⟨j, hj⟩ d h c) := by
  rw [Host.dynamicSlice_eq_extractStridedSlice _ x _ _ _ (fits4 hj) (at4 hj)]
  pointwise

/-- The trip's row of a table by token, direction and head. -/
theorem row3 (x : S8448x2x16.Idx → EReal) (d : Fin 2) (h : Fin 16) :
    shapeCast S2x16 (Host.dynamicSlice S1x2x16 x (fun k => (((![(constantI S_ 32 (BitVec.ofNat 32 j) : S_.Idx → BitVec 32), constantI S_ 32 0#32, constantI S_ 32 0#32] : Fin 3 → S_.Idx → BitVec 32)) k (Shape.Idx.first h_S_)).toInt) sliceFits_S8448x2x16_S1x2x16) shapeCasts_S1x2x16_S2x16
      (ix2 d h) = x (ix3 ⟨j, hj⟩ d h) := by
  rw [Host.dynamicSlice_eq_extractStridedSlice _ x _ _ _ (fits3 hj) (at3 hj)]
  pointwise

/-- The table of outputs after the trip: its row replaced. -/
theorem put4 (x : S8448x2x16x128.Idx → EReal) (y : S2x16x128.Idx → EReal) (n : Fin 8448) (d : Fin 2) (h : Fin 16) (c : Fin 128) :
    Host.dynamicUpdateSlice x (broadcastInDim S1x2x16x128 ![1, 2, 3] bcast_S2x16x128_S1x2x16x128_1_2_3 y) (fun k => (((![(constantI S_ 32 (BitVec.ofNat 32 j) : S_.Idx → BitVec 32), constantI S_ 32 0#32, constantI S_ 32 0#32, constantI S_ 32 0#32] : Fin 4 → S_.Idx → BitVec 32)) k (Shape.Idx.first h_S_)).toInt) updateFits_S8448x2x16x128_S1x2x16x128
      (ix4 n d h c) = if n.val = j then y (ix3 d h c) else x (ix4 n d h c) := by
  rw [Host.dynamicUpdateSlice_eq_updateSlice x _ _ _ ![j, 0, 0, 0]
    (fun a => by have := (fits4 hj).2 a; have h4 := at4 hj a; dsimp only at h4; rw [h4]; omega) (fits4 hj)]
  pointwise
  by_cases e : n.val = j
  · rw [if_pos e, dif_pos (by omega)]
  · rw [if_neg e, dif_neg (by omega)]

end Row

/-- The loop's tables hold the arguments in reading order. -/
structure Rows (s : Step.State Ideal) (A : Args) : Prop where
  /-- the queries -/
  q : ∀ n d h c, (s.main_v53_0 : S8448x2x16x128.Idx → EReal) (ix4 n d h c) = ((headRow A.q (tokF d n.val) h c : ℝ) : EReal)
  /-- the keys -/
  k : ∀ n d h c, (s.main_v53_1 : S8448x2x16x128.Idx → EReal) (ix4 n d h c) = ((headRow A.k (tokF d n.val) h c : ℝ) : EReal)
  /-- the values -/
  v : ∀ n d h c, (s.main_v53_2 : S8448x2x16x128.Idx → EReal) (ix4 n d h c) = ((headRow A.v (tokF d n.val) h c : ℝ) : EReal)
  /-- the log decays -/
  g : ∀ n d h, (s.main_v53_3 : S8448x2x16.Idx → EReal) (ix3 n d h) = ((A.g d (tokF d n.val) h : ℝ) : EReal)
  /-- the betas -/
  b : ∀ n d h, (s.main_v53_4 : S8448x2x16.Idx → EReal) (ix3 n d h) = ((A.b d (tokF d n.val) h : ℝ) : EReal)

/-- The loop's buffers after `n` trips: the states, and the outputs of the tokens read so far. -/
structure After (s : Step.State Ideal) (A : Args) (n : ℕ) : Prop extends Rows s A where
  /-- the states -/
  state : ∀ d h c x, (s.main_v53_6 : S2x16x128x128.Idx → EReal) (ix4 d h c x) = ((A.st d h n c x : ℝ) : EReal)
  /-- the outputs -/
  out : ∀ r : Fin 8448, r.val < n → ∀ d h x, (s.main_v53_7 : S8448x2x16x128.Idx → EReal) (ix4 r d h x)
    = ((outO (A.st d h (r.val + 1)) (headRow A.q (tokF d r.val) h) x : ℝ) : EReal)

section Trip

variable {j : ℕ} (hj : j < 8448) {s : Step.State Ideal} {A : Args} (hs : After s A j)
include hj hs

/-- The trip's queries. -/
theorem trip_q (d : Fin 2) (h : Fin 16) (c : Fin 128) : (b4 j s : S2x16x128.Idx → EReal) (ix3 d h c) = ((headRow A.q (tokF d j) h c : ℝ) : EReal) :=
  (row4 hj s.main_v53_0 d h c).trans (hs.q ⟨j, hj⟩ d h c)

/-- The trip's keys. -/
theorem trip_k (d : Fin 2) (h : Fin 16) (c : Fin 128) : (b9 j s : S2x16x128.Idx → EReal) (ix3 d h c) = ((headRow A.k (tokF d j) h c : ℝ) : EReal) :=
  (row4 hj s.main_v53_1 d h c).trans (hs.k ⟨j, hj⟩ d h c)

/-- The trip's values. -/
theorem trip_v (d : Fin 2) (h : Fin 16) (c : Fin 128) : (b14 j s : S2x16x128.Idx → EReal) (ix3 d h c) = ((headRow A.v (tokF d j) h c : ℝ) : EReal) :=
  (row4 hj s.main_v53_2 d h c).trans (hs.v ⟨j, hj⟩ d h c)

/-- The trip's log decays. -/
theorem trip_g (d : Fin 2) (h : Fin 16) : (b18 j s : S2x16.Idx → EReal) (ix2 d h) = ((A.g d (tokF d j) h : ℝ) : EReal) :=
  (row3 hj s.main_v53_3 d h).trans (hs.g ⟨j, hj⟩ d h)

/-- The trip's betas. -/
theorem trip_b (d : Fin 2) (h : Fin 16) : (b22 j s : S2x16.Idx → EReal) (ix2 d h) = ((A.b d (tokF d j) h : ℝ) : EReal) :=
  (row3 hj s.main_v53_4 d h).trans (hs.b ⟨j, hj⟩ d h)

/-- The state decayed. -/
theorem trip_decayed (d : Fin 2) (h : Fin 16) (c x : Fin 128) : (b26 j s : S2x16x128x128.Idx → EReal) (ix4 d h c x)
    = ((A.st d h j c x * Real.exp (A.g d (tokF d j) h) : ℝ) : EReal) := by
  pointwise [b26, b25, b24, b23]
  rw [hs.state, trip_g hj hs]
  rw [Ideal.exp_coe, EReal.coe_mul]

/-- What the decayed state misses of the value, times beta. -/
theorem trip_err (d : Fin 2) (h : Fin 16) (x : Fin 128) : (b31 j s : S2x16x128.Idx → EReal) (ix3 d h x)
    = ((err (A.st d h j) (headRow A.k (tokF d j) h) (headRow A.v (tokF d j) h) (A.g d (tokF d j) h) (A.b d (tokF d j) h) x : ℝ) : EReal) := by
  pointwise [b31, b30, b29, b28, b27]
  simp only [trip_v hj hs _ _ _, trip_b hj hs _ _, trip_k hj hs _ _ _, trip_decayed hj hs _ _ _ _]
  rw [← zero_add (∑ i, _), sum_mul_coe, ← EReal.coe_sub, ← EReal.coe_mul]
  rfl

/-- The next state. -/
theorem trip_state (d : Fin 2) (h : Fin 16) (c x : Fin 128) : (b37 j s : S2x16x128x128.Idx → EReal) (ix4 d h c x)
    = ((A.st d h (j + 1) c x : ℝ) : EReal) := by
  pointwise [b37, b36, b35, b34, b33, b32]
  simp only [trip_decayed hj hs _ _ _ _, trip_k hj hs _ _ _, trip_err hj hs _ _ _]
  rw [← EReal.coe_mul, ← EReal.coe_add]
  rfl

/-- The trip's outputs. -/
theorem trip_out (d : Fin 2) (h : Fin 16) (x : Fin 128) : (b38 j s : S2x16x128.Idx → EReal) (ix3 d h x)
    = ((outO (A.st d h (j + 1)) (headRow A.q (tokF d j) h) x : ℝ) : EReal) := by
  pointwise [b38]
  simp only [trip_q hj hs _ _ _, trip_state hj hs _ _ _ _]
  rw [← zero_add (∑ i, _), sum_mul_coe]
  rfl

/-- The buffers after the trip. -/
theorem trip : After (Step.step j s) A (j + 1) where
  q := hs.q
  k := hs.k
  v := hs.v
  g := hs.g
  b := hs.b
  state := trip_state hj hs
  out r hr d h x := by
    refine (put4 hj s.main_v53_7 (b38 j s) r d h x).trans ?_
    split
    · next e => rw [trip_out hj hs, e]
    · next e => exact hs.out r (by omega) d h x

end Trip

/-! ## The whole run -/

/-- The arguments of a reference run are the tables `A`. -/
structure RefGiven (m : (ℓ : Loc nD τ sig) → Buf (Elt Ideal) ℓ) (c : Dev nD) (A : Args) : Prop where
  /-- the queries -/
  q : ∀ t n, (m ((c.tc : Thread nD τ).loc main_arg0) : S8448x2048.Idx → EReal) (ix2 t n) = ((A.q t n : ℝ) : EReal)
  /-- the keys -/
  k : ∀ t n, (m ((c.tc : Thread nD τ).loc main_arg1) : S8448x2048.Idx → EReal) (ix2 t n) = ((A.k t n : ℝ) : EReal)
  /-- the values -/
  v : ∀ t n, (m ((c.tc : Thread nD τ).loc main_arg2) : S8448x2048.Idx → EReal) (ix2 t n) = ((A.v t n : ℝ) : EReal)
  /-- the log decays -/
  g : ∀ d t h, (m ((c.tc : Thread nD τ).loc main_arg3) : S2x8448x16.Idx → EReal) (ix3 d t h) = ((A.g d t h : ℝ) : EReal)
  /-- the betas -/
  b : ∀ d t h, (m ((c.tc : Thread nD τ).loc main_arg4) : S2x8448x16.Idx → EReal) (ix3 d t h) = ((A.b d t h : ℝ) : EReal)

section Run

variable {m : (ℓ : Loc nD τ sig) → Buf (Elt Ideal) ℓ} {c : Dev nD} {A : Args} (hA : RefGiven m c A)
include hA

/-- Before the first trip. -/
theorem after_zero : After (RefRun.start m c) A 0 where
  q n d h x := (rows_order _ n d h x).trans ((split_heads _ _ h x).trans (hA.q _ _))
  k n d h x := (rows_order _ n d h x).trans ((split_heads _ _ h x).trans (hA.k _ _))
  v n d h x := (rows_order _ n d h x).trans ((split_heads _ _ h x).trans (hA.v _ _))
  g n d h := (gates_order _ n d h).trans (hA.g _ _ _)
  b n d h := (gates_order _ n d h).trans (hA.b _ _ _)
  state d h x y := by
    refine Eq.trans ?_ EReal.coe_zero.symm
    show (K_main_v0 (F := Ideal)) (ix4 d h x y) = 0
    pointwise [K_main_v0, K_main_cst]
  out r hr := absurd hr (Nat.not_lt_zero _)

/-- Before every trip, and after the last. -/
theorem after_states : ∀ n, n ≤ 8448 → After (RefRun.states m c n) A n
  | 0, _ => after_zero hA
  | n + 1, h => trip (by omega) (after_states n (by omega))

end Run

/-- A table in reading order, each direction's rows put back in token order. -/
theorem tokens_order {α : Type} (y : S8448x2x2048.Idx → α) (d : Fin 2) (t : Fin 8448) (n : Fin 2048) :
    concatenate S2x8448x2048 0
      [⟨S1x8448x2048, broadcastInDim S1x8448x2048 ![1, 2] bcast_S8448x2048_S1x8448x2048_1_2
        (shapeCast S8448x2048 (extractStridedSlice S8448x1x2048 ![0, 0, 0] y slices_S8448x2x2048_S8448x1x2048_0_0_0) shapeCasts_S8448x1x2048_S8448x2048)⟩,
       ⟨S1x8448x2048, broadcastInDim S1x8448x2048 ![1, 2] bcast_S8448x2048_S1x8448x2048_1_2
        (concatenate S8448x2048 0
          [⟨S256x2048, Host.reverse [0] (extractStridedSlice S256x2048 ![0, 0]
            (shapeCast S8448x2048 (extractStridedSlice S8448x1x2048 ![0, 1, 0] y slices_S8448x2x2048_S8448x1x2048_0_1_0) shapeCasts_S8448x1x2048_S8448x2048) slices_S8448x2048_S256x2048_0_0)⟩,
           ⟨S8192x2048, Host.reverse [0] (extractStridedSlice S8192x2048 ![256, 0]
            (shapeCast S8448x2048 (extractStridedSlice S8448x1x2048 ![0, 1, 0] y slices_S8448x2x2048_S8448x1x2048_0_1_0) shapeCasts_S8448x1x2048_S8448x2048) slices_S8448x2048_S8192x2048_256_0)⟩]
          concatenates_S256x2048_S8192x2048_S8448x2048_d0)⟩]
      concatenates_S1x8448x2048_S1x8448x2048_S2x8448x2048_d0 (ix3 d t n) = y (ix3 (tokF d t) d n) := by
  pointwise
  rcases two_dirs d with rfl | rfl
  · rw [dif_pos (by decide)]
    congr 2
    exact Fin.ext ((tokF_val 0 t.isLt).trans (if_pos rfl)).symm
  · rw [dif_neg (by decide)]
    split
    · next hn =>
      congr 2
      refine Fin.ext (Eq.trans ?_ ((tokF_val 1 t.isLt).trans ((if_neg (by decide)).trans (if_pos hn))).symm)
      show 256 - (t.val + 1) = _
      omega
    · next hn =>
      congr 2
      refine Fin.ext (Eq.trans ?_ ((tokF_val 1 t.isLt).trans ((if_neg (by decide)).trans (if_neg hn))).symm)
      show 256 + (8192 - (t.val - 256 + 1)) = _
      omega

/-- Heads side by side in one row of features. -/
theorem merge_heads (x : S8448x2x16x128.Idx → EReal) (n : Fin 8448) (d : Fin 2) (h : Fin 16) (c : Fin 128) :
    shapeCast S8448x2x2048 x shapeCasts_S8448x2x16x128_S8448x2x2048 (ix3 n d ⟨128 * h.val + c.val, by omega⟩) = x (ix4 n d h c) := by
  pointwise

/-- The result of tables of outputs by token, direction, head and feature: each direction's put back in token order. -/
theorem result_at (s : Step.State Ideal) (d : Fin 2) (t : Fin 8448) (h : Fin 16) (x : Fin 128) :
    (R_main_v66 s : S2x8448x2048.Idx → EReal) (ix3 d t ⟨128 * h.val + x.val, by omega⟩)
      = (s.main_v53_7 : S8448x2x16x128.Idx → EReal) (ix4 (tokF d t) d h x) :=
  (tokens_order _ d t _).trans (merge_heads _ _ d h x)

/-- The reference's result after all trips. -/
theorem result_out {m : (ℓ : Loc nD τ sig) → Buf (Elt Ideal) ℓ} {c : Dev nD} {A : Args} (hA : RefGiven m c A)
    (d : Fin 2) (t : Fin 8448) (h : Fin 16) (x : Fin 128) :
    (R_main_v66 (RefRun.states m c 8448) : S2x8448x2048.Idx → EReal) (ix3 d t ⟨128 * h.val + x.val, by omega⟩)
      = ((A.out d t h x : ℝ) : EReal) := by
  refine (result_at _ d t h x).trans (((after_states hA 8448 le_rfl).out (tokF d t) (tokF d t).isLt d h x).trans ?_)
  have e : tokF d (tokF d t).val = t :=
    Fin.ext ((tokF_val d (tokF d t).isLt).trans ((congrArg (tok d) (tokF_val d t.isLt)).trans (tok_tok d t.isLt)))
  rw [e, tokF_val d t.isLt]
  rfl

end Delta

end
-- ==== Proof.Finite.lean ====
/- The condition on the arguments: every element finite. They are then tables of real numbers. -/
module

public import proofs.«01_k».proof.Defs
public import proofs.«01_k».proof.Proof.KernelArray
public import proofs.«01_k».proof.Proof.RefValue

@[expose] public section

noncomputable section

namespace Delta

open Idealize.ShloMosaic Idealize.ShloMosaic.TcCoe Idealize.SL.Sem

/-- What the condition's text asks of its shapes. -/
instance finiteFacts : Cert.Pre_finite.Facts where
  bcast_S_S8448x2048 := by decide
  bcast_S_S2x8448x16 := by decide

/-- An extended real whose absolute value is below some number is real. -/
theorem real_of_lt {x y : EReal} (h : max x (-x) < y) : x = ((x.toReal : ℝ) : EReal) := by
  refine (EReal.coe_toReal ?_ ?_).symm
  · rintro rfl
    exact absurd (lt_of_le_of_lt (le_max_left _ _) h) not_top_lt
  · rintro rfl
    exact absurd (lt_of_le_of_lt (le_max_right _ _) h) (by simp)

/-- A vector all of whose absolute values are below some vector's elements is real, element by element. -/
theorem real_of_mask {s : Shape} {x y : FVec Ideal s .f32} (h : cmpf .olt (Host.absf x) y = fun _ => 1#1) (i : s.Idx) :
    (x i : EReal) = ((x i : EReal).toReal : EReal) := by
  have e : BitVec.ofBool (decide (max (x i : EReal) (-(x i : EReal)) < y i)) = 1#1 := congrFun h i
  refine real_of_lt (y := y i) ?_
  by_contra hn
  rw [decide_eq_false hn] at e
  exact absurd e (by decide)

section Tables

variable (m : (ℓ : Loc Cert.KernelIdeal.nD Cert.KernelIdeal.τ Cert.KernelIdeal.sig) → Buf (Elt Ideal) ℓ) (c : Dev Cert.KernelIdeal.nD)

/-- The arguments as tables of real numbers. -/
def tables : Args where
  q t n := ((m ((c : Thread Cert.KernelIdeal.nD Cert.KernelIdeal.τ).loc Cert.KernelIdeal.main_arg0) : Cert.KernelIdeal.S8448x2048.Idx → EReal) (ix2 t n)).toReal
  k t n := ((m ((c : Thread Cert.KernelIdeal.nD Cert.KernelIdeal.τ).loc Cert.KernelIdeal.main_arg1) : Cert.KernelIdeal.S8448x2048.Idx → EReal) (ix2 t n)).toReal
  v t n := ((m ((c : Thread Cert.KernelIdeal.nD Cert.KernelIdeal.τ).loc Cert.KernelIdeal.main_arg2) : Cert.KernelIdeal.S8448x2048.Idx → EReal) (ix2 t n)).toReal
  g d t h := ((m ((c : Thread Cert.KernelIdeal.nD Cert.KernelIdeal.τ).loc Cert.KernelIdeal.main_arg3) : Cert.KernelIdeal.S2x8448x16.Idx → EReal) (ix3 d t h)).toReal
  b d t h := ((m ((c : Thread Cert.KernelIdeal.nD Cert.KernelIdeal.τ).loc Cert.KernelIdeal.main_arg4) : Cert.KernelIdeal.S2x8448x16.Idx → EReal) (ix3 d t h)).toReal

variable {m}

/-- Under the condition the kernel's arguments are those tables. -/
theorem given (h : Cert.Pre_KernelIdeal_finite m) : Given m c (tables m c) where
  q t n := real_of_mask (h c).1 (ix2 t n)
  k t n := real_of_mask (h c).2.1 (ix2 t n)
  v t n := real_of_mask (h c).2.2.1 (ix2 t n)
  g d t x := real_of_mask (h c).2.2.2.1 (ix3 d t x)
  b d t x := real_of_mask (h c).2.2.2.2 (ix3 d t x)

end Tables

/-- The reference's result, whole. -/
theorem reference_array {m : (ℓ : Loc Cert.ReferenceIdeal.nD Cert.ReferenceIdeal.τ Cert.ReferenceIdeal.sig) → Buf (Elt Ideal) ℓ}
    {c : Dev Cert.ReferenceIdeal.nD} {A : Args} (hA : RefGiven m c A) :
    (Cert.ReferenceIdeal.Step.R_main_v66 (RefRun.states m c 8448) : Cert.ReferenceIdeal.S2x8448x2048.Idx → EReal) = outArr A := by
  funext i
  obtain ⟨d, t, n, rfl⟩ : ∃ (d : Fin 2) (t : Fin 8448) (n : Fin 2048), i = ix3 d t n := ⟨i 0, i 1, i 2, eq_ix3 i⟩
  obtain ⟨h, x, rfl⟩ : ∃ (h : Fin 16) (x : Fin 128), n = ⟨128 * h.val + x.val, by omega⟩ :=
    ⟨⟨n.val / 128, by omega⟩, ⟨n.val % 128, by omega⟩, Fin.ext (by simp only []; omega)⟩
  exact (result_out hA d t h x).trans (outAt_head A d t h x).symm

/-- The kernel and the recurrence end with the same array. -/
theorem algebraic : Cert.algebraic_KernelIdeal_ReferenceIdeal_pre_finite := by
  intro m ρ m' ρ' hpre hagree
  refine ⟨fun c => (Cert.KernelIdeal.Gen.dats m 0 c).arrAt 6 Cert.KernelIdeal.cfg0.N, Cert.KernelIdeal.Value.run_blocks m ρ, ?_⟩
  refine (θ_run _ _ _).mono (fun _ h c => ⟨(h c).1.trans ?_, (h c).2⟩) (RefRun.run m' ρ')
  have hg := given c hpre
  have hr : RefGiven m' c (tables m c) :=
    ⟨fun t n => (congrFun (hagree c).1 _).trans (hg.q t n), fun t n => (congrFun (hagree c).2.1 _).trans (hg.k t n),
      fun t n => (congrFun (hagree c).2.2.1 _).trans (hg.v t n), fun d t x => (congrFun (hagree c).2.2.2.1 _).trans (hg.g d t x),
      fun d t x => (congrFun (hagree c).2.2.2.2 _).trans (hg.b d t x)⟩
  exact (reference_array hr).trans (kernel_array hg).symm

end Delta

end
-- ==== Proof.Product.lean ====
/- What the seven matrix products share: the product of a stack of matrices, and a block that is loaded once and kept. -/
module

public import Idealize.ShloMosaic.Lib.Pipeline.ValueKit
public import Idealize.ShloMosaic.Lib.Pipeline.ReadBack
public import Idealize.ShloMosaic.Lib.Pipeline.Covers

@[expose] public section

noncomputable section

namespace Product

open Idealize.ShloMosaic
open scoped BigOperators

/-- An entry of the product of two stacks of matrices: the sum over the shared axis. -/
def entry {e M K N : ℕ} (a : (⟨3, ![e, M, K]⟩ : Shape).Idx → EReal) (w : (⟨3, ![e, K, N]⟩ : Shape).Idx → EReal)
    (x : Fin e) (p : Fin M) (n : Fin N) : EReal :=
  ∑ k : Fin K, a (ix3 x p k) * w (ix3 x k n)

/-- Entries of two products are equal when the row and the column they multiply are. -/
theorem entry_congr {e M N e' M' N' K : ℕ} {a : (⟨3, ![e, M, K]⟩ : Shape).Idx → EReal}
    {w : (⟨3, ![e, K, N]⟩ : Shape).Idx → EReal} {a' : (⟨3, ![e', M', K]⟩ : Shape).Idx → EReal}
    {w' : (⟨3, ![e', K, N']⟩ : Shape).Idx → EReal} {x : Fin e} {p : Fin M} {n : Fin N} {x' : Fin e'} {p' : Fin M'} {n' : Fin N'}
    (ha : ∀ k, a (ix3 x p k) = a' (ix3 x' p' k)) (hw : ∀ k, w (ix3 x k n) = w' (ix3 x' k n')) :
    entry a w x p n = entry a' w' x' p' n' :=
  Finset.sum_congr rfl fun k _ => congrArg₂ _ (ha k) (hw k)

/-- What a run of points leaves when every `q`-th point loads a block `w` and keeps it, the points between use what was
    kept, and each stores `mul` of its own block `a` and what is kept: provided `w` changes only where it is loaded, every
    point stores `mul` of its own blocks. -/
theorem stored {A W S O : Type} {N : ℕ} (q : ℕ) (o : (n : ℕ) → n < N → O × S) (a : Fin N → A) (w : Fin N → W) (keep : W → S)
    (mul : A → S → O) (hA : ∀ t : Fin N, t.val % q = 0 → o t.val t.isLt = (mul (a t) (keep (w t)), keep (w t)))
    (hB : ∀ t : Fin N, ¬t.val % q = 0 → o t.val t.isLt
      = (mul (a t) (o (t.val - 1) (Nat.lt_of_le_of_lt (Nat.sub_le _ _) t.isLt)).2,
        (o (t.val - 1) (Nat.lt_of_le_of_lt (Nat.sub_le _ _) t.isLt)).2))
    (hw : ∀ n (hn : n + 1 < N), ¬(n + 1) % q = 0 → w ⟨n + 1, hn⟩ = w ⟨n, Nat.lt_of_succ_lt hn⟩) (n : ℕ) (hn : n < N) :
    o n hn = (mul (a ⟨n, hn⟩) (keep (w ⟨n, hn⟩)), keep (w ⟨n, hn⟩)) := by
  induction n with
  | zero => exact hA ⟨0, hn⟩ (Nat.zero_mod q)
  | succ n ih =>
    by_cases h : (n + 1) % q = 0
    · exact hA ⟨n + 1, hn⟩ h
    · have e : (o n (Nat.lt_of_succ_lt hn)).2 = keep (w ⟨n + 1, hn⟩) := by rw [ih, hw n hn h]
      exact (hB ⟨n + 1, hn⟩ h).trans (congrArg (fun s => (mul (a ⟨n + 1, hn⟩) s, s)) e)

end Product

end
-- ==== Proof.ProductIn.lean ====
/- The input projection of the even layers: the kernel's whole output is the product's. -/
module

public import proofs.«01_k».proof.Defs
public import proofs.«01_k».proof.Proof.Gen.KernelInIdeal.Value
public import proofs.«01_k».proof.Proof.Gen.ReferenceInIdeal.Run
public import proofs.«01_k».proof.Proof.Product

@[expose] public section

set_option maxRecDepth 16384

noncomputable section

namespace ProductIn

open Idealize.ShloMosaic Idealize.ShloMosaic.TcCoe Idealize.SL.Sem Cert.KernelInIdeal Cert.KernelInIdeal.Gen
open scoped BigOperators

section Point

variable {c : Dev nD} {i : grid0.Coords} {arg3 : Memref sig .tc .vmem S1x512x4096 .bf16} {harg3 : arg3.IsWhole}
  {arg4 : Memref sig .tc .vmem S1x4096x512 .f32} {harg4 : arg4.IsWhole} {arg5 : Memref sig .tc .vmem S1x512x512 .f32}
  {harg5 : arg5.IsWhole} {arg6 : Memref sig .tc .vmem S4096x512 .bf16} {harg6 : arg6.IsWhole}
  {x0 : Vec Ideal S1x512x4096 .bf16} {x1 : Vec Ideal S1x4096x512 .f32} {S : Vec Ideal S4096x512 .bf16}

/-- The first point of a run of points keeps the block of weights. -/
theorem keptA {hc0 : cond0_0 i} :
    sout0_A_0 (F := Ideal) c i arg3 harg3 arg4 harg4 arg5 harg5 arg6 harg6 hc0 x0 x1 = k0_pay1 x1 := by
  frame_out

/-- It stores the product with that block. -/
theorem outA {hc0 : cond0_0 i} :
    out0_A_2 (F := Ideal) c i arg3 harg3 arg4 harg4 arg5 harg5 arg6 harg6 hc0 x0 x1 = k0_pay2 x0 (k0_pay1 x1) := by
  frame_out

/-- The later points store the product with the kept block. -/
theorem outB {hc0 : ¬cond0_0 i} :
    out0_B_2 (F := Ideal) c i arg3 harg3 arg4 harg4 arg5 harg5 arg6 harg6 hc0 x0 x1 S = k0_pay2 x0 S := by
  frame_out

end Point

/-- An entry of the block a point stores. -/
theorem pay_at (x0 : Vec Ideal S1x512x4096 .bf16) (x1 : Vec Ideal S1x4096x512 .f32) (p : Fin 512) (n : Fin 512) :
    (k0_pay2 (F := Ideal) x0 (k0_pay1 x1) : S1x512x512.Idx → EReal) (ix3 0 p n) = Product.entry x0 x1 0 p n := by
  pointwise [k0_pay1, k0_pay2]
  rfl

/-- The block of rows a point reads. -/
theorem index0 : ∀ t : Fin cfg0.N, (cfg0.win 0).index t = ![t.val / 448, t.val % 16, 0] :=
  (by decide +kernel : ∀ t : Fin grid0.N, cc0_transform_0 (grid0.coords t) = ![t.val / 448, t.val % 16, 0])

/-- The block of weights a point multiplies with. -/
theorem index1 : ∀ t : Fin cfg0.N, (cfg0.win 1).index t = ![t.val / 448, 0, t.val / 16 % 28] :=
  (by decide +kernel : ∀ t : Fin grid0.N, cc0_transform_1 (grid0.coords t) = ![t.val / 448, 0, t.val / 16 % 28])

/-- The block of results a point writes. -/
theorem index2 : ∀ t : Fin cfg0.N, (cfg0.win 2).index t = ![t.val / 448, t.val % 16, t.val / 16 % 28] :=
  (by decide +kernel : ∀ t : Fin grid0.N, cc0_transform_2 (grid0.coords t) = ![t.val / 448, t.val % 16, t.val / 16 % 28])

/-- There is one matrix in the stack. -/
theorem whole (t : Fin cfg0.N) : t.val / 448 = 0 := by
  have hN : cfg0.N = 448 := N_0
  omega

/-- The point that writes a block. -/
theorem point_of (i : Fin 16) (j : Fin 28) : ∃ t : Fin cfg0.N, t.val % 16 = i.val ∧ t.val / 16 % 28 = j.val := by
  have hN : cfg0.N = 448 := N_0
  exact ⟨⟨16 * j.val + i.val, by omega⟩, by dsimp only; omega, by dsimp only; omega⟩

variable (m : (ℓ : Loc nD τ sig) → Buf (Elt Ideal) ℓ) (c : Dev nD)

/-- The rows, as the kernel is launched on them. -/
theorem rows_eq : (V m c main_v0 : S1x8192x4096.Idx → EReal) = (m ((c : Thread nD τ).loc main_arg0) : S1x8192x4096.Idx → EReal) := by
  simp only [V, List.flatten_cons, List.flatten_nil, hostOps0, List.cons_append, List.nil_append, List.append_nil]
  entry_read
  rfl

/-- The weights, as the kernel is launched on them. -/
theorem weights_at (k : Fin 4096) (n : Fin 14400) :
    (V m c main_v1 : S1x4096x14400.Idx → EReal) (ix3 0 k n) = (m ((c : Thread nD τ).loc main_arg1) : S4096x14400.Idx → EReal) (ix2 k n) := by
  simp only [V, List.flatten_cons, List.flatten_nil, hostOps0, List.cons_append, List.nil_append, List.append_nil]
  entry_read
  pointwise
  blk_ext []

/-- An entry of the block of rows. -/
theorem read0 (t : Fin cfg0.N) (p : Fin 512) (k : Fin 4096) : (iblk m c 0 t : S1x512x4096.Idx → EReal) (ix3 0 p k)
    = (V m c main_v0 : S1x8192x4096.Idx → EReal) (ix3 0 ⟨512 * (t.val % 16) + p.val, by omega⟩ k) := by
  have ht := whole t
  blk_ext [iblk, index0 t, ht]

/-- An entry of the block of weights. -/
theorem read1 (t : Fin cfg0.N) (k : Fin 4096) (n : Fin 512) : (X0_1 m c t : S1x4096x512.Idx → EReal) (ix3 0 k n)
    = (V m c main_v1 : S1x4096x14400.Idx → EReal) (ix3 0 k ⟨512 * (t.val / 16 % 28) + n.val, by omega⟩) := by
  have ht := whole t
  rw [X0_1, Pipeline.Window.fill, dif_pos (moved0_1 t _)]
  blk_ext [iblk, index1 t, ht]

/-- Points of one run multiply with one block of weights. -/
theorem block_kept (n : ℕ) (hn : n + 1 < cfg0.N) (h : ¬(n + 1) % 16 = 0) : X0_1 m c ⟨n + 1, hn⟩ = X0_1 m c ⟨n, by omega⟩ := by
  funext y
  obtain ⟨a, k, j, rfl⟩ : ∃ (a : Fin 1) (k : Fin 4096) (j : Fin 512), y = ix3 a k j := ⟨y 0, y 1, y 2, eq_ix3 y⟩
  obtain rfl : a = 0 := Subsingleton.elim _ _
  refine (read1 m c _ k j).trans (Eq.trans ?_ (read1 m c _ k j).symm)
  congr 3
  dsimp only
  omega

/-- The block a point stores: its rows times its block of weights. -/
theorem out_at (t : Fin cfg0.N) : (outsAt0 m c t.val t.isLt).1 = k0_pay2 (iblk m c 0 t) (k0_pay1 (X0_1 m c t)) := by
  rw [Product.stored 16 (outsAt0 m c) (iblk m c 0) (X0_1 m c) k0_pay1 k0_pay2 (fun t h => ?_) (fun t h => ?_)
    (block_kept m c) t.val t.isLt]
  · rw [outsAt0_A m c t h, outA, keptA]
  · rw [outsAt0_B m c t h, outB, sout0_B_0]

/-- The product, as an array. -/
def result : S1x8192x14336.Idx → EReal := fun i =>
  Product.entry (V m c main_v0 : S1x8192x4096.Idx → EReal) (V m c main_v1 : S1x4096x14400.Idx → EReal)
    (i 0 : Fin 1) (i 1 : Fin 8192) (Fin.castLE (by decide) (i 2 : Fin 14336))

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · obtain ⟨t, h1, h2⟩ := point_of (β 1) (β 2)
    have h0 : (β 0 : ℕ) = 0 := Nat.lt_one_iff.mp (β 0).isLt
    refine ⟨t, fun a => ?_⟩
    rw [index2]
    match a with
    | 0 => exact (whole t).trans h0.symm
    | 1 => exact h1
    | 2 => exact h2
  · blk_simp
    rw [after0_2]
    have ht := whole t
    obtain ⟨a, p, n, rfl⟩ : ∃ (a : Fin 1) (p : Fin 512) (n : Fin 512), y = ix3 a p n := ⟨y 0, y 1, y 2, by idx_ext⟩
    obtain rfl : a = 0 := Subsingleton.elim _ _
    have he : (win0_2.blk t).view.emb (ix3 0 p n) = ix3 (0 : Fin 1) ⟨512 * (t.val % 16) + p.val, by omega⟩
        (⟨512 * (t.val / 16 % 28) + n.val, by omega⟩ : Fin 14336) := by
      blk_ext [index2 t, ht]
    rw [he]
    exact (congrFun (out_at m c t) _).trans ((pay_at _ _ p n).trans (Product.entry_congr (read0 m c t p) fun k => read1 m c t k n))

/-- The kernel and the plain product end with the same array. -/
theorem algebraic : Cert.algebraic_KernelInIdeal_ReferenceInIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceInIdeal.Value.run m' ρ')
  rw [(hagree c).1, (hagree c).2]
  refine Eq.trans ?_ (kernel_array m c).symm
  funext i
  obtain ⟨a, p, n, rfl⟩ : ∃ (a : Fin 1) (p : Fin 8192) (n : Fin 14336), i = ix3 a p n := ⟨i 0, i 1, i 2, eq_ix3 i⟩
  obtain rfl : a = 0 := Subsingleton.elim _ _
  pointwise
  unfold result Product.entry
  refine Finset.sum_congr rfl fun k _ => ?_
  exact congrArg₂ _ (congrFun (rows_eq m c) _).symm (weights_at m c k _).symm

end ProductIn

end
-- ==== Proof.ProductGates.lean ====
/- The columns of the input projection that the gates are made of: the kernel's whole output is the product's. -/
module

public import proofs.«01_k».proof.Defs
public import proofs.«01_k».proof.Proof.Gen.KernelGatesIdeal.Value
public import proofs.«01_k».proof.Proof.Gen.ReferenceGatesIdeal.Run
public import proofs.«01_k».proof.Proof.Product

@[expose] public section

set_option maxRecDepth 16384

noncomputable section

namespace ProductGates

open Idealize.ShloMosaic Idealize.ShloMosaic.TcCoe Idealize.SL.Sem Cert.KernelGatesIdeal Cert.KernelGatesIdeal.Gen
open scoped BigOperators

section Point

variable {c : Dev nD} {i : grid0.Coords} {arg3 : Memref sig .tc .vmem S1x512x4096 .bf16} {harg3 : arg3.IsWhole}
  {arg4 : Memref sig .tc .vmem S1x4096x64 .f32} {harg4 : arg4.IsWhole} {arg5 : Memref sig .tc .vmem S1x512x64 .f32}
  {harg5 : arg5.IsWhole} {arg6 : Memref sig .tc .vmem S4096x64 .bf16} {harg6 : arg6.IsWhole}
  {x0 : Vec Ideal S1x512x4096 .bf16} {x1 : Vec Ideal S1x4096x64 .f32} {S : Vec Ideal S4096x64 .bf16}

/-- The first point keeps the weights. -/
theorem keptA {hc0 : cond0_0 i} :
    sout0_A_0 (F := Ideal) c i arg3 harg3 arg4 harg4 arg5 harg5 arg6 harg6 hc0 x0 x1 = k0_pay1 x1 := by
  frame_out

/-- It stores the product of its rows with them. -/
theorem outA {hc0 : cond0_0 i} :
    out0_A_2 (F := Ideal) c i arg3 harg3 arg4 harg4 arg5 harg5 arg6 harg6 hc0 x0 x1 = k0_pay2 x0 (k0_pay1 x1) := by
  frame_out

/-- The later points store the product of theirs with what was kept. -/
theorem outB {hc0 : ¬cond0_0 i} :
    out0_B_2 (F := Ideal) c i arg3 harg3 arg4 harg4 arg5 harg5 arg6 harg6 hc0 x0 x1 S = k0_pay2 x0 S := by
  frame_out

end Point

/-- An entry of the block a point stores. -/
theorem pay_at (x0 : Vec Ideal S1x512x4096 .bf16) (x1 : Vec Ideal S1x4096x64 .f32) (p : Fin 512) (n : Fin 64) :
    (k0_pay2 (F := Ideal) x0 (k0_pay1 x1) : S1x512x64.Idx → EReal) (ix3 0 p n) = Product.entry x0 x1 0 p n := by
  pointwise [k0_pay1, k0_pay2]
  rfl

/-- A point reads the block of rows of its own number. -/
theorem index0 : ∀ t : Fin cfg0.N, (cfg0.win 0).index t = ![0, t.val, 0] :=
  (by decide +kernel : ∀ t : Fin grid0.N, cc0_transform_0 (grid0.coords t) = ![0, t.val, 0])

/-- Every point multiplies with the same weights. -/
theorem index1 : ∀ t : Fin cfg0.N, (cfg0.win 1).index t = ![0, 0, 0] :=
  (by decide +kernel : ∀ t : Fin grid0.N, cc0_transform_1 (grid0.coords t) = ![0, 0, 0])

/-- A point writes the block of results of its own number. -/
theorem index2 : ∀ t : Fin cfg0.N, (cfg0.win 2).index t = ![0, t.val, 0] :=
  (by decide +kernel : ∀ t : Fin grid0.N, cc0_transform_2 (grid0.coords t) = ![0, t.val, 0])

/-- There are sixteen points. -/
theorem few (t : Fin cfg0.N) : t.val < 16 := t.isLt

variable (m : (ℓ : Loc nD τ sig) → Buf (Elt Ideal) ℓ) (c : Dev nD)

/-- The rows, as the kernel is launched on them. -/
theorem rows_eq : (V m c main_v0 : S1x8192x4096.Idx → EReal) = (m ((c : Thread nD τ).loc main_arg0) : S1x8192x4096.Idx → EReal) := by
  simp only [V, List.flatten_cons, List.flatten_nil, hostOps0, List.cons_append, List.nil_append, List.append_nil]
  entry_read
  rfl

/-- The weights, as the kernel is launched on them: the columns from 14336 on. -/
theorem weights_at (k : Fin 4096) (n : Fin 64) :
    (V m c main_v2 : S1x4096x64.Idx → EReal) (ix3 0 k n)
      = (m ((c : Thread nD τ).loc main_arg1) : S4096x14400.Idx → EReal) (ix2 k ⟨14336 + n.val, by omega⟩) := by
  simp only [V, List.flatten_cons, List.flatten_nil, hostOps0, List.cons_append, List.nil_append, List.append_nil]
  entry_read
  pointwise
  blk_ext []

/-- An entry of the block of rows. -/
theorem read0 (t : Fin cfg0.N) (p : Fin 512) (k : Fin 4096) : (iblk m c 0 t : S1x512x4096.Idx → EReal) (ix3 0 p k)
    = (V m c main_v0 : S1x8192x4096.Idx → EReal) (ix3 0 ⟨512 * t.val + p.val, by have := few t; omega⟩ k) := by
  blk_ext [iblk, index0 t]

/-- An entry of the weights that a point reads. -/
theorem read1 (t : Fin cfg0.N) (k : Fin 4096) (n : Fin 64) : (iblk m c 1 t : S1x4096x64.Idx → EReal) (ix3 0 k n)
    = (V m c main_v2 : S1x4096x64.Idx → EReal) (ix3 0 k n) := by
  blk_ext [iblk, index1 t]

/-- The weights that a point reads. -/
def weights (t : Fin cfg0.N) : Vec Ideal S1x4096x64 .f32 := iblk m c 1 t

/-- All points read the same weights. -/
theorem same (t s : Fin cfg0.N) : weights m c t = weights m c s := by
  funext y
  obtain ⟨a, k, j, rfl⟩ : ∃ (a : Fin 1) (k : Fin 4096) (j : Fin 64), y = ix3 a k j := ⟨y 0, y 1, y 2, eq_ix3 y⟩
  obtain rfl : a = 0 := Subsingleton.elim _ _
  exact (read1 m c t k j).trans (read1 m c s k j).symm

/-- The block a point stores: its rows times the weights. -/
theorem out_at (t : Fin cfg0.N) : (outsAt0 m c t.val t.isLt).1 = k0_pay2 (iblk m c 0 t) (k0_pay1 (weights m c t)) := by
  rw [Product.stored 16 (outsAt0 m c) (fun t => (iblk m c 0 t : Vec Ideal S1x512x4096 .bf16)) (weights m c) k0_pay1 k0_pay2 (fun t h => ?_)
    (fun t h => ?_) (fun _ _ _ => same m c _ _) t.val t.isLt]
  · rw [outsAt0_A m c t h, outA, keptA]
    rfl
  · rw [outsAt0_B m c t h, outB, sout0_B_0]

/-- The product, as an array. -/
def result : S1x8192x64.Idx → EReal := fun i =>
  Product.entry (V m c main_v0 : S1x8192x4096.Idx → EReal) (V m c main_v2 : S1x4096x64.Idx → EReal)
    (i 0 : Fin 1) (i 1 : Fin 8192) (i 2 : Fin 64)

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · refine ⟨⟨(β 1 : ℕ), (β 1).isLt⟩, fun a => ?_⟩
    rw [index2]
    match a with
    | 0 => exact (Nat.lt_one_iff.mp (β 0).isLt).symm
    | 1 => rfl
    | 2 => exact (Nat.lt_one_iff.mp (β 2).isLt).symm
  · blk_simp
    rw [after0_2]
    have ht := few t
    obtain ⟨a, p, n, rfl⟩ : ∃ (a : Fin 1) (p : Fin 512) (n : Fin 64), y = ix3 a p n := ⟨y 0, y 1, y 2, by idx_ext⟩
    obtain rfl : a = 0 := Subsingleton.elim _ _
    have he : (win0_2.blk t).view.emb (ix3 0 p n) = ix3 (0 : Fin 1) (⟨512 * t.val + p.val, by omega⟩ : Fin 8192) n := by
      blk_ext [index2 t]
    rw [he]
    exact (congrFun (out_at m c t) _).trans ((pay_at _ _ p n).trans (Product.entry_congr (read0 m c t p) fun k => read1 m c t k n))

/-- The kernel and the plain product end with the same array. -/
theorem algebraic : Cert.algebraic_KernelGatesIdeal_ReferenceGatesIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceGatesIdeal.Value.run m' ρ')
  rw [(hagree c).1, (hagree c).2]
  refine Eq.trans ?_ (kernel_array m c).symm
  funext i
  obtain ⟨a, p, n, rfl⟩ : ∃ (a : Fin 1) (p : Fin 8192) (n : Fin 64), i = ix3 a p n := ⟨i 0, i 1, i 2, eq_ix3 i⟩
  obtain rfl : a = 0 := Subsingleton.elim _ _
  pointwise
  unfold result Product.entry
  refine Finset.sum_congr rfl fun k _ => ?_
  exact congrArg₂ _ (congrFun (rows_eq m c) _).symm (weights_at m c k _).symm

end ProductGates

end
-- ==== Proof.ProductOut.lean ====
/- The output projection of the even layers: the kernel's whole output is the product's. -/
module

public import proofs.«01_k».proof.Defs
public import proofs.«01_k».proof.Proof.Gen.KernelOutIdeal.Value
public import proofs.«01_k».proof.Proof.Gen.ReferenceOutIdeal.Run
public import proofs.«01_k».proof.Proof.Product

@[expose] public section

set_option maxRecDepth 16384

noncomputable section

namespace ProductOut

open Idealize.ShloMosaic Idealize.ShloMosaic.TcCoe Idealize.SL.Sem Cert.KernelOutIdeal Cert.KernelOutIdeal.Gen
open scoped BigOperators

section Point

variable {c : Dev nD} {i : grid0.Coords} {arg3 : Memref sig .tc .vmem S1x512x4096 .bf16} {harg3 : arg3.IsWhole}
  {arg4 : Memref sig .tc .vmem S1x4096x512 .f32} {harg4 : arg4.IsWhole} {arg5 : Memref sig .tc .vmem S1x512x512 .f32}
  {harg5 : arg5.IsWhole} {arg6 : Memref sig .tc .vmem S4096x512 .bf16} {harg6 : arg6.IsWhole}
  {x0 : Vec Ideal S1x512x4096 .bf16} {x1 : Vec Ideal S1x4096x512 .f32} {S : Vec Ideal S4096x512 .bf16}

/-- The first point of a run of points keeps the block of weights. -/
theorem keptA {hc0 : cond0_0 i} :
    sout0_A_0 (F := Ideal) c i arg3 harg3 arg4 harg4 arg5 harg5 arg6 harg6 hc0 x0 x1 = k0_pay1 x1 := by
  frame_out

/-- It stores the product with that block. -/
theorem outA {hc0 : cond0_0 i} :
    out0_A_2 (F := Ideal) c i arg3 harg3 arg4 harg4 arg5 harg5 arg6 harg6 hc0 x0 x1 = k0_pay2 x0 (k0_pay1 x1) := by
  frame_out

/-- The later points store the product with the kept block. -/
theorem outB {hc0 : ¬cond0_0 i} :
    out0_B_2 (F := Ideal) c i arg3 harg3 arg4 harg4 arg5 harg5 arg6 harg6 hc0 x0 x1 S = k0_pay2 x0 S := by
  frame_out

end Point

/-- An entry of the block a point stores. -/
theorem pay_at (x0 : Vec Ideal S1x512x4096 .bf16) (x1 : Vec Ideal S1x4096x512 .f32) (p : Fin 512) (n : Fin 512) :
    (k0_pay2 (F := Ideal) x0 (k0_pay1 x1) : S1x512x512.Idx → EReal) (ix3 0 p n) = Product.entry x0 x1 0 p n := by
  pointwise [k0_pay1, k0_pay2]
  rfl

/-- The block of rows a point reads. -/
theorem index0 : ∀ t : Fin cfg0.N, (cfg0.win 0).index t = ![t.val / 128, t.val % 16, 0] :=
  (by decide +kernel : ∀ t : Fin grid0.N, cc0_transform_0 (grid0.coords t) = ![t.val / 128, t.val % 16, 0])

/-- The block of weights a point multiplies with. -/
theorem index1 : ∀ t : Fin cfg0.N, (cfg0.win 1).index t = ![t.val / 128, 0, t.val / 16 % 8] :=
  (by decide +kernel : ∀ t : Fin grid0.N, cc0_transform_1 (grid0.coords t) = ![t.val / 128, 0, t.val / 16 % 8])

/-- The block of results a point writes. -/
theorem index2 : ∀ t : Fin cfg0.N, (cfg0.win 2).index t = ![t.val / 128, t.val % 16, t.val / 16 % 8] :=
  (by decide +kernel : ∀ t : Fin grid0.N, cc0_transform_2 (grid0.coords t) = ![t.val / 128, t.val % 16, t.val / 16 % 8])

/-- There is one matrix in the stack. -/
theorem whole (t : Fin cfg0.N) : t.val / 128 = 0 := by
  have hN : cfg0.N = 128 := N_0
  omega

/-- The point that writes a block. -/
theorem point_of (i : Fin 16) (j : Fin 8) : ∃ t : Fin cfg0.N, t.val % 16 = i.val ∧ t.val / 16 % 8 = j.val := by
  have hN : cfg0.N = 128 := N_0
  exact ⟨⟨16 * j.val + i.val, by omega⟩, by dsimp only; omega, by dsimp only; omega⟩

variable (m : (ℓ : Loc nD τ sig) → Buf (Elt Ideal) ℓ) (c : Dev nD)

/-- The rows, as the kernel is launched on them. -/
theorem rows_eq : (V m c main_v0 : S1x8192x4096.Idx → EReal) = (m ((c : Thread nD τ).loc main_arg0) : S1x8192x4096.Idx → EReal) := by
  simp only [V, List.flatten_cons, List.flatten_nil, hostOps0, List.cons_append, List.nil_append, List.append_nil]
  entry_read
  rfl

/-- The weights, as the kernel is launched on them. -/
theorem weights_at (k : Fin 4096) (n : Fin 4096) :
    (V m c main_v1 : S1x4096x4096.Idx → EReal) (ix3 0 k n) = (m ((c : Thread nD τ).loc main_arg1) : S4096x4096.Idx → EReal) (ix2 k n) := by
  simp only [V, List.flatten_cons, List.flatten_nil, hostOps0, List.cons_append, List.nil_append, List.append_nil]
  entry_read
  pointwise
  blk_ext []

/-- An entry of the block of rows. -/
theorem read0 (t : Fin cfg0.N) (p : Fin 512) (k : Fin 4096) : (iblk m c 0 t : S1x512x4096.Idx → EReal) (ix3 0 p k)
    = (V m c main_v0 : S1x8192x4096.Idx → EReal) (ix3 0 ⟨512 * (t.val % 16) + p.val, by omega⟩ k) := by
  have ht := whole t
  blk_ext [iblk, index0 t, ht]

/-- An entry of the block of weights. -/
theorem read1 (t : Fin cfg0.N) (k : Fin 4096) (n : Fin 512) : (iblk m c 1 t : S1x4096x512.Idx → EReal) (ix3 0 k n)
    = (V m c main_v1 : S1x4096x4096.Idx → EReal) (ix3 0 k ⟨512 * (t.val / 16 % 8) + n.val, by omega⟩) := by
  have ht := whole t
  blk_ext [iblk, index1 t, ht]

/-- The block of weights of a point. -/
def weights (t : Fin cfg0.N) : Vec Ideal S1x4096x512 .f32 := iblk m c 1 t

/-- Points of one run multiply with one block of weights. -/
theorem block_kept (n : ℕ) (hn : n + 1 < cfg0.N) (h : ¬(n + 1) % 16 = 0) : weights m c ⟨n + 1, hn⟩ = weights m c ⟨n, by omega⟩ := by
  funext y
  obtain ⟨a, k, j, rfl⟩ : ∃ (a : Fin 1) (k : Fin 4096) (j : Fin 512), y = ix3 a k j := ⟨y 0, y 1, y 2, eq_ix3 y⟩
  obtain rfl : a = 0 := Subsingleton.elim _ _
  refine (read1 m c _ k j).trans (Eq.trans ?_ (read1 m c _ k j).symm)
  congr 3
  dsimp only
  omega

/-- The block a point stores: its rows times its block of weights. -/
theorem out_at (t : Fin cfg0.N) : (outsAt0 m c t.val t.isLt).1 = k0_pay2 (iblk m c 0 t) (k0_pay1 (weights m c t)) := by
  rw [Product.stored 16 (outsAt0 m c) (fun t => (iblk m c 0 t : Vec Ideal S1x512x4096 .bf16)) (weights m c) k0_pay1 k0_pay2 (fun t h => ?_)
    (fun t h => ?_) (block_kept m c) t.val t.isLt]
  · rw [outsAt0_A m c t h, outA, keptA]
    rfl
  · rw [outsAt0_B m c t h, outB, sout0_B_0]

/-- The product, as an array. -/
def result : S1x8192x4096.Idx → EReal := fun i =>
  Product.entry (V m c main_v0 : S1x8192x4096.Idx → EReal) (V m c main_v1 : S1x4096x4096.Idx → EReal)
    (i 0 : Fin 1) (i 1 : Fin 8192) (i 2 : Fin 4096)

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · obtain ⟨t, h1, h2⟩ := point_of (β 1) (β 2)
    have h0 : (β 0 : ℕ) = 0 := Nat.lt_one_iff.mp (β 0).isLt
    refine ⟨t, fun a => ?_⟩
    rw [index2]
    match a with
    | 0 => exact (whole t).trans h0.symm
    | 1 => exact h1
    | 2 => exact h2
  · blk_simp
    rw [after0_2]
    have ht := whole t
    obtain ⟨a, p, n, rfl⟩ : ∃ (a : Fin 1) (p : Fin 512) (n : Fin 512), y = ix3 a p n := ⟨y 0, y 1, y 2, by idx_ext⟩
    obtain rfl : a = 0 := Subsingleton.elim _ _
    have he : (win0_2.blk t).view.emb (ix3 0 p n) = ix3 (0 : Fin 1) ⟨512 * (t.val % 16) + p.val, by omega⟩
        (⟨512 * (t.val / 16 % 8) + n.val, by omega⟩ : Fin 4096) := by
      blk_ext [index2 t, ht]
    rw [he]
    exact (congrFun (out_at m c t) _).trans ((pay_at _ _ p n).trans (Product.entry_congr (read0 m c t p) fun k => read1 m c t k n))

/-- The kernel and the plain product end with the same array. -/
theorem algebraic : Cert.algebraic_KernelOutIdeal_ReferenceOutIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceOutIdeal.Value.run m' ρ')
  rw [(hagree c).1, (hagree c).2]
  refine Eq.trans ?_ (kernel_array m c).symm
  funext i
  obtain ⟨a, p, n, rfl⟩ : ∃ (a : Fin 1) (p : Fin 8192) (n : Fin 4096), i = ix3 a p n := ⟨i 0, i 1, i 2, eq_ix3 i⟩
  obtain rfl : a = 0 := Subsingleton.elim _ _
  pointwise
  unfold result Product.entry
  refine Finset.sum_congr rfl fun k _ => ?_
  exact congrArg₂ _ (congrFun (rows_eq m c) _).symm (weights_at m c k _).symm

end ProductOut

end
-- ==== Proof.ProductGlu.lean ====
/- The product of the odd layers' gated unit: the kernel's whole output is the product's. -/
module

public import proofs.«01_k».proof.Defs
public import proofs.«01_k».proof.Proof.Gen.KernelGluIdeal.Value
public import proofs.«01_k».proof.Proof.Gen.ReferenceGluIdeal.Run
public import proofs.«01_k».proof.Proof.Product

@[expose] public section

set_option maxRecDepth 16384

noncomputable section

namespace ProductGlu

open Idealize.ShloMosaic Idealize.ShloMosaic.TcCoe Idealize.SL.Sem Cert.KernelGluIdeal Cert.KernelGluIdeal.Gen
open scoped BigOperators

section Point

variable {c : Dev nD} {i : grid0.Coords} {arg3 : Memref sig .tc .vmem S1x512x4096 .bf16} {harg3 : arg3.IsWhole}
  {arg4 : Memref sig .tc .vmem S1x4096x512 .f32} {harg4 : arg4.IsWhole} {arg5 : Memref sig .tc .vmem S1x512x512 .f32}
  {harg5 : arg5.IsWhole} {arg6 : Memref sig .tc .vmem S4096x512 .bf16} {harg6 : arg6.IsWhole}
  {x0 : Vec Ideal S1x512x4096 .bf16} {x1 : Vec Ideal S1x4096x512 .f32} {S : Vec Ideal S4096x512 .bf16}

/-- The first point of a run of points keeps the block of weights. -/
theorem keptA {hc0 : cond0_0 i} :
    sout0_A_0 (F := Ideal) c i arg3 harg3 arg4 harg4 arg5 harg5 arg6 harg6 hc0 x0 x1 = k0_pay1 x1 := by
  frame_out

/-- It stores the product with that block. -/
theorem outA {hc0 : cond0_0 i} :
    out0_A_2 (F := Ideal) c i arg3 harg3 arg4 harg4 arg5 harg5 arg6 harg6 hc0 x0 x1 = k0_pay2 x0 (k0_pay1 x1) := by
  frame_out

/-- The later points store the product with the kept block. -/
theorem outB {hc0 : ¬cond0_0 i} :
    out0_B_2 (F := Ideal) c i arg3 harg3 arg4 harg4 arg5 harg5 arg6 harg6 hc0 x0 x1 S = k0_pay2 x0 S := by
  frame_out

end Point

/-- An entry of the block a point stores. -/
theorem pay_at (x0 : Vec Ideal S1x512x4096 .bf16) (x1 : Vec Ideal S1x4096x512 .f32) (p : Fin 512) (n : Fin 512) :
    (k0_pay2 (F := Ideal) x0 (k0_pay1 x1) : S1x512x512.Idx → EReal) (ix3 0 p n) = Product.entry x0 x1 0 p n := by
  pointwise [k0_pay1, k0_pay2]
  rfl

/-- The block of rows a point reads. -/
theorem index0 : ∀ t : Fin cfg0.N, (cfg0.win 0).index t = ![t.val / 256, t.val % 16, 0] :=
  (by decide +kernel : ∀ t : Fin grid0.N, cc0_transform_0 (grid0.coords t) = ![t.val / 256, t.val % 16, 0])

/-- The block of weights a point multiplies with. -/
theorem index1 : ∀ t : Fin cfg0.N, (cfg0.win 1).index t = ![t.val / 256, 0, t.val / 16 % 16] :=
  (by decide +kernel : ∀ t : Fin grid0.N, cc0_transform_1 (grid0.coords t) = ![t.val / 256, 0, t.val / 16 % 16])

/-- The block of results a point writes. -/
theorem index2 : ∀ t : Fin cfg0.N, (cfg0.win 2).index t = ![t.val / 256, t.val % 16, t.val / 16 % 16] :=
  (by decide +kernel : ∀ t : Fin grid0.N, cc0_transform_2 (grid0.coords t) = ![t.val / 256, t.val % 16, t.val / 16 % 16])

/-- There is one matrix in the stack. -/
theorem whole (t : Fin cfg0.N) : t.val / 256 = 0 := by
  have hN : cfg0.N = 256 := N_0
  omega

/-- The point that writes a block. -/
theorem point_of (i : Fin 16) (j : Fin 16) : ∃ t : Fin cfg0.N, t.val % 16 = i.val ∧ t.val / 16 % 16 = j.val := by
  have hN : cfg0.N = 256 := N_0
  exact ⟨⟨16 * j.val + i.val, by omega⟩, by dsimp only; omega, by dsimp only; omega⟩

variable (m : (ℓ : Loc nD τ sig) → Buf (Elt Ideal) ℓ) (c : Dev nD)

/-- The rows, as the kernel is launched on them. -/
theorem rows_eq : (V m c main_v0 : S1x8192x4096.Idx → EReal) = (m ((c : Thread nD τ).loc main_arg0) : S1x8192x4096.Idx → EReal) := by
  simp only [V, List.flatten_cons, List.flatten_nil, hostOps0, List.cons_append, List.nil_append, List.append_nil]
  entry_read
  rfl

/-- The weights, as the kernel is launched on them. -/
theorem weights_at (k : Fin 4096) (n : Fin 8192) :
    (V m c main_v1 : S1x4096x8192.Idx → EReal) (ix3 0 k n) = (m ((c : Thread nD τ).loc main_arg1) : S4096x8192.Idx → EReal) (ix2 k n) := by
  simp only [V, List.flatten_cons, List.flatten_nil, hostOps0, List.cons_append, List.nil_append, List.append_nil]
  entry_read
  pointwise
  blk_ext []

/-- An entry of the block of rows. -/
theorem read0 (t : Fin cfg0.N) (p : Fin 512) (k : Fin 4096) : (iblk m c 0 t : S1x512x4096.Idx → EReal) (ix3 0 p k)
    = (V m c main_v0 : S1x8192x4096.Idx → EReal) (ix3 0 ⟨512 * (t.val % 16) + p.val, by omega⟩ k) := by
  have ht := whole t
  blk_ext [iblk, index0 t, ht]

/-- An entry of the block of weights. -/
theorem read1 (t : Fin cfg0.N) (k : Fin 4096) (n : Fin 512) : (iblk m c 1 t : S1x4096x512.Idx → EReal) (ix3 0 k n)
    = (V m c main_v1 : S1x4096x8192.Idx → EReal) (ix3 0 k ⟨512 * (t.val / 16 % 16) + n.val, by omega⟩) := by
  have ht := whole t
  blk_ext [iblk, index1 t, ht]

/-- The block of weights of a point. -/
def weights (t : Fin cfg0.N) : Vec Ideal S1x4096x512 .f32 := iblk m c 1 t

/-- Points of one run multiply with one block of weights. -/
theorem block_kept (n : ℕ) (hn : n + 1 < cfg0.N) (h : ¬(n + 1) % 16 = 0) : weights m c ⟨n + 1, hn⟩ = weights m c ⟨n, by omega⟩ := by
  funext y
  obtain ⟨a, k, j, rfl⟩ : ∃ (a : Fin 1) (k : Fin 4096) (j : Fin 512), y = ix3 a k j := ⟨y 0, y 1, y 2, eq_ix3 y⟩
  obtain rfl : a = 0 := Subsingleton.elim _ _
  refine (read1 m c _ k j).trans (Eq.trans ?_ (read1 m c _ k j).symm)
  congr 3
  dsimp only
  omega

/-- The block a point stores: its rows times its block of weights. -/
theorem out_at (t : Fin cfg0.N) : (outsAt0 m c t.val t.isLt).1 = k0_pay2 (iblk m c 0 t) (k0_pay1 (weights m c t)) := by
  rw [Product.stored 16 (outsAt0 m c) (fun t => (iblk m c 0 t : Vec Ideal S1x512x4096 .bf16)) (weights m c) k0_pay1 k0_pay2 (fun t h => ?_)
    (fun t h => ?_) (block_kept m c) t.val t.isLt]
  · rw [outsAt0_A m c t h, outA, keptA]
    rfl
  · rw [outsAt0_B m c t h, outB, sout0_B_0]

/-- The product, as an array. -/
def result : S1x8192x8192.Idx → EReal := fun i =>
  Product.entry (V m c main_v0 : S1x8192x4096.Idx → EReal) (V m c main_v1 : S1x4096x8192.Idx → EReal)
    (i 0 : Fin 1) (i 1 : Fin 8192) (i 2 : Fin 8192)

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · obtain ⟨t, h1, h2⟩ := point_of (β 1) (β 2)
    have h0 : (β 0 : ℕ) = 0 := Nat.lt_one_iff.mp (β 0).isLt
    refine ⟨t, fun a => ?_⟩
    rw [index2]
    match a with
    | 0 => exact (whole t).trans h0.symm
    | 1 => exact h1
    | 2 => exact h2
  · blk_simp
    rw [after0_2]
    have ht := whole t
    obtain ⟨a, p, n, rfl⟩ : ∃ (a : Fin 1) (p : Fin 512) (n : Fin 512), y = ix3 a p n := ⟨y 0, y 1, y 2, by idx_ext⟩
    obtain rfl : a = 0 := Subsingleton.elim _ _
    have he : (win0_2.blk t).view.emb (ix3 0 p n) = ix3 (0 : Fin 1) ⟨512 * (t.val % 16) + p.val, by omega⟩
        (⟨512 * (t.val / 16 % 16) + n.val, by omega⟩ : Fin 8192) := by
      blk_ext [index2 t, ht]
    rw [he]
    exact (congrFun (out_at m c t) _).trans ((pay_at _ _ p n).trans (Product.entry_congr (read0 m c t p) fun k => read1 m c t k n))

/-- The kernel and the plain product end with the same array. -/
theorem algebraic : Cert.algebraic_KernelGluIdeal_ReferenceGluIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceGluIdeal.Value.run m' ρ')
  rw [(hagree c).1, (hagree c).2]
  refine Eq.trans ?_ (kernel_array m c).symm
  funext i
  obtain ⟨a, p, n, rfl⟩ : ∃ (a : Fin 1) (p : Fin 8192) (n : Fin 8192), i = ix3 a p n := ⟨i 0, i 1, i 2, eq_ix3 i⟩
  obtain rfl : a = 0 := Subsingleton.elim _ _
  pointwise
  unfold result Product.entry
  refine Finset.sum_congr rfl fun k _ => ?_
  exact congrArg₂ _ (congrFun (rows_eq m c) _).symm (weights_at m c k _).symm

end ProductGlu

end
-- ==== Proof.ProductUp.lean ====
/- The experts' first products: the kernel's whole output is theirs. -/
module

public import proofs.«01_k».proof.Defs
public import proofs.«01_k».proof.Proof.Gen.KernelUpIdeal.Value
public import proofs.«01_k».proof.Proof.Gen.ReferenceUpIdeal.Run
public import proofs.«01_k».proof.Proof.Product

@[expose] public section

set_option maxRecDepth 16384

noncomputable section

namespace ProductUp

open Idealize.ShloMosaic Idealize.ShloMosaic.TcCoe Idealize.SL.Sem Cert.KernelUpIdeal Cert.KernelUpIdeal.Gen
open scoped BigOperators

section Point

variable {c : Dev nD} {i : grid0.Coords} {arg3 : Memref sig .tc .vmem S1x512x4096 .f32} {harg3 : arg3.IsWhole}
  {arg4 : Memref sig .tc .vmem S1x4096x384 .f32} {harg4 : arg4.IsWhole} {arg5 : Memref sig .tc .vmem S1x512x384 .f32}
  {harg5 : arg5.IsWhole} {arg6 : Memref sig .tc .vmem S4096x384 .bf16} {harg6 : arg6.IsWhole}
  {x0 : Vec Ideal S1x512x4096 .f32} {x1 : Vec Ideal S1x4096x384 .f32} {S : Vec Ideal S4096x384 .bf16}

/-- The first point of a run of points keeps the block of weights. -/
theorem keptA {hc0 : cond0_0 i} :
    sout0_A_0 (F := Ideal) c i arg3 harg3 arg4 harg4 arg5 harg5 arg6 harg6 hc0 x0 x1 = k0_pay1 x1 := by
  frame_out

/-- It stores the product with that block. -/
theorem outA {hc0 : cond0_0 i} :
    out0_A_2 (F := Ideal) c i arg3 harg3 arg4 harg4 arg5 harg5 arg6 harg6 hc0 x0 x1 = k0_pay2 x0 (k0_pay1 x1) := by
  frame_out

/-- The later points store the product with the kept block. -/
theorem outB {hc0 : ¬cond0_0 i} :
    out0_B_2 (F := Ideal) c i arg3 harg3 arg4 harg4 arg5 harg5 arg6 harg6 hc0 x0 x1 S = k0_pay2 x0 S := by
  frame_out

end Point

/-- An entry of the block a point stores. -/
theorem pay_at (x0 : Vec Ideal S1x512x4096 .f32) (x1 : Vec Ideal S1x4096x384 .f32) (p : Fin 512) (n : Fin 384) :
    (k0_pay2 (F := Ideal) x0 (k0_pay1 x1) : S1x512x384.Idx → EReal) (ix3 0 p n) = Product.entry x0 x1 0 p n := by
  pointwise [k0_pay1, k0_pay2]
  rfl

/-- The block of rows a point reads. -/
theorem index0 : ∀ t : Fin cfg0.N, (cfg0.win 0).index t = ![t.val / 4, t.val % 2, 0] :=
  (by decide +kernel : ∀ t : Fin grid0.N, cc0_transform_0 (grid0.coords t) = ![t.val / 4, t.val % 2, 0])

/-- The block of weights a point multiplies with. -/
theorem index1 : ∀ t : Fin cfg0.N, (cfg0.win 1).index t = ![t.val / 4, 0, t.val / 2 % 2] :=
  (by decide +kernel : ∀ t : Fin grid0.N, cc0_transform_1 (grid0.coords t) = ![t.val / 4, 0, t.val / 2 % 2])

/-- The block of results a point writes. -/
theorem index2 : ∀ t : Fin cfg0.N, (cfg0.win 2).index t = ![t.val / 4, t.val % 2, t.val / 2 % 2] :=
  (by decide +kernel : ∀ t : Fin grid0.N, cc0_transform_2 (grid0.coords t) = ![t.val / 4, t.val % 2, t.val / 2 % 2])

/-- The expert a point works for. -/
theorem expert_lt (t : Fin cfg0.N) : t.val / 4 < 16 := by
  have hN : cfg0.N = 64 := N_0
  omega

/-- The point that writes a block. -/
theorem point_of (e : Fin 16) (i : Fin 2) (j : Fin 2) :
    ∃ t : Fin cfg0.N, t.val / 4 = e.val ∧ t.val % 2 = i.val ∧ t.val / 2 % 2 = j.val := by
  have hN : cfg0.N = 64 := N_0
  exact ⟨⟨4 * e.val + 2 * j.val + i.val, by omega⟩, by dsimp only; omega, by dsimp only; omega, by dsimp only; omega⟩

variable (m : (ℓ : Loc nD τ sig) → Buf (Elt Ideal) ℓ) (c : Dev nD)

/-- The rows, as the kernel is launched on them. -/
theorem rows_eq : V m c main_arg0 = m ((c : Thread nD τ).loc main_arg0) := V_main_arg0 m c

/-- The weights, as the kernel is launched on them. -/
theorem weights_eq : V m c main_arg1 = m ((c : Thread nD τ).loc main_arg1) := V_main_arg1 m c

/-- An entry of the block of rows. -/
theorem read0 (t : Fin cfg0.N) (p : Fin 512) (k : Fin 4096) : (iblk m c 0 t : S1x512x4096.Idx → EReal) (ix3 0 p k)
    = (V m c main_arg0 : S16x1024x4096.Idx → EReal) (ix3 ⟨t.val / 4, expert_lt t⟩ ⟨512 * (t.val % 2) + p.val, by omega⟩ k) := by
  blk_ext [iblk, index0 t]

/-- An entry of the block of weights. -/
theorem read1 (t : Fin cfg0.N) (k : Fin 4096) (n : Fin 384) : (iblk m c 1 t : S1x4096x384.Idx → EReal) (ix3 0 k n)
    = (V m c main_arg1 : S16x4096x768.Idx → EReal) (ix3 ⟨t.val / 4, expert_lt t⟩ k ⟨384 * (t.val / 2 % 2) + n.val, by omega⟩) := by
  blk_ext [iblk, index1 t]

/-- The block of weights of a point. -/
def weights (t : Fin cfg0.N) : Vec Ideal S1x4096x384 .f32 := iblk m c 1 t

/-- Points of one run multiply with one block of weights. -/
theorem block_kept (n : ℕ) (hn : n + 1 < cfg0.N) (h : ¬(n + 1) % 2 = 0) : weights m c ⟨n + 1, hn⟩ = weights m c ⟨n, by omega⟩ := by
  funext y
  obtain ⟨a, k, j, rfl⟩ : ∃ (a : Fin 1) (k : Fin 4096) (j : Fin 384), y = ix3 a k j := ⟨y 0, y 1, y 2, eq_ix3 y⟩
  obtain rfl : a = 0 := Subsingleton.elim _ _
  refine (read1 m c _ k j).trans (Eq.trans ?_ (read1 m c _ k j).symm)
  have he : (n + 1) / 4 = n / 4 := by omega
  have hj : (n + 1) / 2 = n / 2 := by omega
  simp only [he, hj]

/-- The block a point stores: its rows times its block of weights. -/
theorem out_at (t : Fin cfg0.N) : (outsAt0 m c t.val t.isLt).1 = k0_pay2 (iblk m c 0 t) (k0_pay1 (weights m c t)) := by
  rw [Product.stored 2 (outsAt0 m c) (fun t => (iblk m c 0 t : Vec Ideal S1x512x4096 .f32)) (weights m c) k0_pay1 k0_pay2 (fun t h => ?_)
    (fun t h => ?_) (block_kept m c) t.val t.isLt]
  · rw [outsAt0_A m c t h, outA, keptA]
    rfl
  · rw [outsAt0_B m c t h, outB, sout0_B_0]

/-- The products of all the experts, as an array. -/
def result : S16x1024x768.Idx → EReal := fun i =>
  Product.entry (V m c main_arg0 : S16x1024x4096.Idx → EReal) (V m c main_arg1 : S16x4096x768.Idx → EReal)
    (i 0 : Fin 16) (i 1 : Fin 1024) (i 2 : Fin 768)

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · obtain ⟨t, h0, h1, h2⟩ := point_of (β 0) (β 1) (β 2)
    refine ⟨t, fun a => ?_⟩
    rw [index2]
    match a with
    | 0 => exact h0
    | 1 => exact h1
    | 2 => exact h2
  · blk_simp
    rw [after0_2]
    obtain ⟨a, p, n, rfl⟩ : ∃ (a : Fin 1) (p : Fin 512) (n : Fin 384), y = ix3 a p n := ⟨y 0, y 1, y 2, by idx_ext⟩
    obtain rfl : a = 0 := Subsingleton.elim _ _
    have he : (win0_2.blk t).view.emb (ix3 0 p n) = ix3 (⟨t.val / 4, expert_lt t⟩ : Fin 16)
        (⟨512 * (t.val % 2) + p.val, by omega⟩ : Fin 1024) (⟨384 * (t.val / 2 % 2) + n.val, by omega⟩ : Fin 768) := by
      blk_ext [index2 t]
    rw [he]
    exact (congrFun (out_at m c t) _).trans ((pay_at _ _ p n).trans (Product.entry_congr (read0 m c t p) fun k => read1 m c t k n))

/-- The kernel and the plain products end with the same array. -/
theorem algebraic : Cert.algebraic_KernelUpIdeal_ReferenceUpIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceUpIdeal.Value.run m' ρ')
  rw [(hagree c).1, (hagree c).2]
  refine Eq.trans ?_ (kernel_array m c).symm
  funext i
  obtain ⟨e, p, n, rfl⟩ : ∃ (e : Fin 16) (p : Fin 1024) (n : Fin 768), i = ix3 e p n := ⟨i 0, i 1, i 2, eq_ix3 i⟩
  unfold result
  rw [rows_eq m c, weights_eq m c]
  pointwise
  rfl

end ProductUp

end
-- ==== Proof.ProductRoute.lean ====
/- The experts' first products from the tokens on, each expert taking its own: the kernel's whole output is theirs. -/
module

public import proofs.«01_k».proof.Defs
public import proofs.«01_k».proof.Proof.Gen.KernelRouteIdeal.Value
public import proofs.«01_k».proof.Proof.Gen.ReferenceRouteIdeal.Run
public import proofs.«01_k».proof.Proof.Product

@[expose] public section

set_option maxRecDepth 16384

noncomputable section

namespace ProductRoute

open Idealize.ShloMosaic Idealize.ShloMosaic.TcCoe Idealize.SL.Sem Cert.KernelRouteIdeal Cert.KernelRouteIdeal.Gen
open scoped BigOperators

/-- How much affinity each token has to each expert: the softmax of its products with the router's columns. -/
def affinity (h : FVec Ideal S1x8192x4096 .f32) (r : FVec Ideal S4096x16 .f32) : FVec Ideal S1x8192x16 .f32 :=
  let logits := Host.dotGeneral dot_S1x8192x4096_S4096x16_S1x8192x16_2_0_01_1_n_n none h r
  let top := maximumf (broadcastInDim S1x8192 ![] bcast_S_S1x8192 (constant S_ .f32 0xFF800000#32))
    (Host.reduce FloatOps.maximumf logits (constant S_ .f32 0xFF800000#32) reducesTo_S1x8192x16_S1x8192_d2 h_S_)
  let e := Host.exp (subf logits (broadcastInDim S1x8192x16 ![0, 1, 2] bcast_S1x8192x1_S1x8192x16_0_1_2
    (broadcastInDim S1x8192x1 ![0, 1] bcast_S1x8192_S1x8192x1_0_1 top)))
  Host.divf e (broadcastInDim S1x8192x16 ![0, 1, 2] bcast_S1x8192x1_S1x8192x16_0_1_2
    (broadcastInDim S1x8192x1 ![0, 1] bcast_S1x8192_S1x8192x1_0_1
      (Host.reduceAdd e (constant S_ .f32 0x00000000#32) reducesTo_S1x8192x16_S1x8192_d2 h_S_)))

/-- The tokens that each expert takes: the 1024 with most affinity to it. -/
def taken (h : FVec Ideal S1x8192x4096 .f32) (r : FVec Ideal S4096x16 .f32) : FVec Ideal S1x16x1024x4096 .f32 :=
  let order := (Host.topK S1x16x1024 2 (FloatOps.cmpfTotal .gt)
    (transpose S1x16x8192 [0, 2, 1] (affinity h r) transposes_S1x8192x16_S1x16x8192_0_2_1) sliceFits_S1x16x8192_S1x16x1024).2
  let chosen := select (cmpi .slt order (broadcastInDim S1x16x1024 ![] bcast_S_S1x16x1024 (constantI S_ 32 0#32)))
    (addi order (broadcastInDim S1x16x1024 ![] bcast_S_S1x16x1024 (constantI S_ 32 8192#32))) order
  Host.gather gather_S1x8192x4096_S1x16x1024x1_S1x16x1024x4096_3_1_0_0_1_3_114096 h
    (broadcastInDim S1x16x1024x1 ![0, 1, 2] bcast_S1x16x1024_S1x16x1024x1_0_1_2 chosen)

section Point

variable {c : Dev nD} {i : grid0.Coords} {arg3 : Memref sig .tc .vmem S1x512x4096 .f32} {harg3 : arg3.IsWhole}
  {arg4 : Memref sig .tc .vmem S1x4096x384 .f32} {harg4 : arg4.IsWhole} {arg5 : Memref sig .tc .vmem S1x512x384 .f32}
  {harg5 : arg5.IsWhole} {arg6 : Memref sig .tc .vmem S4096x384 .bf16} {harg6 : arg6.IsWhole}
  {x0 : Vec Ideal S1x512x4096 .f32} {x1 : Vec Ideal S1x4096x384 .f32} {S : Vec Ideal S4096x384 .bf16}

/-- The first point of a run of points keeps the block of weights. -/
theorem keptA {hc0 : cond0_0 i} :
    sout0_A_0 (F := Ideal) c i arg3 harg3 arg4 harg4 arg5 harg5 arg6 harg6 hc0 x0 x1 = k0_pay1 x1 := by
  frame_out

/-- It stores the product with that block. -/
theorem outA {hc0 : cond0_0 i} :
    out0_A_2 (F := Ideal) c i arg3 harg3 arg4 harg4 arg5 harg5 arg6 harg6 hc0 x0 x1 = k0_pay2 x0 (k0_pay1 x1) := by
  frame_out

/-- The later points store the product with the kept block. -/
theorem outB {hc0 : ¬cond0_0 i} :
    out0_B_2 (F := Ideal) c i arg3 harg3 arg4 harg4 arg5 harg5 arg6 harg6 hc0 x0 x1 S = k0_pay2 x0 S := by
  frame_out

end Point

/-- An entry of the block a point stores. -/
theorem pay_at (x0 : Vec Ideal S1x512x4096 .f32) (x1 : Vec Ideal S1x4096x384 .f32) (p : Fin 512) (n : Fin 384) :
    (k0_pay2 (F := Ideal) x0 (k0_pay1 x1) : S1x512x384.Idx → EReal) (ix3 0 p n) = Product.entry x0 x1 0 p n := by
  pointwise [k0_pay1, k0_pay2]
  rfl

/-- The block of rows a point reads. -/
theorem index0 : ∀ t : Fin cfg0.N, (cfg0.win 0).index t = ![t.val / 4, t.val % 2, 0] :=
  (by decide +kernel : ∀ t : Fin grid0.N, cc0_transform_0 (grid0.coords t) = ![t.val / 4, t.val % 2, 0])

/-- The block of weights a point multiplies with. -/
theorem index1 : ∀ t : Fin cfg0.N, (cfg0.win 1).index t = ![t.val / 4, 0, t.val / 2 % 2] :=
  (by decide +kernel : ∀ t : Fin grid0.N, cc0_transform_1 (grid0.coords t) = ![t.val / 4, 0, t.val / 2 % 2])

/-- The block of results a point writes. -/
theorem index2 : ∀ t : Fin cfg0.N, (cfg0.win 2).index t = ![t.val / 4, t.val % 2, t.val / 2 % 2] :=
  (by decide +kernel : ∀ t : Fin grid0.N, cc0_transform_2 (grid0.coords t) = ![t.val / 4, t.val % 2, t.val / 2 % 2])

/-- The expert a point works for. -/
theorem expert_lt (t : Fin cfg0.N) : t.val / 4 < 16 := by
  have hN : cfg0.N = 64 := N_0
  omega

/-- The point that writes a block. -/
theorem point_of (e : Fin 16) (i : Fin 2) (j : Fin 2) :
    ∃ t : Fin cfg0.N, t.val / 4 = e.val ∧ t.val % 2 = i.val ∧ t.val / 2 % 2 = j.val := by
  have hN : cfg0.N = 64 := N_0
  exact ⟨⟨4 * e.val + 2 * j.val + i.val, by omega⟩, by dsimp only; omega, by dsimp only; omega, by dsimp only; omega⟩

variable (m : (ℓ : Loc nD τ sig) → Buf (Elt Ideal) ℓ) (c : Dev nD)

/-- The tokens the experts take, as the kernel is launched on them. -/
theorem rows_eq : (V m c main_v20 : S16x1024x4096.Idx → EReal)
    = shapeCast S16x1024x4096 (taken (m ((c : Thread nD τ).loc main_arg0)) (m ((c : Thread nD τ).loc main_arg1)))
        shapeCasts_S1x16x1024x4096_S16x1024x4096 := by
  simp only [V, List.flatten_cons, List.flatten_nil, hostOps0, List.cons_append, List.nil_append, List.append_nil]
  entry_read
  rfl

/-- The weights, as the kernel is launched on them. -/
theorem weights_eq : V m c main_arg2 = m ((c : Thread nD τ).loc main_arg2) := V_main_arg2 m c

/-- An entry of the block of rows. -/
theorem read0 (t : Fin cfg0.N) (p : Fin 512) (k : Fin 4096) : (iblk m c 0 t : S1x512x4096.Idx → EReal) (ix3 0 p k)
    = (V m c main_v20 : S16x1024x4096.Idx → EReal) (ix3 ⟨t.val / 4, expert_lt t⟩ ⟨512 * (t.val % 2) + p.val, by omega⟩ k) := by
  blk_ext [iblk, index0 t]

/-- An entry of the block of weights. -/
theorem read1 (t : Fin cfg0.N) (k : Fin 4096) (n : Fin 384) : (iblk m c 1 t : S1x4096x384.Idx → EReal) (ix3 0 k n)
    = (V m c main_arg2 : S16x4096x768.Idx → EReal) (ix3 ⟨t.val / 4, expert_lt t⟩ k ⟨384 * (t.val / 2 % 2) + n.val, by omega⟩) := by
  blk_ext [iblk, index1 t]

/-- The block of weights of a point. -/
def weights (t : Fin cfg0.N) : Vec Ideal S1x4096x384 .f32 := iblk m c 1 t

/-- Points of one run multiply with one block of weights. -/
theorem block_kept (n : ℕ) (hn : n + 1 < cfg0.N) (h : ¬(n + 1) % 2 = 0) : weights m c ⟨n + 1, hn⟩ = weights m c ⟨n, by omega⟩ := by
  funext y
  obtain ⟨a, k, j, rfl⟩ : ∃ (a : Fin 1) (k : Fin 4096) (j : Fin 384), y = ix3 a k j := ⟨y 0, y 1, y 2, eq_ix3 y⟩
  obtain rfl : a = 0 := Subsingleton.elim _ _
  refine (read1 m c _ k j).trans (Eq.trans ?_ (read1 m c _ k j).symm)
  have he : (n + 1) / 4 = n / 4 := by omega
  have hj : (n + 1) / 2 = n / 2 := by omega
  simp only [he, hj]

/-- The block a point stores: its rows times its block of weights. -/
theorem out_at (t : Fin cfg0.N) : (outsAt0 m c t.val t.isLt).1 = k0_pay2 (iblk m c 0 t) (k0_pay1 (weights m c t)) := by
  rw [Product.stored 2 (outsAt0 m c) (fun t => (iblk m c 0 t : Vec Ideal S1x512x4096 .f32)) (weights m c) k0_pay1 k0_pay2 (fun t h => ?_)
    (fun t h => ?_) (block_kept m c) t.val t.isLt]
  · rw [outsAt0_A m c t h, outA, keptA]
    rfl
  · rw [outsAt0_B m c t h, outB, sout0_B_0]

/-- The products of all the experts, as an array. -/
def result : S16x1024x768.Idx → EReal := fun i =>
  Product.entry (V m c main_v20 : S16x1024x4096.Idx → EReal) (V m c main_arg2 : S16x4096x768.Idx → EReal)
    (i 0 : Fin 16) (i 1 : Fin 1024) (i 2 : Fin 768)

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · obtain ⟨t, h0, h1, h2⟩ := point_of (β 0) (β 1) (β 2)
    refine ⟨t, fun a => ?_⟩
    rw [index2]
    match a with
    | 0 => exact h0
    | 1 => exact h1
    | 2 => exact h2
  · blk_simp
    rw [after0_2]
    obtain ⟨a, p, n, rfl⟩ : ∃ (a : Fin 1) (p : Fin 512) (n : Fin 384), y = ix3 a p n := ⟨y 0, y 1, y 2, by idx_ext⟩
    obtain rfl : a = 0 := Subsingleton.elim _ _
    have he : (win0_2.blk t).view.emb (ix3 0 p n) = ix3 (⟨t.val / 4, expert_lt t⟩ : Fin 16)
        (⟨512 * (t.val % 2) + p.val, by omega⟩ : Fin 1024) (⟨384 * (t.val / 2 % 2) + n.val, by omega⟩ : Fin 768) := by
      blk_ext [index2 t]
    rw [he]
    exact (congrFun (out_at m c t) _).trans ((pay_at _ _ p n).trans (Product.entry_congr (read0 m c t p) fun k => read1 m c t k n))

/-- The reference's products of the taken tokens with the experts' weights. -/
def products (T : FVec Ideal S1x16x1024x4096 .f32) (w : FVec Ideal S16x4096x768 .f32) : FVec Ideal S16x1024x768 .f32 :=
  shapeCast Cert.ReferenceRouteIdeal.S16x1024x768 (transpose Cert.ReferenceRouteIdeal.S1x16x1024x768 [2, 0, 3, 1]
    (Host.dotGeneral Cert.ReferenceRouteIdeal.dot_S16x4096x768_S1x16x1024x4096_S16x768x1x1024_1_3_2_02_0_1 none w T
      : FVec Ideal Cert.ReferenceRouteIdeal.S16x768x1x1024 .f32)
    Cert.ReferenceRouteIdeal.Gen.transposes_S16x768x1x1024_S1x16x1024x768_2_0_3_1)
    Cert.ReferenceRouteIdeal.Gen.shapeCasts_S1x16x1024x768_S16x1024x768

/-- An entry of them. -/
theorem products_at (T : FVec Ideal S1x16x1024x4096 .f32) (w : FVec Ideal S16x4096x768 .f32) (e : Fin 16) (p : Fin 1024) (n : Fin 768) :
    (products T w : S16x1024x768.Idx → EReal) (ix3 e p n)
      = Product.entry (shapeCast S16x1024x4096 T shapeCasts_S1x16x1024x4096_S16x1024x4096 : S16x1024x4096.Idx → EReal)
          (w : S16x4096x768.Idx → EReal) e p n := by
  unfold products Product.entry
  pointwise
  exact Finset.sum_congr rfl fun k _ => mul_comm _ _

/-- The reference's result. -/
theorem reference_eq (m' : (ℓ : Loc Cert.ReferenceRouteIdeal.nD Cert.ReferenceRouteIdeal.τ Cert.ReferenceRouteIdeal.sig) → Buf (Elt Ideal) ℓ)
    (c : Dev Cert.ReferenceRouteIdeal.nD) : Cert.ReferenceRouteIdeal.Value.res_out0 m' c
      = products (taken (m' ((c : Thread Cert.ReferenceRouteIdeal.nD Cert.ReferenceRouteIdeal.τ).loc Cert.ReferenceRouteIdeal.main_arg0))
          (m' ((c : Thread Cert.ReferenceRouteIdeal.nD Cert.ReferenceRouteIdeal.τ).loc Cert.ReferenceRouteIdeal.main_arg1)))
        (m' ((c : Thread Cert.ReferenceRouteIdeal.nD Cert.ReferenceRouteIdeal.τ).loc Cert.ReferenceRouteIdeal.main_arg2)) := rfl

/-- The kernel and the plain products end with the same array. -/
theorem algebraic : Cert.algebraic_KernelRouteIdeal_ReferenceRouteIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceRouteIdeal.Value.run m' ρ')
  refine Eq.trans ?_ (kernel_array m c).symm
  funext i
  obtain ⟨e, p, n, rfl⟩ : ∃ (e : Fin 16) (p : Fin 1024) (n : Fin 768), i = ix3 e p n := ⟨i 0, i 1, i 2, eq_ix3 i⟩
  refine (congrFun (reference_eq m' c) _).trans ?_
  rw [(hagree c).1, (hagree c).2.1, (hagree c).2.2]
  refine (products_at _ _ e p n).trans ?_
  unfold result
  rw [rows_eq m c, weights_eq m c]
  rfl

end ProductRoute

end
-- ==== Proof.ProductDown.lean ====
/- The experts' second products, of gated rows: the kernel's whole output is theirs. -/
module

public import proofs.«01_k».proof.Defs
public import proofs.«01_k».proof.Proof.Gen.KernelDownIdeal.Value
public import proofs.«01_k».proof.Proof.Gen.ReferenceDownIdeal.Run
public import proofs.«01_k».proof.Proof.Product

@[expose] public section

set_option maxRecDepth 16384

noncomputable section

namespace ProductDown

open Idealize.ShloMosaic Idealize.ShloMosaic.TcCoe Idealize.SL.Sem Cert.KernelDownIdeal Cert.KernelDownIdeal.Gen
open scoped BigOperators

section Point

variable {c : Dev nD} {i : grid0.Coords} {arg3 : Memref sig .tc .vmem S1x512x384 .f32} {harg3 : arg3.IsWhole}
  {arg4 : Memref sig .tc .vmem S1x384x512 .f32} {harg4 : arg4.IsWhole} {arg5 : Memref sig .tc .vmem S1x512x512 .f32}
  {harg5 : arg5.IsWhole} {arg6 : Memref sig .tc .vmem S384x512 .bf16} {harg6 : arg6.IsWhole}
  {x0 : Vec Ideal S1x512x384 .f32} {x1 : Vec Ideal S1x384x512 .f32} {S : Vec Ideal S384x512 .bf16}

/-- The first point of a run of points keeps the block of weights. -/
theorem keptA {hc0 : cond0_0 i} :
    sout0_A_0 (F := Ideal) c i arg3 harg3 arg4 harg4 arg5 harg5 arg6 harg6 hc0 x0 x1 = k0_pay1 x1 := by
  frame_out

/-- It stores the product with that block. -/
theorem outA {hc0 : cond0_0 i} :
    out0_A_2 (F := Ideal) c i arg3 harg3 arg4 harg4 arg5 harg5 arg6 harg6 hc0 x0 x1 = k0_pay2 x0 (k0_pay1 x1) := by
  frame_out

/-- The later points store the product with the kept block. -/
theorem outB {hc0 : ¬cond0_0 i} :
    out0_B_2 (F := Ideal) c i arg3 harg3 arg4 harg4 arg5 harg5 arg6 harg6 hc0 x0 x1 S = k0_pay2 x0 S := by
  frame_out

end Point

/-- An entry of the block a point stores. -/
theorem pay_at (x0 : Vec Ideal S1x512x384 .f32) (x1 : Vec Ideal S1x384x512 .f32) (p : Fin 512) (n : Fin 512) :
    (k0_pay2 (F := Ideal) x0 (k0_pay1 x1) : S1x512x512.Idx → EReal) (ix3 0 p n) = Product.entry x0 x1 0 p n := by
  pointwise [k0_pay1, k0_pay2]
  rfl

/-- The block of rows a point reads. -/
theorem index0 : ∀ t : Fin cfg0.N, (cfg0.win 0).index t = ![t.val / 16, t.val % 2, 0] :=
  (by decide +kernel : ∀ t : Fin grid0.N, cc0_transform_0 (grid0.coords t) = ![t.val / 16, t.val % 2, 0])

/-- The block of weights a point multiplies with. -/
theorem index1 : ∀ t : Fin cfg0.N, (cfg0.win 1).index t = ![t.val / 16, 0, t.val / 2 % 8] :=
  (by decide +kernel : ∀ t : Fin grid0.N, cc0_transform_1 (grid0.coords t) = ![t.val / 16, 0, t.val / 2 % 8])

/-- The block of results a point writes. -/
theorem index2 : ∀ t : Fin cfg0.N, (cfg0.win 2).index t = ![t.val / 16, t.val % 2, t.val / 2 % 8] :=
  (by decide +kernel : ∀ t : Fin grid0.N, cc0_transform_2 (grid0.coords t) = ![t.val / 16, t.val % 2, t.val / 2 % 8])

/-- The expert a point works for. -/
theorem expert_lt (t : Fin cfg0.N) : t.val / 16 < 16 := by
  have hN : cfg0.N = 256 := N_0
  omega

/-- The point that writes a block. -/
theorem point_of (e : Fin 16) (i : Fin 2) (j : Fin 8) :
    ∃ t : Fin cfg0.N, t.val / 16 = e.val ∧ t.val % 2 = i.val ∧ t.val / 2 % 8 = j.val := by
  have hN : cfg0.N = 256 := N_0
  exact ⟨⟨16 * e.val + 2 * j.val + i.val, by omega⟩, by dsimp only; omega, by dsimp only; omega, by dsimp only; omega⟩

variable (m : (ℓ : Loc nD τ sig) → Buf (Elt Ideal) ℓ) (c : Dev nD)

/-- The gated rows, from the first products. -/
def gated (x : FVec Ideal S16x1024x768 .f32) : FVec Ideal S16x1024x384 .f32 :=
  mulf (mulf (extractStridedSlice S16x1024x384 ![0, 0, 0] x slices_S16x1024x768_S16x1024x384_0_0_0)
      (Host.divf (broadcastInDim S16x1024x384 ![] bcast_S_S16x1024x384 (constant S_ .f32 0x3F800000#32))
        (addf (broadcastInDim S16x1024x384 ![] bcast_S_S16x1024x384 (constant S_ .f32 0x3F800000#32))
          (Host.exp (Host.negf (extractStridedSlice S16x1024x384 ![0, 0, 0] x slices_S16x1024x768_S16x1024x384_0_0_0))))))
    (extractStridedSlice S16x1024x384 ![0, 0, 384] x slices_S16x1024x768_S16x1024x384_0_0_384)

/-- The rows, as the kernel is launched on them. -/
theorem rows_eq : V m c main_v3 = gated (m ((c : Thread nD τ).loc main_arg0)) := by
  simp only [V, List.flatten_cons, List.flatten_nil, hostOps0, hostOps0_1, hostOps0_2, List.cons_append, List.nil_append,
    List.append_nil, StableHlo.TRef.binary, StableHlo.TRef.nullary, StableHlo.TRef.unary, StableHlo.TRef.toBuf, StableHlo.TRef.ofBuf, cast_eq]
  entry_read
  rfl

/-- The weights, as the kernel is launched on them. -/
theorem weights_eq : V m c main_arg1 = m ((c : Thread nD τ).loc main_arg1) := V_main_arg1 m c

/-- An entry of the block of rows. -/
theorem read0 (t : Fin cfg0.N) (p : Fin 512) (k : Fin 384) : (iblk m c 0 t : S1x512x384.Idx → EReal) (ix3 0 p k)
    = (V m c main_v3 : S16x1024x384.Idx → EReal) (ix3 ⟨t.val / 16, expert_lt t⟩ ⟨512 * (t.val % 2) + p.val, by omega⟩ k) := by
  blk_ext [iblk, index0 t]

/-- An entry of the block of weights. -/
theorem read1 (t : Fin cfg0.N) (k : Fin 384) (n : Fin 512) : (iblk m c 1 t : S1x384x512.Idx → EReal) (ix3 0 k n)
    = (V m c main_arg1 : S16x384x4096.Idx → EReal) (ix3 ⟨t.val / 16, expert_lt t⟩ k ⟨512 * (t.val / 2 % 8) + n.val, by omega⟩) := by
  blk_ext [iblk, index1 t]

/-- The block of weights of a point. -/
def weights (t : Fin cfg0.N) : Vec Ideal S1x384x512 .f32 := iblk m c 1 t

/-- Points of one run multiply with one block of weights. -/
theorem block_kept (n : ℕ) (hn : n + 1 < cfg0.N) (h : ¬(n + 1) % 2 = 0) : weights m c ⟨n + 1, hn⟩ = weights m c ⟨n, by omega⟩ := by
  funext y
  obtain ⟨a, k, j, rfl⟩ : ∃ (a : Fin 1) (k : Fin 384) (j : Fin 512), y = ix3 a k j := ⟨y 0, y 1, y 2, eq_ix3 y⟩
  obtain rfl : a = 0 := Subsingleton.elim _ _
  refine (read1 m c _ k j).trans (Eq.trans ?_ (read1 m c _ k j).symm)
  have he : (n + 1) / 16 = n / 16 := by omega
  have hj : (n + 1) / 2 = n / 2 := by omega
  simp only [he, hj]

/-- The block a point stores: its rows times its block of weights. -/
theorem out_at (t : Fin cfg0.N) : (outsAt0 m c t.val t.isLt).1 = k0_pay2 (iblk m c 0 t) (k0_pay1 (weights m c t)) := by
  rw [Product.stored 2 (outsAt0 m c) (fun t => (iblk m c 0 t : Vec Ideal S1x512x384 .f32)) (weights m c) k0_pay1 k0_pay2 (fun t h => ?_)
    (fun t h => ?_) (block_kept m c) t.val t.isLt]
  · rw [outsAt0_A m c t h, outA, keptA]
    rfl
  · rw [outsAt0_B m c t h, outB, sout0_B_0]

/-- The products of all the experts, as an array. -/
def result : S16x1024x4096.Idx → EReal := fun i =>
  Product.entry (V m c main_v3 : S16x1024x384.Idx → EReal) (V m c main_arg1 : S16x384x4096.Idx → EReal)
    (i 0 : Fin 16) (i 1 : Fin 1024) (i 2 : Fin 4096)

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · obtain ⟨t, h0, h1, h2⟩ := point_of (β 0) (β 1) (β 2)
    refine ⟨t, fun a => ?_⟩
    rw [index2]
    match a with
    | 0 => exact h0
    | 1 => exact h1
    | 2 => exact h2
  · blk_simp
    rw [after0_2]
    obtain ⟨a, p, n, rfl⟩ : ∃ (a : Fin 1) (p : Fin 512) (n : Fin 512), y = ix3 a p n := ⟨y 0, y 1, y 2, by idx_ext⟩
    obtain rfl : a = 0 := Subsingleton.elim _ _
    have he : (win0_2.blk t).view.emb (ix3 0 p n) = ix3 (⟨t.val / 16, expert_lt t⟩ : Fin 16)
        (⟨512 * (t.val % 2) + p.val, by omega⟩ : Fin 1024) (⟨512 * (t.val / 2 % 8) + n.val, by omega⟩ : Fin 4096) := by
      blk_ext [index2 t]
    rw [he]
    exact (congrFun (out_at m c t) _).trans ((pay_at _ _ p n).trans (Product.entry_congr (read0 m c t p) fun k => read1 m c t k n))

/-- An entry of the plain products. -/
theorem product_at (a : FVec Ideal S16x1024x384 .f32) (w : FVec Ideal S16x384x4096 .f32) (e : Fin 16) (p : Fin 1024) (n : Fin 4096) :
    (Host.dotGeneral Cert.ReferenceDownIdeal.dot_S16x1024x384_S16x384x4096_S16x1024x4096_2_1_1_2_0_0 none a w :
      S16x1024x4096.Idx → EReal) (ix3 e p n) = Product.entry a w e p n := by
  pointwise
  rfl

/-- The kernel and the plain products end with the same array. -/
theorem algebraic : Cert.algebraic_KernelDownIdeal_ReferenceDownIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceDownIdeal.Value.run m' ρ')
  rw [(hagree c).1, (hagree c).2]
  refine Eq.trans ?_ (kernel_array m c).symm
  funext i
  obtain ⟨e, p, n, rfl⟩ : ∃ (e : Fin 16) (p : Fin 1024) (n : Fin 4096), i = ix3 e p n := ⟨i 0, i 1, i 2, eq_ix3 i⟩
  unfold result
  rw [rows_eq m c, weights_eq m c]
  exact product_at (gated _) _ e p n

end ProductDown

end
-- ==== Proof.Groups.lean ====
/- Products with matrices that are zero outside the blocks along their diagonal. -/
module

public import Idealize.ShloMosaic.Lib.Pipeline.ValueKit
public import Idealize.ShloMosaic.Lib.Pipeline.ReadBack
public import Idealize.ShloMosaic.Lib.Pipeline.Covers

@[expose] public section

noncomputable section

namespace Groups

open scoped BigOperators

/-- A sum over `8` groups of `C` terms, all zero outside the group `h`, is the sum over that group. -/
theorem sum_group {C N : ℕ} (hN : N = 8 * C) (f : Fin N → EReal) (h : Fin 8) (hf : ∀ a : Fin N, a.val / C ≠ h.val → f a = 0) :
    ∑ a : Fin N, f a = ∑ p : Fin C, f ⟨C * h.val + p.val, by
      have := Nat.mul_le_mul_left C (Nat.succ_le_of_lt h.isLt)
      rw [Nat.mul_succ] at this
      omega⟩ := by
  subst hN
  rw [← Equiv.sum_comp finProdFinEquiv f, Fintype.sum_prod_type, Finset.sum_eq_single h]
  · refine Finset.sum_congr rfl fun p _ => congrArg f (Fin.ext ?_)
    simp [finProdFinEquiv, add_comm]
  · intro g _ hg
    refine Finset.sum_eq_zero fun p _ => hf _ ?_
    have hp : 0 < C := Nat.lt_of_le_of_lt (Nat.zero_le _) p.isLt
    have e : (finProdFinEquiv (g, p)).val = p.val + C * g.val := rfl
    rw [e, Nat.add_mul_div_left _ _ hp, Nat.div_eq_of_lt p.isLt, Nat.zero_add]
    exact fun he => hg (Fin.ext he)
  · exact fun hh => absurd (Finset.mem_univ h) hh

end Groups

end
-- ==== Proof.StatesDrive.lean ====
/- The S5's first products: the kernel's planes of driven states are the plain products of every group of channels. -/
module

public import proofs.«01_k».proof.Defs
public import proofs.«01_k».proof.Proof.Gen.KernelDriveIdeal.Value
public import proofs.«01_k».proof.Proof.Gen.ReferenceDriveIdeal.Run
public import proofs.«01_k».proof.Proof.Groups

@[expose] public section

set_option maxRecDepth 16384

noncomputable section

namespace StatesDrive

open Idealize.ShloMosaic Idealize.ShloMosaic.TcCoe Idealize.SL.Sem Cert.KernelDriveIdeal Cert.KernelDriveIdeal.Gen
open scoped BigOperators

/-- The matrix that says which two of eight groups are one. -/
def eye : S8x8.Idx → EReal :=
  uitofp (F := Ideal) .f32 (cmpi .eq (addi (iotaInDim S8x8 32 0) (broadcastInDim S8x8 ![] bcast_S_S8x8 (constantI S_ 32 0#32)))
    (iotaInDim S8x8 32 1))

/-- It is one on the diagonal. -/
theorem eye_same (g : Fin 8) : eye (ix2 g g) = 1 := by
  have e : IntOp.cmpi .eq (IntOp.addi (BitVec.ofNat 32 g.val) 0#32) (BitVec.ofNat 32 g.val) = 1#1 := by
    revert g
    decide
  pointwise [eye]
  rw [e]
  show (((1#1).toNat : ℝ) : EReal) = 1
  simp

/-- It is zero elsewhere. -/
theorem eye_other (g h : Fin 8) (hgh : g ≠ h) : eye (ix2 g h) = 0 := by
  have e : IntOp.cmpi .eq (IntOp.addi (BitVec.ofNat 32 g.val) 0#32) (BitVec.ofNat 32 h.val) = 0#1 := by
    revert g h
    decide
  pointwise [eye]
  rw [e]
  show (((0#1).toNat : ℝ) : EReal) = 0
  simp

/-- A part of the weights, every group of it set on the diagonal of its block. -/
def spread (b : S2x256x64x16.Idx → EReal) : S2x32x128x512.Idx → EReal :=
  shapeCast S2x32x128x512 (mulf (F := Ideal) (φ := .f32)
    (broadcastInDim S2x32x8x16x8x64 ![0, 1, 2, 3, 4, 5] bcast_S1x1x8x1x8x1_S2x32x8x16x8x64_0_1_2_3_4_5
      (broadcastInDim S1x1x8x1x8x1 ![2, 3, 4, 5] bcast_S8x1x8x1_S1x1x8x1x8x1_2_3_4_5
        (broadcastInDim S8x1x8x1 ![0, 2] bcast_S8x8_S8x1x8x1_0_2 eye)))
    (broadcastInDim S2x32x8x16x8x64 ![0, 1, 2, 3, 4, 5] bcast_S2x32x1x16x8x64_S2x32x8x16x8x64_0_1_2_3_4_5
      (broadcastInDim S2x32x1x16x8x64 ![0, 1, 3, 4, 5] bcast_S2x32x16x8x64_S2x32x1x16x8x64_0_1_3_4_5
        (transpose S2x32x16x8x64 [0, 1, 4, 2, 3]
          (shapeCast S2x32x8x64x16 b shapeCasts_S2x256x64x16_S2x32x8x64x16)
          transposes_S2x32x8x64x16_S2x32x16x8x64_0_1_4_2_3)))) shapeCasts_S2x32x8x16x8x64_S2x32x128x512

/-- An entry of the spread weights. -/
theorem spread_at (b : S2x256x64x16.Idx → EReal) (d : Fin 2) (j : Fin 32) (a : Fin 128) (n : Fin 512) :
    spread b (ix4 d j a n) = eye (ix2 ⟨a.val / 16, by omega⟩ ⟨n.val / 64, by omega⟩)
      * b (ix4 d ⟨8 * j.val + n.val / 64, by omega⟩ ⟨n.val % 64, by omega⟩ ⟨a.val % 16, by omega⟩) := by
  pointwise [spread]
  congr 2
  congr 1
  exact Fin.ext (by simp only []; omega)

/-- The weights of one direction, as a plane of its own. -/
def plane (x : S2x32x128x512.Idx → EReal) (d : Fin 2) : S32x128x1x512.Idx → EReal :=
  broadcastInDim S32x128x1x512 ![0, 1, 3] bcast_S32x128x512_S32x128x1x512_0_1_3
    (match d with
    | 0 => shapeCast S32x128x512
      (extractStridedSlice S1x32x128x512 ![0, 0, 0, 0] x slices_S2x32x128x512_S1x32x128x512_0_0_0_0)
      shapeCasts_S1x32x128x512_S32x128x512
    | 1 => shapeCast S32x128x512
      (extractStridedSlice S1x32x128x512 ![1, 0, 0, 0] x slices_S2x32x128x512_S1x32x128x512_1_0_0_0)
      shapeCasts_S1x32x128x512_S32x128x512)

/-- An entry of a plane. -/
theorem plane_at (x : S2x32x128x512.Idx → EReal) (d : Fin 2) (j : Fin 32) (a : Fin 128) (n : Fin 512) :
    plane x d (ix4 j a 0 n) = x (ix4 d j a n) := by
  match d with
  | 0 => pointwise [plane]
  | 1 => pointwise [plane]

/-- The four planes side by side. -/
def planes (x y : S2x32x128x512.Idx → EReal) : S32x128x4x512.Idx → EReal :=
  concatenate S32x128x4x512 2 [⟨S32x128x1x512, plane x 0⟩, ⟨S32x128x1x512, plane y 0⟩, ⟨S32x128x1x512, plane x 1⟩,
    ⟨S32x128x1x512, plane y 1⟩] concatenates_S32x128x1x512_S32x128x1x512_S32x128x1x512_S32x128x1x512_S32x128x4x512_d2

/-- An entry of the planes. -/
theorem planes_at (x y : S2x32x128x512.Idx → EReal) (j : Fin 32) (a : Fin 128) (q : Fin 4) (n : Fin 512) :
    planes x y (ix4 j a q n) = (if q.val % 2 = 0 then x else y) (ix4 ⟨q.val / 2, by omega⟩ j a n) := by
  pointwise [planes]
  fin_cases q
  · exact plane_at x 0 j a n
  · exact plane_at y 0 j a n
  · exact plane_at x 1 j a n
  · exact plane_at y 1 j a n

/-- The planes of one block, side by side in one matrix. -/
theorem planes_cast (x : S32x128x4x512.Idx → EReal) (j : Fin 32) (a : Fin 128) (q : Fin 4) (n : Fin 512) :
    shapeCast S32x128x2048 x shapeCasts_S32x128x4x512_S32x128x2048 (ix3 j a ⟨512 * q.val + n.val, by omega⟩) = x (ix4 j a q n) := by
  pointwise

/-- The host's last two operations, after those that lay out the four planes. -/
theorem last_two (σ : Valuation τ sig (Elt Ideal)) :
    (StableHlo.after (hostOps0.drop 37) σ main_v37 : S32x128x2048.Idx → EReal)
      = shapeCast S32x128x2048 (concatenate S32x128x4x512 2 [⟨S32x128x1x512, (σ main_v32 : S32x128x1x512.Idx → EReal)⟩,
        ⟨S32x128x1x512, (σ main_v33 : S32x128x1x512.Idx → EReal)⟩, ⟨S32x128x1x512, (σ main_v34 : S32x128x1x512.Idx → EReal)⟩,
        ⟨S32x128x1x512, (σ main_v35 : S32x128x1x512.Idx → EReal)⟩]
        concatenates_S32x128x1x512_S32x128x1x512_S32x128x1x512_S32x128x1x512_S32x128x4x512_d2)
        shapeCasts_S32x128x4x512_S32x128x2048 := by
  simp only [hostOps0, List.drop_succ_cons, List.drop_zero]
  entry_read
  rfl

/-- The four planes the operations before lay out. -/
theorem four_planes (σ : Valuation τ sig (Elt Ideal)) :
    (StableHlo.after (hostOps0.take 37) σ main_v32 : S32x128x1x512.Idx → EReal) = plane (spread (σ main_arg1 : S2x256x64x16.Idx → EReal)) 0
    ∧ (StableHlo.after (hostOps0.take 37) σ main_v33 : S32x128x1x512.Idx → EReal) = plane (spread (σ main_arg2 : S2x256x64x16.Idx → EReal)) 0
    ∧ (StableHlo.after (hostOps0.take 37) σ main_v34 : S32x128x1x512.Idx → EReal) = plane (spread (σ main_arg1 : S2x256x64x16.Idx → EReal)) 1
    ∧ (StableHlo.after (hostOps0.take 37) σ main_v35 : S32x128x1x512.Idx → EReal)
      = plane (spread (σ main_arg2 : S2x256x64x16.Idx → EReal)) 1 := by
  simp only [hostOps0, List.take_succ_cons, List.take_zero]
  refine ⟨?_, ?_, ?_, ?_⟩ <;> (entry_read; rfl)

variable (m : (ℓ : Loc nD τ sig) → Buf (Elt Ideal) ℓ) (c : Dev nD)

/-- The weights, as the kernel is launched on them. -/
theorem weights_eq : (V m c main_v37 : S32x128x2048.Idx → EReal)
    = shapeCast S32x128x2048 (planes (spread (m ((c : Thread nD τ).loc main_arg1) : S2x256x64x16.Idx → EReal))
      (spread (m ((c : Thread nD τ).loc main_arg2) : S2x256x64x16.Idx → EReal))) shapeCasts_S32x128x4x512_S32x128x2048 := by
  have e : V m c main_v37 = StableHlo.after (hostOps0.drop 37) (StableHlo.after (hostOps0.take 37) fun b => m (c, b)) main_v37 := by
    rw [← StableHlo.after_append, List.take_append_drop]
  obtain ⟨h0, h1, h2, h3⟩ := four_planes fun b => m (c, b)
  rw [e, last_two, h0, h1, h2, h3]
  rfl

/-- An entry of the weights: zero unless the channel and the state are of one group. -/
theorem weights_at (j : Fin 32) (a : Fin 128) (q : Fin 4) (n : Fin 512) :
    (V m c main_v37 : S32x128x2048.Idx → EReal) (ix3 j a ⟨512 * q.val + n.val, by omega⟩)
      = eye (ix2 ⟨a.val / 16, by omega⟩ ⟨n.val / 64, by omega⟩)
        * (if q.val % 2 = 0 then (m ((c : Thread nD τ).loc main_arg1) : S2x256x64x16.Idx → EReal)
          else (m ((c : Thread nD τ).loc main_arg2) : S2x256x64x16.Idx → EReal))
          (ix4 ⟨q.val / 2, by omega⟩ ⟨8 * j.val + n.val / 64, by omega⟩ ⟨n.val % 64, by omega⟩ ⟨a.val % 16, by omega⟩) := by
  rw [weights_eq, planes_cast, planes_at]
  split <;> exact spread_at _ _ j a n

/-- The channels, as the kernel is launched on them. -/
theorem channels_eq : V m c main_arg0 = m ((c : Thread nD τ).loc main_arg0) := V_main_arg0 m c

/-- An entry of the block a point stores. -/
theorem pay_at (x0 : Vec Ideal S1056x128 .f32) (x1 : Vec Ideal S1x128x2048 .f32) (q : Fin 4) (p : Fin 1056) (n : Fin 512) :
    (out0_2 (F := Ideal) x0 x1 : S4x1056x512.Idx → EReal) (ix3 q p n)
      = ∑ k : Fin 128, (x0 : S1056x128.Idx → EReal) (ix2 p k)
        * (x1 : S1x128x2048.Idx → EReal) (ix3 0 k ⟨512 * q.val + n.val, by omega⟩) := by
  unfold out0_2
  rw [Cert.KernelDriveIdeal.Value.canon2_eq]
  pointwise [Cert.KernelDriveIdeal.Value.E2, k0_pay1]
  refine Finset.sum_congr rfl fun k _ => ?_
  have e : q.val * 512 = 512 * q.val := Nat.mul_comm _ _
  simp only [e]

/-- The block of channels a point reads. -/
theorem index0 : ∀ t : Fin cfg0.N, (cfg0.win 0).index t = ![t.val % 8, t.val / 8] :=
  (by decide +kernel : ∀ t : Fin grid0.N, cc0_transform_0 (grid0.coords t) = ![t.val % 8, t.val / 8])

/-- The block of weights a point reads. -/
theorem index1 : ∀ t : Fin cfg0.N, (cfg0.win 1).index t = ![t.val / 8, 0, 0] :=
  (by decide +kernel : ∀ t : Fin grid0.N, cc0_transform_1 (grid0.coords t) = ![t.val / 8, 0, 0])

/-- The block of states a point writes. -/
theorem index2 : ∀ t : Fin cfg0.N, (cfg0.win 2).index t = ![0, t.val % 8, t.val / 8] :=
  (by decide +kernel : ∀ t : Fin grid0.N, cc0_transform_2 (grid0.coords t) = ![0, t.val % 8, t.val / 8])

/-- The block of groups a point works for. -/
theorem groups_lt (t : Fin cfg0.N) : t.val / 8 < 32 := by
  have hN : cfg0.N = 256 := N_0
  omega

/-- The point that writes a block. -/
theorem point_of (i : Fin 8) (j : Fin 32) : ∃ t : Fin cfg0.N, t.val % 8 = i.val ∧ t.val / 8 = j.val := by
  have hN : cfg0.N = 256 := N_0
  exact ⟨⟨8 * j.val + i.val, by omega⟩, by dsimp only; omega, by dsimp only; omega⟩

/-- An entry of the block of channels. -/
theorem read0 (t : Fin cfg0.N) (p : Fin 1056) (k : Fin 128) : (iblk m c 0 t : S1056x128.Idx → EReal) (ix2 p k)
    = (V m c main_arg0 : S8448x4096.Idx → EReal) (ix2 ⟨1056 * (t.val % 8) + p.val, by omega⟩
      ⟨128 * (t.val / 8) + k.val, by have := groups_lt t; omega⟩) := by
  blk_ext [iblk, index0 t]

/-- An entry of the block of weights. -/
theorem read1 (t : Fin cfg0.N) (k : Fin 128) (n : Fin 2048) : (iblk m c 1 t : S1x128x2048.Idx → EReal) (ix3 0 k n)
    = (V m c main_v37 : S32x128x2048.Idx → EReal) (ix3 ⟨t.val / 8, groups_lt t⟩ k n) := by
  blk_ext [iblk, index1 t]

/-- What the input drives a state with: the sum over the channels of the state's group. Planes `0` and `1` are the
    real and imaginary part of the first direction, planes `2` and `3` those of the second. -/
def drive (u : S8448x4096.Idx → EReal) (re im : S2x256x64x16.Idx → EReal) (q : Fin 4) (t : Fin 8448) (l : Fin 16384) : EReal :=
  ∑ k : Fin 16, u (ix2 t ⟨l.val / 64 * 16 + k.val, by omega⟩)
    * (if q.val % 2 = 0 then re else im) (ix4 ⟨q.val / 2, by omega⟩ ⟨l.val / 64, by omega⟩ ⟨l.val % 64, by omega⟩ k)

/-- The sum over all channels of a block, where the weights of other groups are zero. -/
theorem sum_drive (u : S8448x4096.Idx → EReal) (re im : S2x256x64x16.Idx → EReal) (x : Fin 128 → EReal) (w : Fin 128 → EReal)
    (j : Fin 32) (q : Fin 4) (t : Fin 8448) (n : Fin 512) (hx : ∀ a, x a = u (ix2 t ⟨128 * j.val + a.val, by omega⟩))
    (hw : ∀ a, w a = eye (ix2 ⟨a.val / 16, by omega⟩ ⟨n.val / 64, by omega⟩) * (if q.val % 2 = 0 then re else im)
      (ix4 ⟨q.val / 2, by omega⟩ ⟨8 * j.val + n.val / 64, by omega⟩ ⟨n.val % 64, by omega⟩ ⟨a.val % 16, by omega⟩)) :
    ∑ a : Fin 128, x a * w a = drive u re im q t ⟨512 * j.val + n.val, by omega⟩ := by
  rw [Groups.sum_group (C := 16) rfl _ ⟨n.val / 64, by omega⟩ fun a ha => ?_]
  · refine Finset.sum_congr rfl fun k _ => ?_
    have e0 : (16 * (n.val / 64) + k.val) / 16 = n.val / 64 := by omega
    have e1 : (16 * (n.val / 64) + k.val) % 16 = k.val := by omega
    have e2 : (512 * j.val + n.val) / 64 = 8 * j.val + n.val / 64 := by omega
    have e3 : (512 * j.val + n.val) % 64 = n.val % 64 := by omega
    have e4 : 128 * j.val + (16 * (n.val / 64) + k.val) = (8 * j.val + n.val / 64) * 16 + k.val := by omega
    rw [hx, hw]
    simp only [e0, e1, e2, e3, e4, eye_same, one_mul]
  · rw [hw, eye_other _ _ fun h => ha (congrArg Fin.val h), zero_mul, mul_zero]

/-- All the driven states, as an array. -/
def result : S4x8448x16384.Idx → EReal := fun i =>
  drive (m ((c : Thread nD τ).loc main_arg0)) (m ((c : Thread nD τ).loc main_arg1)) (m ((c : Thread nD τ).loc main_arg2))
    (i 0 : Fin 4) (i 1 : Fin 8448) (i 2 : Fin 16384)

/-- An entry of the block a point stores is what drives the state. -/
theorem out_at (t : Fin cfg0.N) (q : Fin 4) (p : Fin 1056) (n : Fin 512) :
    (out0_2 (F := Ideal) (iblk m c 0 t) (iblk m c 1 t) : S4x1056x512.Idx → EReal) (ix3 q p n)
      = result m c (ix3 q (⟨1056 * (t.val % 8) + p.val, by omega⟩ : Fin 8448)
        (⟨512 * (t.val / 8) + n.val, by have := groups_lt t; omega⟩ : Fin 16384)) := by
  refine (pay_at _ _ q p n).trans ?_
  exact sum_drive _ _ _ _ _ ⟨t.val / 8, groups_lt t⟩ q _ n (fun a => (read0 m c t p a).trans (congrFun (channels_eq m c) _))
    fun a => (read1 m c t a _).trans (weights_at m c _ a q n)

/-- The kernel's output array after the run. -/
theorem kernel_array : (dats m 0 c).arrAt 2 cfg0.N = result m c := by
  refine (dats m 0 c).arrAt_eq_of_covers 2 _ ((cfg0.win 2).covers_of_index_surj rfl (by decide) fun β => ?_) fun t hf y => ?_
  · obtain ⟨t, h0, h1⟩ := point_of (β 1) (β 2)
    refine ⟨t, fun a => ?_⟩
    rw [index2]
    match a with
    | 0 => exact (Nat.lt_one_iff.mp (β 0).isLt).symm
    | 1 => exact h0
    | 2 => exact h1
  · blk_simp
    rw [after0_2]
    obtain ⟨q, p, n, rfl⟩ : ∃ (q : Fin 4) (p : Fin 1056) (n : Fin 512), y = ix3 q p n := ⟨y 0, y 1, y 2, by idx_ext⟩
    have hj := groups_lt t
    have he : (win0_2.blk t).view.emb (ix3 q p n) = ix3 q (⟨1056 * (t.val % 8) + p.val, by omega⟩ : Fin 8448)
        (⟨512 * (t.val / 8) + n.val, by omega⟩ : Fin 16384) := by
      blk_ext [index2 t]
    rw [he]
    exact out_at m c t q p n

/-- The kernel and the plain products end with the same array. -/
theorem algebraic : Cert.algebraic_KernelDriveIdeal_ReferenceDriveIdeal := by
  intro m ρ m' ρ' _ hagree
  refine ⟨fun c => (dats m 0 c).arrAt 2 cfg0.N, Value.run_blocks m ρ, ?_⟩
  refine (θ_run _ _ _).mono (fun _ h c => ⟨(h c).1.trans ?_, (h c).2⟩) (Cert.ReferenceDriveIdeal.Value.run m' ρ')
  rw [(hagree c).1, (hagree c).2.1, (hagree c).2.2]
  refine Eq.trans ?_ (kernel_array m c).symm
  funext i
  obtain ⟨q, t, l, rfl⟩ : ∃ (q : Fin 4) (t : Fin 8448) (l : Fin 16384), i = ix3 q t l := ⟨i 0, i 1, i 2, eq_ix3 i⟩
  unfold result
  pointwise
  fin_cases q <;> rfl

end StatesDrive

end
-- ==== Proof.StatesRead.lean ====
/- The S5's last products: the kernel's output is the activation of the plain products of every group of states. -/
module

public import proofs.«01_k».proof.Defs
public import proofs.«01_k».proof.Proof.Gen.KernelReadIdeal.Value
public import proofs.«01_k».proof.Proof.Gen.ReferenceReadIdeal.Run
public import proofs.«01_k».proof.Proof.Groups

@[expose] public section

set_option maxRecDepth 16384

noncomputable section

namespace StatesRead

open Idealize.ShloMosaic Idealize.ShloMosaic.TcCoe Idealize.SL.Sem Cert.KernelReadIdeal Cert.KernelReadIdeal.Gen
open scoped BigOperators

/-- The matrix that says which two of eight groups are one. -/
def eye : S8x8.Idx → EReal :=
  uitofp (F := Ideal) .f32 (cmpi .eq (addi (iotaInDim S8x8 32 0) (broadcastInDim S8x8 ![] bcast_S_S8x8 (constantI S_ 32 0#32)))
    (iotaInDim S8x8 32 1))

/-- It is one on the diagonal. -/
theorem eye_same (g : Fin 8) : eye (ix2 g g) = 1 := by
  have e : IntOp.cmpi .eq (IntOp.addi (BitVec.ofNat 32 g.val) 0#32) (BitVec.ofNat 32 g.val) = 1#1 := by
    revert g
    decide
  pointwise [eye]
  rw [e]
  show (((1#1).toNat : ℝ) : EReal) = 1
  simp

/-- It is zero elsewhere. -/
theorem eye_other (g h : Fin 8) (hgh : g ≠ h) : eye (ix2 g h) = 0 := by
  have e : IntOp.cmpi .eq (IntOp.addi (BitVec.ofNat 32 g.val) 0#32) (BitVec.ofNat 32 h.val) = 0#1 := by
    revert g h
    decide
  pointwise [eye]
  rw [e]
  show (((0#1).toNat : ℝ) : EReal) = 0
  simp

/-- A part of the weights, every group of it set on the diagonal of its block. -/
def spread (b : S2x256x16x64.Idx → EReal) : S2x32x512x128.Idx → EReal :=
  shapeCast S2x32x512x128 (mulf (F := Ideal) (φ := .f32)
    (broadcastInDim S2x32x8x64x8x16 ![0, 1, 2, 3, 4, 5] bcast_S1x1x8x1x8x1_S2x32x8x64x8x16_0_1_2_3_4_5
      (broadcastInDim S1x1x8x1x8x1 ![2, 3, 4, 5] bcast_S8x1x8x1_S1x1x8x1x8x1_2_3_4_5
        (broadcastInDim S8x1x8x1 ![0, 2] bcast_S8x8_S8x1x8x1_0_2 eye)))
    (broadcastInDim S2x32x8x64x8x16 ![0, 1, 2, 3, 4, 5] bcast_S2x32x8x64x1x16_S2x32x8x64x8x16_0_1_2_3_4_5
      (broadcastInDim S2x32x8x64x1x16 ![0, 1, 2, 3, 5] bcast_S2x32x8x64x16_S2x32x8x64x1x16_0_1_2_3_5
        (transpose S2x32x8x64x16 [0, 1, 2, 4, 3]
          (shapeCast S2x32x8x16x64 b shapeCasts_S2x256x16x64_S2x32x8x16x64)
          transposes_S2x32x8x16x64_S2x32x8x64x16_0_1_2_4_3)))) shapeCasts_S2x32x8x64x8x16_S2x32x512x128

/-- An entry of the spread weights. -/
theorem spread_at (b : S2x256x16x64.Idx → EReal) (d : Fin 2) (j : Fin 32) (a : Fin 512) (n : Fin 128) :
    spread b (ix4 d j a n) = eye (ix2 ⟨a.val / 64, by omega⟩ ⟨n.val / 16, by omega⟩)
      * b (ix4 d ⟨8 * j.val + a.val / 64, by omega⟩ ⟨n.val % 16, by omega⟩ ⟨a.val % 64, by omega⟩) := by
  pointwise [spread]
  congr 2
  congr 1
  exact Fin.ext (by simp only []; omega)

/-- The weights of one direction, as a plane of its own. -/
def plane (x : S2x32x512x128.Idx → EReal) (d : Fin 2) : S32x1x512x128.Idx → EReal :=
  broadcastInDim S32x1x512x128 ![0, 2, 3] bcast_S32x512x128_S32x1x512x128_0_2_3
    (match d with
    | 0 => shapeCast S32x512x128
      (extractStridedSlice S1x32x512x128 ![0, 0, 0, 0] x slices_S2x32x512x128_S1x32x512x128_0_0_0_0)
      shapeCasts_S1x32x512x128_S32x512x128
    | 1 => shapeCast S32x512x128
      (extractStridedSlice S1x32x512x128 ![1, 0, 0, 0] x slices_S2x32x512x128_S1x32x512x128_1_0_0_0)
      shapeCasts_S1x32x512x128_S32x512x128)

/-- An entry of a plane. -/
theorem plane_at (x : S2x32x512x128.Idx → EReal) (d : Fin 2) (j : Fin 32) (a : Fin 512) (n : Fin 128) :
    plane x d (ix4 j 0 a n) = x (ix4 d j a n) := by
  match d with
  | 0 => pointwise [plane]
  | 1 => pointwise [plane]

/-- The four planes, one after the other. -/
def planes (x y : S2x32x512x128.Idx → EReal) : S32x4x512x128.Idx → EReal :=
  concatenate S32x4x512x128 1 [⟨S32x1x512x128, plane x 0⟩, ⟨S32x1x512x128, plane y 0⟩, ⟨S32x1x512x128, plane x 1⟩,
    ⟨S32x1x512x128, plane y 1⟩] concatenates_S32x1x512x128_S32x1x512x128_S32x1x512x128_S32x1x512x128_S32x4x512x128_d1

/-- An entry of the planes. -/
theorem planes_at (x y : S2x32x512x128.Idx → EReal) (j : Fin 32) (a : Fin 512) (q : Fin 4) (n : Fin 128) :
    planes x y (ix4 j q a n) = (if q.val % 2 = 0 then x else y) (ix4 ⟨q.val / 2, by omega⟩ j a n) := by
  pointwise [planes]
  fin_cases q
  · exact plane_at x 0 j a n
  · exact plane_at y 0 j a n
  · exact plane_at x 1 j a n
  · exact plane_at y 1 j a n

/-- The host's last two operations, after those that lay out the four planes. -/
theorem last_two (σ : Valuation τ sig (Elt Ideal)) :
    (StableHlo.after (hostOps0.drop 38) σ main_v37 : S32x4x512x128.Idx → EReal)
      = concatenate S32x4x512x128 1 [⟨S32x1x512x128, (σ main_v33 : S32x1x512x128.Idx → EReal)⟩,
        ⟨S32x1x512x128, (σ main_v34 : S32x1x512x128.Idx → EReal)⟩, ⟨S32x1x512x128, (σ main_v35 : S32x1x512x128.Idx → EReal)⟩,
        ⟨S32x1x512x128, (σ main_v36 : S32x1x512x128.Idx → EReal)⟩]
        concatenates_S32x1x512x128_S32x1x512x128_S32x1x512x128_S32x1x512x128_S32x4x512x128_d1 := by
  simp only [hostOps0, List.drop_succ_cons, List.drop_zero]
  entry_read
  rfl

/-- The four planes the operations before lay out. -/
theorem four_planes (σ : Valuation τ sig (Elt Ideal)) :
    (StableHlo.after (hostOps0.take 38) σ main_v33 : S32x1x512x128.Idx → EReal) = plane (spread (σ main_arg3 : S2x256x16x64.Idx → EReal)) 0
    ∧ (StableHlo.after (hostOps0.take 38) σ main_v34 : S32x1x512x128.Idx → EReal)
      = plane (spread (Host.negf (F := Ideal) (φ := .f32) (σ main_arg4 : S2x256x16x64.Idx → EReal))) 0
    ∧ (StableHlo.after (hostOps0.take 38) σ main_v35 : S32x1x512x128.Idx → EReal) = plane (spread (σ main_arg3 : S2x256x16x64.Idx → EReal)) 1
    ∧ (StableHlo.after (hostOps0.take 38) σ main_v36 : S32x1x512x128.Idx → EReal)
      = plane (spread (Host.negf (F := Ideal) (φ := .f32) (σ main_arg4 : S2x256x16x64.Idx → EReal))) 1 := by
  simp only [hostOps0, List.take_succ_cons, List.take_zero]
  refine ⟨?_, ?_, ?_, ?_⟩ <;> (entry_read; rfl)

/-- The last operation lays the skip weights out as a row. -/
theorem skip_row (σ : Valuation τ sig (Elt Ideal)) : (StableHlo.after (hostOps0.drop 38) σ main_v38 : S1x4096.Idx → EReal)
    = shapeCast S1x4096 (σ main_arg5 : S4096.Idx → EReal) shapeCasts_S4096_S1x4096 := by
  simp only [hostOps0, List.drop_succ_cons, List.drop_zero]
  entry_read
  rfl

/-- The operations before leave the skip weights as they are. -/
theorem skip_kept (σ : Valuation τ sig (Elt Ideal)) : (StableHlo.after (hostOps0.take 38) σ main_arg5 : S4096.Idx → EReal) = σ main_arg5 := by
  simp only [hostOps0, List.take_succ_cons, List.take_zero]
  entry_read
  rfl

variable (m : (ℓ : Loc nD τ sig) → Buf (Elt Ideal) ℓ) (c : Dev nD)

/-- The imaginary parts, negated. -/
def negated : S2x256x16x64.Idx → EReal :=
  Host.negf (F := Ideal) (φ := .f32) (m ((c : Thread nD τ).loc main_arg4) : S2x256x16x64.Idx → EReal)

/-- The weights, as the kernel is launched on them. -/
theorem weights_eq : (V m c main_v37 : S32x4x512x128.Idx → EReal)
    = planes (spread (m ((c : Thread nD τ).loc main_arg3) : S2x256x16x64.Idx → EReal)) (spread (negated m c)) := by
  have e : V m c main_v37 = StableHlo.after (hostOps0.drop 38) (StableHlo.after (hostOps0.take 38) fun b => m (c, b)) main_v37 := by
    rw [← StableHlo.after_append, List.take_append_drop]
  obtain ⟨h0, h1, h2, h3⟩ := four_planes fun b => m (c, b)
  rw [e, last_two, h0, h1, h2, h3]
  rfl

/-- An entry of the real weights: zero unless the state and the channel are of one group. -/
theorem weights_re (j : Fin 32) (d : Fin 2) (a : Fin 512) (n : Fin 128) :
    (V m c main_v37 : S32x4x512x128.Idx → EReal) (ix4 j ⟨2 * d.val, by omega⟩ a n)
      = eye (ix2 ⟨a.val / 64, by omega⟩ ⟨n.val / 16, by omega⟩)
        * (m ((c : Thread nD τ).loc main_arg3) : S2x256x16x64.Idx → EReal)
          (ix4 d ⟨8 * j.val + a.val / 64, by omega⟩ ⟨n.val % 16, by omega⟩ ⟨a.val % 64, by omega⟩) := by
  have e : 2 * d.val / 2 = d.val := by omega
  rw [weights_eq, planes_at, if_pos (by simp only []; omega)]
  simp only [e]
  exact spread_at _ d j a n

/-- An entry of the imaginary weights, negated. -/
theorem weights_im (j : Fin 32) (d : Fin 2) (a : Fin 512) (n : Fin 128) :
    (V m c main_v37 : S32x4x512x128.Idx → EReal) (ix4 j ⟨2 * d.val + 1, by omega⟩ a n)
      = eye (ix2 ⟨a.val / 64, by omega⟩ ⟨n.val / 16, by omega⟩)
        * negated m c (ix4 d ⟨8 * j.val + a.val / 64, by omega⟩ ⟨n.val % 16, by omega⟩ ⟨a.val % 64, by omega⟩) := by
  have e : (2 * d.val + 1) / 2 = d.val := by omega
  rw [weights_eq, planes_at, if_neg (by simp only []; omega)]
  simp only [e]
  exact spread_at _ d j a n

/-- The row of skip weights, as the kernel is launched on it. -/
theorem skip_at (n : Fin 4096) : (V m c main_v38 : S1x4096.Idx → EReal) (ix2 0 n)
    = (m ((c : Thread nD τ).loc main_arg5) : S4096.Idx → EReal) (ix1 n) := by
  have e : V m c main_v38 = StableHlo.after (hostOps0.drop 38) (StableHlo.after (hostOps0.take 38) fun b => m (c, b)) main_v38 := by
    rw [← StableHlo.after_append, List.take_append_drop]
  rw [e, skip_row, skip_kept]
  pointwise

/-- The channels, as the kernel is launched on them. -/
theorem channels_eq : V m c main_arg2 = m ((c : Thread nD τ).loc main_arg2) := V_main_arg2 m c

/-- The real parts of the states, as the kernel is launched on them. -/
theorem re_eq : V m c main_arg0 = m ((c : Thread nD τ).loc main_arg0) := V_main_arg0 m c

/-- The imaginary parts of the states, as the kernel is launched on them. -/
theorem im_eq : V m c main_arg1 = m ((c : Thread nD τ).loc main_arg1) := V_main_arg1 m c

/-- The activation (GELU, by its approximation with a hyperbolic tangent). -/
def act (a : EReal) : EReal :=
  a * (Ideal.ofBits .f32 0x3F000000#32 * (1 + Ideal.tanh (Ideal.ofBits .f32 0x3F4C422A#32
    * (a + Ideal.ofBits .f32 0x3D372713#32 * (a * a * a)))))

/-- The activation, with its cube multiplied in the other order. -/
theorem act_eq (a : EReal) : a * (Ideal.ofBits .f32 0x3F000000#32 * (1 + Ideal.tanh (Ideal.ofBits .f32 0x3F4C422A#32
    * (a + Ideal.ofBits .f32 0x3D372713#32 * (a * (a * a)))))) = act a := by
  unfold act
  rw [mul_assoc a a a]

/-- One of the four products of a block. -/
def row (x : S2x1056x512.Idx → EReal) (w : S1x4x512x128.Idx → EReal) (d : Fin 2) (q : Fin 4) (p : Fin 1056) (n : Fin 128) : EReal :=
  ∑ k : Fin 512, x (ix3 d p k) * w (ix4 0 q k n)

/-- An entry of the block a point stores. -/
theorem pay_at (x0 x1 : Vec Ideal S2x1056x512 .f32) (x2 : Vec Ideal S1056x128 .f32) (x3 : Vec Ideal S1x4x512x128 .f32)
    (x4 : Vec Ideal S1x128 .f32) (p : Fin 1056) (n : Fin 128) :
    (out0_5 (F := Ideal) x0 x1 x2 x3 x4 : S1056x128.Idx → EReal) (ix2 p n)
      = act (row x0 x3 0 0 p n + row x1 x3 0 1 p n + row x0 x3 1 2 p n + row x1 x3 1 3 p n
        + (x4 : S1x128.Idx → EReal) (ix2 0 n) * (x2 : S1056x128.Idx → EReal) (ix2 p n)) := by
  unfold out0_5
  frame_out
  pointwise [k0_pay1, k0_pay2, k0_pay3]
  exact act_eq _

/-- The block of states a point reads, real parts. -/
theorem index0 : ∀ t : Fin cfg0.N, (cfg0.win 0).index t = ![0, t.val % 8, t.val / 8] :=
  (by decide +kernel : ∀ t : Fin grid0.N, cc0_transform_0 (grid0.coords t) = ![0, t.val % 8, t.val / 8])

/-- The block of states a point reads, imaginary parts. -/
theorem index1 : ∀ t : Fin cfg0.N, (cfg0.win 1).index t = ![0, t.val % 8, t.val / 8] :=
  (by decide +kernel : ∀ t : Fin grid0.N, cc0_transform_1 (grid0.coords t) = ![0, t.val % 8, t.val / 8])

/-- The block of channels a point reads. -/
theorem index2 : ∀ t : Fin cfg0.N, (cfg0.win 2).index t = ![t.val % 8, t.val / 8] :=
  (by decide +kernel : ∀ t : Fin grid0.N, cc0_transform_2 (grid0.coords t) = ![t.val % 8, t.val / 8])

/-- The block of weights a point reads. -/
theorem index3 : ∀ t : Fin cfg0.N, (cfg0.win 3).index t = ![t.val / 8, 0, 0, 0] :=
  (by decide +kernel : ∀ t : Fin grid0.N, cc0_transform_3 (grid0.coords t) = ![t.val / 8, 0, 0, 0])

/-- The block of skip weights a point reads. -/
theorem index4 : ∀ t : Fin cfg0.N, (cfg0.win 4).index t = ![0, t.val / 8] :=
  (by decide +kernel : ∀ t : Fin grid0.N, cc0_transform_4 (grid0.coords t) = ![0, t.val / 8])

/-- The block of results a point writes. -/
theorem index5 : ∀ t : Fin cfg0.N, (cfg0.win 5).index t = ![t.val % 8, t.val / 8] :=
  (by decide +kernel : ∀ t : Fin grid0.N, cc0_transform_5 (grid0.coords t) = ![t.val % 8, t.val / 8])

/-- The block of groups a point works for. -/
theorem groups_lt (t : Fin cfg0.N) : t.val / 8 < 32 := by
  have hN : cfg0.N = 256 := N_0
  omega

/-- The point that writes a block. -/
theorem point_of (i : Fin 8) (j : Fin 32) : ∃ t : Fin cfg0.N, t.val % 8 = i.val ∧ t.val / 8 = j.val := by
  have hN : cfg0.N = 256 := N_0
  exact ⟨⟨8 * j.val + i.val, by omega⟩, by dsimp only; omega, by dsimp only; omega⟩

/-- An entry of the block of real parts. -/
theorem read0 (t : Fin cfg0.N) (d : Fin 2) (p : Fin 1056) (k : Fin 512) : (iblk m c 0 t : S2x1056x512.Idx → EReal) (ix3 d p k)
    = (V m c main_arg0 : S2x8448x16384.Idx → EReal) (ix3 d ⟨1056 * (t.val % 8) + p.val, by omega⟩
      ⟨512 * (t.val / 8) + k.val, by have := groups_lt t; omega⟩) := by
  blk_ext [iblk, index0 t]

/-- An entry of the block of imaginary parts. -/
theorem read1 (t : Fin cfg0.N) (d : Fin 2) (p : Fin 1056) (k : Fin 512) : (iblk m c 1 t : S2x1056x512.Idx → EReal) (ix3 d p k)
    = (V m c main_arg1 : S2x8448x16384.Idx → EReal) (ix3 d ⟨1056 * (t.val % 8) + p.val, by omega⟩
      ⟨512 * (t.val / 8) + k.val, by have := groups_lt t; omega⟩) := by
  blk_ext [iblk, index1 t]

/-- An entry of the block of channels. -/
theorem read2 (t : Fin cfg0.N) (p : Fin 1056) (n : Fin 128) : (iblk m c 2 t : S1056x128.Idx → EReal) (ix2 p n)
    = (V m c main_arg2 : S8448x4096.Idx → EReal) (ix2 ⟨1056 * (t.val % 8) + p.val, by omega⟩
      ⟨128 * (t.val / 8) + n.val, by have := groups_lt t; omega⟩) := by
  blk_ext [iblk, index2 t]

/-- An entry of the block of weights. -/
theorem read3 (t : Fin cfg0.N) (q : Fin 4) (k : Fin 512) (n : Fin 128) : (iblk m c 3 t : S1x4x512x128.Idx → EReal) (ix4 0 q k n)
    = (V m c main_v37 : S32x4x512x128.Idx → EReal) (ix4 ⟨t.val / 8, groups_lt t⟩ q k n) := by
  blk_ext [iblk, index3 t]

/-- An entry of the block of skip weights. -/
theorem read4 (t : Fin cfg0.N) (n : Fin 128) : (iblk m c 4 t : S1x128.Idx → EReal) (ix2 0 n)
    = (V m c main_v38 : S1x4096.Idx → EReal) (ix2 0 ⟨128 * (t.val / 8) + n.val, by have := groups_lt t; omega⟩) := by
  blk_ext [iblk, index4 t]

/-- What the states of a channel's group are read out to, in one of the directions and one of the parts: the sum over
    the group's states. -/
def part (x : S2x8448x16384.Idx → EReal) (b : S2x256x16x64.Idx → EReal) (d : Fin 2) (t : Fin 8448) (l : Fin 4096) : EReal :=
  ∑ k : Fin 64, x (ix3 d t ⟨l.val / 16 * 64 + k.val, by omega⟩) * b (ix4 d ⟨l.val / 16, by omega⟩ ⟨l.val % 16, by omega⟩ k)

/-- The sum over all states of a block, where the weights of other groups are zero. -/
theorem sum_part (x : S2x8448x16384.Idx → EReal) (b : S2x256x16x64.Idx → EReal) (x0 : S2x1056x512.Idx → EReal)
    (w : S1x4x512x128.Idx → EReal) (j : Fin 32) (d : Fin 2) (q : Fin 4) (p : Fin 1056) (t : Fin 8448) (n : Fin 128)
    (hx : ∀ a : Fin 512, x0 (ix3 d p a) = x (ix3 d t ⟨512 * j.val + a.val, by omega⟩))
    (hw : ∀ a : Fin 512, w (ix4 0 q a n) = eye (ix2 ⟨a.val / 64, by omega⟩ ⟨n.val / 16, by omega⟩)
      * b (ix4 d ⟨8 * j.val + a.val / 64, by omega⟩ ⟨n.val % 16, by omega⟩ ⟨a.val % 64, by omega⟩)) :
    row x0 w d q p n = part x b d t ⟨128 * j.val + n.val, by omega⟩ := by
  unfold row
  rw [Groups.sum_group (C := 64) rfl _ ⟨n.val / 16, by omega⟩ fun a ha => ?_]
  · refine Finset.sum_congr rfl fun k _ => ?_
    have e0 : (64 * (n.val / 16) + k.val) / 64 = n.val / 16 := by omega
    have e1 : (64 * (n.val / 16) + k.val) % 64 = k.val := by omega
    have e2 : (128 * j.val + n.val) / 16 = 8 * j.val + n.val / 16 := by omega
    have e3 : (128 * j.val + n.val) % 16 = n.val % 16 := by omega
    have e4 : 512 * j.val + (64 * (n.val / 16) + k.val) = (8 * j.val + n.val / 16) * 64 + k.val := by omega
    rw [hx, hw]
    simp only [e0, e1, e2, e3, e4, eye_same, one_mul]
  · rw [hw, eye_other _ _ fun h => ha (congrArg Fin.val h), zero_mul, mul_zero]

/-- A channel's result: the states of its group read out in both directions, and the channel itself passed by. -/
def readout (re im : S2x8448x16384.Idx → EReal) (u : S8448x4096.Idx → EReal) (cre cim : S2x256x16x64.Idx → EReal)
    (d : S4096.Idx → EReal) (t : Fin 8448) (l : Fin 4096) : EReal :=
  act (part re cre 0 t l + part im cim 0 t l + (part re cre 1 t l + part im cim 1 t l) + d (ix1 l) * u (ix2 t l))

/-- The whole result, as an array. -/
def result : S8448x4096.Idx → EReal := fun i =>
  readout (m ((c : Thread nD τ).loc main_arg0)) (m ((c : Thread nD τ).loc main_arg1)) (m ((c : Thread nD τ).loc main_arg2))
    (m ((c : Thread nD τ).loc main_arg3)) (negated m c) (m ((c : Thread nD τ).loc main_arg5)) (i 0 : Fin 8448) (i 1 : Fin 4096)

/-- A real product of a block. -/
theorem row_re (t : Fin cfg0.N) (d : Fin 2) (p : Fin 1056) (n : Fin 128) :
    row (iblk m c 0 t) (iblk m c 3 t) d ⟨2 * d.val, by omega⟩ p n
      = part (m ((c : Thread nD τ).loc main_arg0)) (m ((c : Thread nD τ).loc main_arg3)) d ⟨1056 * (t.val % 8) + p.val, by omega⟩
        ⟨128 * (t.val / 8) + n.val, by have := groups_lt t; omega⟩ :=
  sum_part _ _ _ _ ⟨t.val / 8, groups_lt t⟩ d _ p _ n (fun a => (read0 m c t d p a).trans (congrFun (re_eq m c) _))
    fun a => (read3 m c t _ a n).trans (weights_re m c _ d a n)

/-- An imaginary product of a block. -/
theorem row_im (t : Fin cfg0.N) (d : Fin 2) (p : Fin 1056) (n : Fin 128) :
    row (iblk m c 1 t) (iblk m c 3 t) d ⟨2 * d.val + 1, by omega⟩ p n
      = part (m ((c : Thread nD τ).loc main_arg1)) (negated m c) d ⟨1056 * (t.val % 8) + p.val, by omega⟩
        ⟨128 * (t.val / 8) + n.val, by have := groups_lt t; omega⟩ :=
  sum_part _ _ _ _ ⟨t.val / 8, groups_lt t⟩ d _ p _ n (fun a => (read1 m c t d p a).trans (congrFun (im_eq m c) _))
    fun a => (read3 m c t _ a n).trans (weights_im m c _ d a n)

/-- The channel passed by, with its skip weight. -/
theorem skip (t : Fin cfg0.N) (p : Fin 1056) (n : Fin 128) (x4 : S1x128.Idx → EReal) (x2 : S1056x128.Idx → EReal)
    (d : S4096.Idx → EReal) (u : S8448x4096.Idx → EReal) (h4 : x4 = iblk m c 4 t) (h2 : x2 = iblk m c 2 t)
    (hd : d = m ((c : Thread nD τ).loc main_arg5)) (hu : u = m ((c : Thread nD τ).loc main_arg2)) :
    x4 (ix2 0 n) * x2 (ix2 p n)
      = d (ix1 ⟨128 * (t.val / 8) + n.val, by have := groups_lt t; omega⟩)
        * u (ix2 ⟨1056 * (t.val % 8) + p.val, by omega⟩ ⟨128 * (t.val / 8) + n.val, by have := groups_lt t; omega⟩) := by
  subst h4 h2 hd hu
  exact congrArg₂ (fun a b : EReal => a * b) ((read4 m c t n).trans (skip_at m c _))
    ((read2 m c t p n).trans (congrFun (channels_eq m c) _))

/-- An entry of the block a point stores is an entry of the result. -/
theorem out_at (t : Fin cfg0.N) (p : Fin 1056) (n : Fin 128) :
    (out0_5 (F := Ideal) (iblk m c 0 t) (iblk m c 1 t) (iblk m c 2 t) (iblk m c 3 t) (iblk m c 4 t) : S1056x128.Idx → EReal) (ix2 p n)
      = result m c (ix2 (⟨1056 * (t.val % 8) + p.val, by omega⟩ : Fin 8448)
        (⟨128 * (t.val / 8) + n.val, by have := groups_lt t; omega⟩ : Fin 4096)) := by
  refine (pay_at _ _ _ _ _ p n).trans (congrArg act ?_)
  refine (congrArg₂ (fun a b : EReal => a + b) ((congrArg₂ (fun a b : EReal => a + b) (congrArg₂ (fun a b : EReal => a + b)
    (congrArg₂ (fun a b : EReal => a + b) (row_re m c t 0 p n) (row_im m c t 0 p n)) (row_re m c t 1 p n)) (row_im m c t 1 p n)).trans
    (add_assoc _ _ _)) (skip m c t p n _ _ _ _ rfl rfl rfl rfl)).trans ?_
  rfl

/-- The kernel's output array after the run. -/
theorem kernel_array : (dats m 0 c).arrAt 5 cfg0.N = result m c := by
  refine (dats m 0 c).arrAt_eq_of_covers 5 _ ((cfg0.win 5).covers_of_index_surj rfl (by decide) fun β => ?_) fun t hf y => ?_
  · obtain ⟨t, h0, h1⟩ := point_of (β 0) (β 1)
    refine ⟨t, fun a => ?_⟩
    rw [index5]
    match a with
    | 0 => exact h0
    | 1 => exact h1
  · blk_simp
    rw [after0_5]
    obtain ⟨p, n, rfl⟩ : ∃ (p : Fin 1056) (n : Fin 128), y = ix2 p n := ⟨y 0, y 1, by idx_ext⟩
    have hj := groups_lt t
    have he : (win0_5.blk t).view.emb (ix2 p n) = ix2 (⟨1056 * (t.val % 8) + p.val, by omega⟩ : Fin 8448)
        (⟨128 * (t.val / 8) + n.val, by omega⟩ : Fin 4096) := by
      blk_ext [index5 t]
    rw [he]
    exact out_at m c t p n

/-- The kernel and the plain products end with the same array. -/
theorem algebraic : Cert.algebraic_KernelReadIdeal_ReferenceReadIdeal := by
  intro m ρ m' ρ' _ hagree
  refine ⟨fun c => (dats m 0 c).arrAt 5 cfg0.N, Value.run_blocks m ρ, ?_⟩
  refine (θ_run _ _ _).mono (fun _ h c => ⟨(h c).1.trans ?_, (h c).2⟩) (Cert.ReferenceReadIdeal.Value.run m' ρ')
  unfold Cert.ReferenceReadIdeal.Value.res_main_v30
  rw [(hagree c).1, (hagree c).2.1, (hagree c).2.2.1, (hagree c).2.2.2.1, (hagree c).2.2.2.2.1, (hagree c).2.2.2.2.2]
  refine Eq.trans ?_ (kernel_array m c).symm
  funext i
  obtain ⟨t, l, rfl⟩ : ∃ (t : Fin 8448) (l : Fin 4096), i = ix2 t l := ⟨i 0, i 1, eq_ix2 i⟩
  unfold result
  pointwise
  rfl

end StatesRead

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIn.Frame
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.KernelGates.Frame
public import proofs.«01_k».proof.Proof.Gen.KernelGatesIdeal.Frame
public import proofs.«01_k».proof.Proof.Gen.KernelGatesIdeal.Value
public import proofs.«01_k».proof.Proof.Gen.ReferenceGatesIdeal.Run
public import proofs.«01_k».proof.Proof.Gen.KernelOut.Frame
public import proofs.«01_k».proof.Proof.Gen.KernelOutIdeal.Frame
public import proofs.«01_k».proof.Proof.Gen.KernelOutIdeal.Value
public import proofs.«01_k».proof.Proof.Gen.ReferenceOutIdeal.Run
public import proofs.«01_k».proof.Proof.Gen.KernelGlu.Frame
public import proofs.«01_k».proof.Proof.Gen.KernelGluIdeal.Frame
public import proofs.«01_k».proof.Proof.Gen.KernelGluIdeal.Value
public import proofs.«01_k».proof.Proof.Gen.ReferenceGluIdeal.Run
public import proofs.«01_k».proof.Proof.Gen.KernelUp.Frame
public import proofs.«01_k».proof.Proof.Gen.KernelUpIdeal.Frame
public import proofs.«01_k».proof.Proof.Gen.KernelUpIdeal.Value
public import proofs.«01_k».proof.Proof.Gen.ReferenceUpIdeal.Run
public import proofs.«01_k».proof.Proof.Gen.KernelRoute.Frame
public import proofs.«01_k».proof.Proof.Gen.KernelRouteIdeal.Frame
public import proofs.«01_k».proof.Proof.Gen.KernelRouteIdeal.Value
public import proofs.«01_k».proof.Proof.Gen.ReferenceRouteIdeal.Run
public import proofs.«01_k».proof.Proof.Gen.KernelDown.Frame
public import proofs.«01_k».proof.Proof.Gen.KernelDownIdeal.Frame
public import proofs.«01_k».proof.Proof.Gen.KernelDownIdeal.Value
public import proofs.«01_k».proof.Proof.Gen.ReferenceDownIdeal.Run
public import proofs.«01_k».proof.Proof.Gen.KernelDrive.Frame
public import proofs.«01_k».proof.Proof.Gen.KernelDriveIdeal.Frame
public import proofs.«01_k».proof.Proof.Gen.KernelDriveIdeal.Value
public import proofs.«01_k».proof.Proof.Gen.ReferenceDriveIdeal.Run
public import proofs.«01_k».proof.Proof.Gen.KernelRead.Frame
public import proofs.«01_k».proof.Proof.Gen.KernelReadIdeal.Frame
public import proofs.«01_k».proof.Proof.Gen.KernelReadIdeal.Value
public import proofs.«01_k».proof.Proof.Gen.ReferenceReadIdeal.Run
public import proofs.«01_k».proof.Proof.Finite
public import proofs.«01_k».proof.Proof.ProductIn
public import proofs.«01_k».proof.Proof.ProductGates
public import proofs.«01_k».proof.Proof.ProductOut
public import proofs.«01_k».proof.Proof.ProductGlu
public import proofs.«01_k».proof.Proof.ProductUp
public import proofs.«01_k».proof.Proof.ProductRoute
public import proofs.«01_k».proof.Proof.ProductDown
public import proofs.«01_k».proof.Proof.StatesDrive
public import proofs.«01_k».proof.Proof.StatesRead
public import Idealize.ShloMosaic.Lib.Quiescent

@[expose] public section

noncomputable section

namespace Cert.Proof

open Idealize.ShloMosaic Idealize.SL.Sem

/-- The reference keeps its arguments, and has no semaphores. -/
theorem reference_frame : Cert.quiescent_ReferenceIdeal := fun m ρ _ =>
  (θ_run Cert.ReferenceIdeal.defs _ _).mono (fun r h => ⟨fun c => (h c).2,
      Idealize.ShloMosaic.sem_eq_zero_of_no_sems (by decide) r.2⟩)
    (RefRun.run m ρ)

/-- So does that of the input projection. -/
theorem frame_In : Cert.quiescent_ReferenceInIdeal := fun m ρ _ =>
  (θ_run Cert.ReferenceInIdeal.defs _ _).mono (fun r h => ⟨fun c => (h c).2,
      Idealize.ShloMosaic.sem_eq_zero_of_no_sems (by decide) r.2⟩)
    (Cert.ReferenceInIdeal.Value.run m ρ)

/-- So does that of the gates' columns. -/
theorem frame_Gates : Cert.quiescent_ReferenceGatesIdeal := fun m ρ _ =>
  (θ_run Cert.ReferenceGatesIdeal.defs _ _).mono (fun r h => ⟨fun c => (h c).2,
      Idealize.ShloMosaic.sem_eq_zero_of_no_sems (by decide) r.2⟩)
    (Cert.ReferenceGatesIdeal.Value.run m ρ)

/-- So does that of the output projection. -/
theorem frame_Out : Cert.quiescent_ReferenceOutIdeal := fun m ρ _ =>
  (θ_run Cert.ReferenceOutIdeal.defs _ _).mono (fun r h => ⟨fun c => (h c).2,
      Idealize.ShloMosaic.sem_eq_zero_of_no_sems (by decide) r.2⟩)
    (Cert.ReferenceOutIdeal.Value.run m ρ)

/-- So does that of the gated projection. -/
theorem frame_Glu : Cert.quiescent_ReferenceGluIdeal := fun m ρ _ =>
  (θ_run Cert.ReferenceGluIdeal.defs _ _).mono (fun r h => ⟨fun c => (h c).2,
      Idealize.ShloMosaic.sem_eq_zero_of_no_sems (by decide) r.2⟩)
    (Cert.ReferenceGluIdeal.Value.run m ρ)

/-- So does that of the experts' first products. -/
theorem frame_Up : Cert.quiescent_ReferenceUpIdeal := fun m ρ _ =>
  (θ_run Cert.ReferenceUpIdeal.defs _ _).mono (fun r h => ⟨fun c => (h c).2,
      Idealize.ShloMosaic.sem_eq_zero_of_no_sems (by decide) r.2⟩)
    (Cert.ReferenceUpIdeal.Value.run m ρ)

/-- So does that of the experts' first products from the tokens on. -/
theorem frame_Route : Cert.quiescent_ReferenceRouteIdeal := fun m ρ _ =>
  (θ_run Cert.ReferenceRouteIdeal.defs _ _).mono (fun r h => ⟨fun c => (h c).2,
      Idealize.ShloMosaic.sem_eq_zero_of_no_sems (by decide) r.2⟩)
    (Cert.ReferenceRouteIdeal.Value.run m ρ)

/-- So does that of the experts' second products. -/
theorem frame_Down : Cert.quiescent_ReferenceDownIdeal := fun m ρ _ =>
  (θ_run Cert.ReferenceDownIdeal.defs _ _).mono (fun r h => ⟨fun c => (h c).2,
      Idealize.ShloMosaic.sem_eq_zero_of_no_sems (by decide) r.2⟩)
    (Cert.ReferenceDownIdeal.Value.run m ρ)

/-- So does that of the S5's first products. -/
theorem frame_Drive : Cert.quiescent_ReferenceDriveIdeal := fun m ρ _ =>
  (θ_run Cert.ReferenceDriveIdeal.defs _ _).mono (fun r h => ⟨fun c => (h c).2,
      Idealize.ShloMosaic.sem_eq_zero_of_no_sems (by decide) r.2⟩)
    (Cert.ReferenceDriveIdeal.Value.run m ρ)

/-- So does that of the S5's last products. -/
theorem frame_Read : Cert.quiescent_ReferenceReadIdeal := fun m ρ _ =>
  (θ_run Cert.ReferenceReadIdeal.defs _ _).mono (fun r h => ⟨fun c => (h c).2,
      Idealize.ShloMosaic.sem_eq_zero_of_no_sems (by decide) r.2⟩)
    (Cert.ReferenceReadIdeal.Value.run m ρ)

/-- Everything claimed. -/
theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelGates.Gen.facts, Cert.KernelGatesIdeal.Gen.facts, Cert.ReferenceGatesIdeal.Gen.facts,
    Cert.KernelOut.Gen.facts, Cert.KernelOutIdeal.Gen.facts, Cert.ReferenceOutIdeal.Gen.facts,
    Cert.KernelGlu.Gen.facts, Cert.KernelGluIdeal.Gen.facts, Cert.ReferenceGluIdeal.Gen.facts,
    Cert.KernelUp.Gen.facts, Cert.KernelUpIdeal.Gen.facts, Cert.ReferenceUpIdeal.Gen.facts,
    Cert.KernelRoute.Gen.facts, Cert.KernelRouteIdeal.Gen.facts, Cert.ReferenceRouteIdeal.Gen.facts,
    Cert.KernelDown.Gen.facts, Cert.KernelDownIdeal.Gen.facts, Cert.ReferenceDownIdeal.Gen.facts,
    Cert.KernelDrive.Gen.facts, Cert.KernelDriveIdeal.Gen.facts, Cert.ReferenceDriveIdeal.Gen.facts,
    Cert.KernelRead.Gen.facts, Cert.KernelReadIdeal.Gen.facts, Cert.ReferenceReadIdeal.Gen.facts,
    Delta.finiteFacts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.KernelIn.Gen.frame m ρ, fun m ρ _ => Cert.KernelInIdeal.Gen.frame m ρ, frame_In,
    fun m ρ _ => Cert.KernelGates.Gen.frame m ρ, fun m ρ _ => Cert.KernelGatesIdeal.Gen.frame m ρ, frame_Gates,
    fun m ρ _ => Cert.KernelOut.Gen.frame m ρ, fun m ρ _ => Cert.KernelOutIdeal.Gen.frame m ρ, frame_Out,
    fun m ρ _ => Cert.KernelGlu.Gen.frame m ρ, fun m ρ _ => Cert.KernelGluIdeal.Gen.frame m ρ, frame_Glu,
    fun m ρ _ => Cert.KernelUp.Gen.frame m ρ, fun m ρ _ => Cert.KernelUpIdeal.Gen.frame m ρ, frame_Up,
    fun m ρ _ => Cert.KernelRoute.Gen.frame m ρ, fun m ρ _ => Cert.KernelRouteIdeal.Gen.frame m ρ, frame_Route,
    fun m ρ _ => Cert.KernelDown.Gen.frame m ρ, fun m ρ _ => Cert.KernelDownIdeal.Gen.frame m ρ, frame_Down,
    fun m ρ _ => Cert.KernelDrive.Gen.frame m ρ, fun m ρ _ => Cert.KernelDriveIdeal.Gen.frame m ρ, frame_Drive,
    fun m ρ _ => Cert.KernelRead.Gen.frame m ρ, fun m ρ _ => Cert.KernelReadIdeal.Gen.frame m ρ, frame_Read,
    IdealRules.named_const.statement Cert.KernelIdeal.κ "mask" .f32 0xF149F2CA#32 ⊥ rfl,
    Delta.algebraic,
    trivial, ProductIn.algebraic,
    trivial, ProductGates.algebraic,
    trivial, ProductOut.algebraic,
    trivial, ProductGlu.algebraic,
    trivial, ProductUp.algebraic,
    trivial, ProductRoute.algebraic,
    trivial, ProductDown.algebraic,
    trivial, StatesDrive.algebraic,
    trivial, StatesRead.algebraic⟩

end Cert.Proof

end
